-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_qk [hPre_finite_qk : Cert.Pre_finite_qk.Facts] (m : (ℓ : Loc Cert.MlaIdeal.nD Cert.MlaIdeal.τ Cert.MlaIdeal.sig) → Buf (Elt Ideal) ℓ) : Prop :=
  ∀ c : Dev Cert.MlaIdeal.nD,
    (Cert.Pre_finite_qk.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_qk [hPre_finite_qk : Cert.Pre_finite_qk.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_qk.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_TailOdd (m : (ℓ : Loc Cert.TailOdd.nD Cert.TailOdd.τ Cert.TailOdd.sig) → Buf (Elt Bits) ℓ) : Prop :=
  True

def Pre_TailOddIdeal (m : (ℓ : Loc Cert.TailOddIdeal.nD Cert.TailOddIdeal.τ Cert.TailOddIdeal.sig) → Buf (Elt Ideal) ℓ) : Prop :=
  True

def Pre_TailOddRefIdeal (m : (ℓ : Loc Cert.TailOddRefIdeal.nD Cert.TailOddRefIdeal.τ Cert.TailOddRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_qk [hMlaIdeal : Cert.MlaIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_qk m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_qk [hMlaRefIdeal : Cert.MlaRefIdeal.Facts] [hPre_finite_qk : Cert.Pre_finite_qk.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_qk m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14)
      ∧ r.2.mem ((c.tc : Thread Cert.TailRefIdeal.nD Cert.TailRefIdeal.τ).loc Cert.TailRefIdeal.main_arg15) = m ((c.tc : Thread Cert.TailRefIdeal.nD Cert.TailRefIdeal.τ).loc Cert.TailRefIdeal.main_arg15)
      ∧ r.2.mem ((c.tc : Thread Cert.TailRefIdeal.nD Cert.TailRefIdeal.τ).loc Cert.TailRefIdeal.main_arg16) = m ((c.tc : Thread Cert.TailRefIdeal.nD Cert.TailRefIdeal.τ).loc Cert.TailRefIdeal.main_arg16))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3))
      ∧ r.2.sem = fun _ => 0)

def quiescent_TailOdd [hTailOdd : Cert.TailOdd.Facts] : Prop :=
  ∀ (m : (ℓ : Loc Cert.TailOdd.nD Cert.TailOdd.τ Cert.TailOdd.sig) → Buf (Elt Bits) ℓ) (g : Dev Cert.TailOdd.nD → PrngReg), Pre_TailOdd m →
    θ_run (Cert.TailOdd.defs (F := Bits)) (onTc (τ := Cert.TailOdd.τ) (Cert.TailOdd.main (F := Bits))) ⟨m, fun _ => 0, g⟩ (fun r => (∀ c : Dev Cert.TailOdd.nD,
      r.2.mem ((c.tc : Thread Cert.TailOdd.nD Cert.TailOdd.τ).loc Cert.TailOdd.main_arg0) = m ((c.tc : Thread Cert.TailOdd.nD Cert.TailOdd.τ).loc Cert.TailOdd.main_arg0)
      ∧ r.2.mem ((c.tc : Thread Cert.TailOdd.nD Cert.TailOdd.τ).loc Cert.TailOdd.main_arg1) = m ((c.tc : Thread Cert.TailOdd.nD Cert.TailOdd.τ).loc Cert.TailOdd.main_arg1)
      ∧ r.2.mem ((c.tc : Thread Cert.TailOdd.nD Cert.TailOdd.τ).loc Cert.TailOdd.main_arg2) = m ((c.tc : Thread Cert.TailOdd.nD Cert.TailOdd.τ).loc Cert.TailOdd.main_arg2)
      ∧ r.2.mem ((c.tc : Thread Cert.TailOdd.nD Cert.TailOdd.τ).loc Cert.TailOdd.main_arg3) = m ((c.tc : Thread Cert.TailOdd.nD Cert.TailOdd.τ).loc Cert.TailOdd.main_arg3)
      ∧ r.2.mem ((c.tc : Thread Cert.TailOdd.nD Cert.TailOdd.τ).loc Cert.TailOdd.main_arg4) = m ((c.tc : Thread Cert.TailOdd.nD Cert.TailOdd.τ).loc Cert.TailOdd.main_arg4)
      ∧ r.2.mem ((c.tc : Thread Cert.TailOdd.nD Cert.TailOdd.τ).loc Cert.TailOdd.main_arg5) = m ((c.tc : Thread Cert.TailOdd.nD Cert.TailOdd.τ).loc Cert.TailOdd.main_arg5)
      ∧ r.2.mem ((c.tc : Thread Cert.TailOdd.nD Cert.TailOdd.τ).loc Cert.TailOdd.main_arg6) = m ((c.tc : Thread Cert.TailOdd.nD Cert.TailOdd.τ).loc Cert.TailOdd.main_arg6)
      ∧ r.2.mem ((c.tc : Thread Cert.TailOdd.nD Cert.TailOdd.τ).loc Cert.TailOdd.main_arg7) = m ((c.tc : Thread Cert.TailOdd.nD Cert.TailOdd.τ).loc Cert.TailOdd.main_arg7)
      ∧ r.2.mem ((c.tc : Thread Cert.TailOdd.nD Cert.TailOdd.τ).loc Cert.TailOdd.main_arg8) = m ((c.tc : Thread Cert.TailOdd.nD Cert.TailOdd.τ).loc Cert.TailOdd.main_arg8)
      ∧ r.2.mem ((c.tc : Thread Cert.TailOdd.nD Cert.TailOdd.τ).loc Cert.TailOdd.main_arg9) = m ((c.tc : Thread Cert.TailOdd.nD Cert.TailOdd.τ).loc Cert.TailOdd.main_arg9)
      ∧ r.2.mem ((c.tc : Thread Cert.TailOdd.nD Cert.TailOdd.τ).loc Cert.TailOdd.main_arg10) = m ((c.tc : Thread Cert.TailOdd.nD Cert.TailOdd.τ).loc Cert.TailOdd.main_arg10)
      ∧ r.2.mem ((c.tc : Thread Cert.TailOdd.nD Cert.TailOdd.τ).loc Cert.TailOdd.main_arg11) = m ((c.tc : Thread Cert.TailOdd.nD Cert.TailOdd.τ).loc Cert.TailOdd.main_arg11)
      ∧ r.2.mem ((c.tc : Thread Cert.TailOdd.nD Cert.TailOdd.τ).loc Cert.TailOdd.main_arg12) = m ((c.tc : Thread Cert.TailOdd.nD Cert.TailOdd.τ).loc Cert.TailOdd.main_arg12)
      ∧ r.2.mem ((c.tc : Thread Cert.TailOdd.nD Cert.TailOdd.τ).loc Cert.TailOdd.main_arg13) = m ((c.tc : Thread Cert.TailOdd.nD Cert.TailOdd.τ).loc Cert.TailOdd.main_arg13)
      ∧ r.2.mem ((c.tc : Thread Cert.TailOdd.nD Cert.TailOdd.τ).loc Cert.TailOdd.main_arg14) = m ((c.tc : Thread Cert.TailOdd.nD Cert.TailOdd.τ).loc Cert.TailOdd.main_arg14)
      ∧ r.2.mem ((c.tc : Thread Cert.TailOdd.nD Cert.TailOdd.τ).loc Cert.TailOdd.main_arg15) = m ((c.tc : Thread Cert.TailOdd.nD Cert.TailOdd.τ).loc Cert.TailOdd.main_arg15))
      ∧ r.2.sem = fun _ => 0)

def quiescent_TailOddIdeal [hTailOddIdeal : Cert.TailOddIdeal.Facts] : Prop :=
  ∀ (m : (ℓ : Loc Cert.TailOddIdeal.nD Cert.TailOddIdeal.τ Cert.TailOddIdeal.sig) → Buf (Elt Ideal) ℓ) (g : Dev Cert.TailOddIdeal.nD → PrngReg), Pre_TailOddIdeal m →
    θ_run (Cert.TailOddIdeal.defs (F := Ideal)) (onTc (τ := Cert.TailOddIdeal.τ) (Cert.TailOddIdeal.main (F := Ideal))) ⟨m, fun _ => 0, g⟩ (fun r => (∀ c : Dev Cert.TailOddIdeal.nD,
      r.2.mem ((c.tc : Thread Cert.TailOddIdeal.nD Cert.TailOddIdeal.τ).loc Cert.TailOddIdeal.main_arg0) = m ((c.tc : Thread Cert.TailOddIdeal.nD Cert.TailOddIdeal.τ).loc Cert.TailOddIdeal.main_arg0)
      ∧ r.2.mem ((c.tc : Thread Cert.TailOddIdeal.nD Cert.TailOddIdeal.τ).loc Cert.TailOddIdeal.main_arg1) = m ((c.tc : Thread Cert.TailOddIdeal.nD Cert.TailOddIdeal.τ).loc Cert.TailOddIdeal.main_arg1)
      ∧ r.2.mem ((c.tc : Thread Cert.TailOddIdeal.nD Cert.TailOddIdeal.τ).loc Cert.TailOddIdeal.main_arg2) = m ((c.tc : Thread Cert.TailOddIdeal.nD Cert.TailOddIdeal.τ).loc Cert.TailOddIdeal.main_arg2)
      ∧ r.2.mem ((c.tc : Thread Cert.TailOddIdeal.nD Cert.TailOddIdeal.τ).loc Cert.TailOddIdeal.main_arg3) = m ((c.tc : Thread Cert.TailOddIdeal.nD Cert.TailOddIdeal.τ).loc Cert.TailOddIdeal.main_arg3)
      ∧ r.2.mem ((c.tc : Thread Cert.TailOddIdeal.nD Cert.TailOddIdeal.τ).loc Cert.TailOddIdeal.main_arg4) = m ((c.tc : Thread Cert.TailOddIdeal.nD Cert.TailOddIdeal.τ).loc Cert.TailOddIdeal.main_arg4)
      ∧ r.2.mem ((c.tc : Thread Cert.TailOddIdeal.nD Cert.TailOddIdeal.τ).loc Cert.TailOddIdeal.main_arg5) = m ((c.tc : Thread Cert.TailOddIdeal.nD Cert.TailOddIdeal.τ).loc Cert.TailOddIdeal.main_arg5)
      ∧ r.2.mem ((c.tc : Thread Cert.TailOddIdeal.nD Cert.TailOddIdeal.τ).loc Cert.TailOddIdeal.main_arg6) = m ((c.tc : Thread Cert.TailOddIdeal.nD Cert.TailOddIdeal.τ).loc Cert.TailOddIdeal.main_arg6)
      ∧ r.2.mem ((c.tc : Thread Cert.TailOddIdeal.nD Cert.TailOddIdeal.τ).loc Cert.TailOddIdeal.main_arg7) = m ((c.tc : Thread Cert.TailOddIdeal.nD Cert.TailOddIdeal.τ).loc Cert.TailOddIdeal.main_arg7)
      ∧ r.2.mem ((c.tc : Thread Cert.TailOddIdeal.nD Cert.TailOddIdeal.τ).loc Cert.TailOddIdeal.main_arg8) = m ((c.tc : Thread Cert.TailOddIdeal.nD Cert.TailOddIdeal.τ).loc Cert.TailOddIdeal.main_arg8)
      ∧ r.2.mem ((c.tc : Thread Cert.TailOddIdeal.nD Cert.TailOddIdeal.τ).loc Cert.TailOddIdeal.main_arg9) = m ((c.tc : Thread Cert.TailOddIdeal.nD Cert.TailOddIdeal.τ).loc Cert.TailOddIdeal.main_arg9)
      ∧ r.2.mem ((c.tc : Thread Cert.TailOddIdeal.nD Cert.TailOddIdeal.τ).loc Cert.TailOddIdeal.main_arg10) = m ((c.tc : Thread Cert.TailOddIdeal.nD Cert.TailOddIdeal.τ).loc Cert.TailOddIdeal.main_arg10)
      ∧ r.2.mem ((c.tc : Thread Cert.TailOddIdeal.nD Cert.TailOddIdeal.τ).loc Cert.TailOddIdeal.main_arg11) = m ((c.tc : Thread Cert.TailOddIdeal.nD Cert.TailOddIdeal.τ).loc Cert.TailOddIdeal.main_arg11)
      ∧ r.2.mem ((c.tc : Thread Cert.TailOddIdeal.nD Cert.TailOddIdeal.τ).loc Cert.TailOddIdeal.main_arg12) = m ((c.tc : Thread Cert.TailOddIdeal.nD Cert.TailOddIdeal.τ).loc Cert.TailOddIdeal.main_arg12)
      ∧ r.2.mem ((c.tc : Thread Cert.TailOddIdeal.nD Cert.TailOddIdeal.τ).loc Cert.TailOddIdeal.main_arg13) = m ((c.tc : Thread Cert.TailOddIdeal.nD Cert.TailOddIdeal.τ).loc Cert.TailOddIdeal.main_arg13)
      ∧ r.2.mem ((c.tc : Thread Cert.TailOddIdeal.nD Cert.TailOddIdeal.τ).loc Cert.TailOddIdeal.main_arg14) = m ((c.tc : Thread Cert.TailOddIdeal.nD Cert.TailOddIdeal.τ).loc Cert.TailOddIdeal.main_arg14)
      ∧ r.2.mem ((c.tc : Thread Cert.TailOddIdeal.nD Cert.TailOddIdeal.τ).loc Cert.TailOddIdeal.main_arg15) = m ((c.tc : Thread Cert.TailOddIdeal.nD Cert.TailOddIdeal.τ).loc Cert.TailOddIdeal.main_arg15))
      ∧ r.2.sem = fun _ => 0)

def quiescent_TailOddRefIdeal [hTailOddRefIdeal : Cert.TailOddRefIdeal.Facts] : Prop :=
  ∀ (m : (ℓ : Loc Cert.TailOddRefIdeal.nD Cert.TailOddRefIdeal.τ Cert.TailOddRefIdeal.sig) → Buf (Elt Ideal) ℓ) (g : Dev Cert.TailOddRefIdeal.nD → PrngReg), Pre_TailOddRefIdeal m →
    θ_run (Cert.TailOddRefIdeal.defs (F := Ideal)) (onTc (τ := Cert.TailOddRefIdeal.τ) (Cert.TailOddRefIdeal.main (F := Ideal))) ⟨m, fun _ => 0, g⟩ (fun r => (∀ c : Dev Cert.TailOddRefIdeal.nD,
      r.2.mem ((c.tc : Thread Cert.TailOddRefIdeal.nD Cert.TailOddRefIdeal.τ).loc Cert.TailOddRefIdeal.main_arg0) = m ((c.tc : Thread Cert.TailOddRefIdeal.nD Cert.TailOddRefIdeal.τ).loc Cert.TailOddRefIdeal.main_arg0)
      ∧ r.2.mem ((c.tc : Thread Cert.TailOddRefIdeal.nD Cert.TailOddRefIdeal.τ).loc Cert.TailOddRefIdeal.main_arg1) = m ((c.tc : Thread Cert.TailOddRefIdeal.nD Cert.TailOddRefIdeal.τ).loc Cert.TailOddRefIdeal.main_arg1)
      ∧ r.2.mem ((c.tc : Thread Cert.TailOddRefIdeal.nD Cert.TailOddRefIdeal.τ).loc Cert.TailOddRefIdeal.main_arg2) = m ((c.tc : Thread Cert.TailOddRefIdeal.nD Cert.TailOddRefIdeal.τ).loc Cert.TailOddRefIdeal.main_arg2)
      ∧ r.2.mem ((c.tc : Thread Cert.TailOddRefIdeal.nD Cert.TailOddRefIdeal.τ).loc Cert.TailOddRefIdeal.main_arg3) = m ((c.tc : Thread Cert.TailOddRefIdeal.nD Cert.TailOddRefIdeal.τ).loc Cert.TailOddRefIdeal.main_arg3)
      ∧ r.2.mem ((c.tc : Thread Cert.TailOddRefIdeal.nD Cert.TailOddRefIdeal.τ).loc Cert.TailOddRefIdeal.main_arg4) = m ((c.tc : Thread Cert.TailOddRefIdeal.nD Cert.TailOddRefIdeal.τ).loc Cert.TailOddRefIdeal.main_arg4)
      ∧ r.2.mem ((c.tc : Thread Cert.TailOddRefIdeal.nD Cert.TailOddRefIdeal.τ).loc Cert.TailOddRefIdeal.main_arg5) = m ((c.tc : Thread Cert.TailOddRefIdeal.nD Cert.TailOddRefIdeal.τ).loc Cert.TailOddRefIdeal.main_arg5)
      ∧ r.2.mem ((c.tc : Thread Cert.TailOddRefIdeal.nD Cert.TailOddRefIdeal.τ).loc Cert.TailOddRefIdeal.main_arg6) = m ((c.tc : Thread Cert.TailOddRefIdeal.nD Cert.TailOddRefIdeal.τ).loc Cert.TailOddRefIdeal.main_arg6)
      ∧ r.2.mem ((c.tc : Thread Cert.TailOddRefIdeal.nD Cert.TailOddRefIdeal.τ).loc Cert.TailOddRefIdeal.main_arg7) = m ((c.tc : Thread Cert.TailOddRefIdeal.nD Cert.TailOddRefIdeal.τ).loc Cert.TailOddRefIdeal.main_arg7)
      ∧ r.2.mem ((c.tc : Thread Cert.TailOddRefIdeal.nD Cert.TailOddRefIdeal.τ).loc Cert.TailOddRefIdeal.main_arg8) = m ((c.tc : Thread Cert.TailOddRefIdeal.nD Cert.TailOddRefIdeal.τ).loc Cert.TailOddRefIdeal.main_arg8)
      ∧ r.2.mem ((c.tc : Thread Cert.TailOddRefIdeal.nD Cert.TailOddRefIdeal.τ).loc Cert.TailOddRefIdeal.main_arg9) = m ((c.tc : Thread Cert.TailOddRefIdeal.nD Cert.TailOddRefIdeal.τ).loc Cert.TailOddRefIdeal.main_arg9)
      ∧ r.2.mem ((c.tc : Thread Cert.TailOddRefIdeal.nD Cert.TailOddRefIdeal.τ).loc Cert.TailOddRefIdeal.main_arg10) = m ((c.tc : Thread Cert.TailOddRefIdeal.nD Cert.TailOddRefIdeal.τ).loc Cert.TailOddRefIdeal.main_arg10)
      ∧ r.2.mem ((c.tc : Thread Cert.TailOddRefIdeal.nD Cert.TailOddRefIdeal.τ).loc Cert.TailOddRefIdeal.main_arg11) = m ((c.tc : Thread Cert.TailOddRefIdeal.nD Cert.TailOddRefIdeal.τ).loc Cert.TailOddRefIdeal.main_arg11)
      ∧ r.2.mem ((c.tc : Thread Cert.TailOddRefIdeal.nD Cert.TailOddRefIdeal.τ).loc Cert.TailOddRefIdeal.main_arg12) = m ((c.tc : Thread Cert.TailOddRefIdeal.nD Cert.TailOddRefIdeal.τ).loc Cert.TailOddRefIdeal.main_arg12)
      ∧ r.2.mem ((c.tc : Thread Cert.TailOddRefIdeal.nD Cert.TailOddRefIdeal.τ).loc Cert.TailOddRefIdeal.main_arg13) = m ((c.tc : Thread Cert.TailOddRefIdeal.nD Cert.TailOddRefIdeal.τ).loc Cert.TailOddRefIdeal.main_arg13)
      ∧ r.2.mem ((c.tc : Thread Cert.TailOddRefIdeal.nD Cert.TailOddRefIdeal.τ).loc Cert.TailOddRefIdeal.main_arg14) = m ((c.tc : Thread Cert.TailOddRefIdeal.nD Cert.TailOddRefIdeal.τ).loc Cert.TailOddRefIdeal.main_arg14)
      ∧ r.2.mem ((c.tc : Thread Cert.TailOddRefIdeal.nD Cert.TailOddRefIdeal.τ).loc Cert.TailOddRefIdeal.main_arg15) = m ((c.tc : Thread Cert.TailOddRefIdeal.nD Cert.TailOddRefIdeal.τ).loc Cert.TailOddRefIdeal.main_arg15))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def preserves_Mla_MlaIdeal : Prop :=
  IdealRules.named_const.Statement Cert.MlaIdeal.κ "mask" .f32 0xF149F2CA#32 ⊥

def algebraic_MlaIdeal_MlaRefIdeal_pre_finite_qk [hMlaIdeal : Cert.MlaIdeal.Facts] [hMlaRefIdeal : Cert.MlaRefIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_qk m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v10)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v10) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v31) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v0_0)) (v1 : (c : Dev Cert.ModIdeal.nD) → Buf (Elt Ideal) ((c.tc : Thread Cert.ModIdeal.nD Cert.ModIdeal.τ).loc Cert.ModIdeal.main_v0_1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0_0) = v0 c
          ∧ r.2.mem ((c.tc : Thread Cert.ModIdeal.nD Cert.ModIdeal.τ).loc Cert.ModIdeal.main_v0_1) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v13) = v0 c
          ∧ r.2.mem ((c.tc : Thread Cert.ModRefIdeal.nD Cert.ModRefIdeal.τ).loc Cert.ModRefIdeal.main_v14) = v1 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)
      ∧ m' ((c.tc : Thread Cert.TailRefIdeal.nD Cert.TailRefIdeal.τ).loc Cert.TailRefIdeal.main_arg15) = m ((c.tc : Thread Cert.TailIdeal.nD Cert.TailIdeal.τ).loc Cert.TailIdeal.main_arg15)
      ∧ m' ((c.tc : Thread Cert.TailRefIdeal.nD Cert.TailRefIdeal.τ).loc Cert.TailRefIdeal.main_arg16) = m ((c.tc : Thread Cert.TailIdeal.nD Cert.TailIdeal.τ).loc Cert.TailIdeal.main_arg16)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v111) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14)
          ∧ r.2.mem ((c.tc : Thread Cert.TailRefIdeal.nD Cert.TailRefIdeal.τ).loc Cert.TailRefIdeal.main_arg15) = m' ((c.tc : Thread Cert.TailRefIdeal.nD Cert.TailRefIdeal.τ).loc Cert.TailRefIdeal.main_arg15)
          ∧ r.2.mem ((c.tc : Thread Cert.TailRefIdeal.nD Cert.TailRefIdeal.τ).loc Cert.TailRefIdeal.main_arg16) = m' ((c.tc : Thread Cert.TailRefIdeal.nD Cert.TailRefIdeal.τ).loc Cert.TailRefIdeal.main_arg16))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)) →
    ∃ (v0 : (c : Dev Cert.OddIdeal.nD) → Buf (Elt Ideal) ((c.tc : Thread Cert.OddIdeal.nD Cert.OddIdeal.τ).loc Cert.OddIdeal.main_v0)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v0) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v10) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3))

def preserves_TailOdd_TailOddIdeal : Prop :=
  True

def algebraic_TailOddIdeal_TailOddRefIdeal [hTailOddIdeal : Cert.TailOddIdeal.Facts] [hTailOddRefIdeal : Cert.TailOddRefIdeal.Facts] : Prop :=
  ∀ (m : (ℓ : Loc Cert.TailOddIdeal.nD Cert.TailOddIdeal.τ Cert.TailOddIdeal.sig) → Buf (Elt Ideal) ℓ) (g : Dev Cert.TailOddIdeal.nD → PrngReg)
    (m' : (ℓ : Loc Cert.TailOddRefIdeal.nD Cert.TailOddRefIdeal.τ Cert.TailOddRefIdeal.sig) → Buf (Elt Ideal) ℓ) (g' : Dev Cert.TailOddRefIdeal.nD → PrngReg), Pre_TailOddIdeal m →
    (∀ c : Dev Cert.TailOddIdeal.nD,
      m' ((c.tc : Thread Cert.TailOddRefIdeal.nD Cert.TailOddRefIdeal.τ).loc Cert.TailOddRefIdeal.main_arg0) = m ((c.tc : Thread Cert.TailOddIdeal.nD Cert.TailOddIdeal.τ).loc Cert.TailOddIdeal.main_arg0)
      ∧ m' ((c.tc : Thread Cert.TailOddRefIdeal.nD Cert.TailOddRefIdeal.τ).loc Cert.TailOddRefIdeal.main_arg1) = m ((c.tc : Thread Cert.TailOddIdeal.nD Cert.TailOddIdeal.τ).loc Cert.TailOddIdeal.main_arg1)
      ∧ m' ((c.tc : Thread Cert.TailOddRefIdeal.nD Cert.TailOddRefIdeal.τ).loc Cert.TailOddRefIdeal.main_arg2) = m ((c.tc : Thread Cert.TailOddIdeal.nD Cert.TailOddIdeal.τ).loc Cert.TailOddIdeal.main_arg2)
      ∧ m' ((c.tc : Thread Cert.TailOddRefIdeal.nD Cert.TailOddRefIdeal.τ).loc Cert.TailOddRefIdeal.main_arg3) = m ((c.tc : Thread Cert.TailOddIdeal.nD Cert.TailOddIdeal.τ).loc Cert.TailOddIdeal.main_arg3)
      ∧ m' ((c.tc : Thread Cert.TailOddRefIdeal.nD Cert.TailOddRefIdeal.τ).loc Cert.TailOddRefIdeal.main_arg4) = m ((c.tc : Thread Cert.TailOddIdeal.nD Cert.TailOddIdeal.τ).loc Cert.TailOddIdeal.main_arg4)
      ∧ m' ((c.tc : Thread Cert.TailOddRefIdeal.nD Cert.TailOddRefIdeal.τ).loc Cert.TailOddRefIdeal.main_arg5) = m ((c.tc : Thread Cert.TailOddIdeal.nD Cert.TailOddIdeal.τ).loc Cert.TailOddIdeal.main_arg5)
      ∧ m' ((c.tc : Thread Cert.TailOddRefIdeal.nD Cert.TailOddRefIdeal.τ).loc Cert.TailOddRefIdeal.main_arg6) = m ((c.tc : Thread Cert.TailOddIdeal.nD Cert.TailOddIdeal.τ).loc Cert.TailOddIdeal.main_arg6)
      ∧ m' ((c.tc : Thread Cert.TailOddRefIdeal.nD Cert.TailOddRefIdeal.τ).loc Cert.TailOddRefIdeal.main_arg7) = m ((c.tc : Thread Cert.TailOddIdeal.nD Cert.TailOddIdeal.τ).loc Cert.TailOddIdeal.main_arg7)
      ∧ m' ((c.tc : Thread Cert.TailOddRefIdeal.nD Cert.TailOddRefIdeal.τ).loc Cert.TailOddRefIdeal.main_arg8) = m ((c.tc : Thread Cert.TailOddIdeal.nD Cert.TailOddIdeal.τ).loc Cert.TailOddIdeal.main_arg8)
      ∧ m' ((c.tc : Thread Cert.TailOddRefIdeal.nD Cert.TailOddRefIdeal.τ).loc Cert.TailOddRefIdeal.main_arg9) = m ((c.tc : Thread Cert.TailOddIdeal.nD Cert.TailOddIdeal.τ).loc Cert.TailOddIdeal.main_arg9)
      ∧ m' ((c.tc : Thread Cert.TailOddRefIdeal.nD Cert.TailOddRefIdeal.τ).loc Cert.TailOddRefIdeal.main_arg10) = m ((c.tc : Thread Cert.TailOddIdeal.nD Cert.TailOddIdeal.τ).loc Cert.TailOddIdeal.main_arg10)
      ∧ m' ((c.tc : Thread Cert.TailOddRefIdeal.nD Cert.TailOddRefIdeal.τ).loc Cert.TailOddRefIdeal.main_arg11) = m ((c.tc : Thread Cert.TailOddIdeal.nD Cert.TailOddIdeal.τ).loc Cert.TailOddIdeal.main_arg11)
      ∧ m' ((c.tc : Thread Cert.TailOddRefIdeal.nD Cert.TailOddRefIdeal.τ).loc Cert.TailOddRefIdeal.main_arg12) = m ((c.tc : Thread Cert.TailOddIdeal.nD Cert.TailOddIdeal.τ).loc Cert.TailOddIdeal.main_arg12)
      ∧ m' ((c.tc : Thread Cert.TailOddRefIdeal.nD Cert.TailOddRefIdeal.τ).loc Cert.TailOddRefIdeal.main_arg13) = m ((c.tc : Thread Cert.TailOddIdeal.nD Cert.TailOddIdeal.τ).loc Cert.TailOddIdeal.main_arg13)
      ∧ m' ((c.tc : Thread Cert.TailOddRefIdeal.nD Cert.TailOddRefIdeal.τ).loc Cert.TailOddRefIdeal.main_arg14) = m ((c.tc : Thread Cert.TailOddIdeal.nD Cert.TailOddIdeal.τ).loc Cert.TailOddIdeal.main_arg14)
      ∧ m' ((c.tc : Thread Cert.TailOddRefIdeal.nD Cert.TailOddRefIdeal.τ).loc Cert.TailOddRefIdeal.main_arg15) = m ((c.tc : Thread Cert.TailOddIdeal.nD Cert.TailOddIdeal.τ).loc Cert.TailOddIdeal.main_arg15)) →
    ∃ (v0 : (c : Dev Cert.TailOddIdeal.nD) → Buf (Elt Ideal) ((c.tc : Thread Cert.TailOddIdeal.nD Cert.TailOddIdeal.τ).loc Cert.TailOddIdeal.main_v0)),
      θ_run (Cert.TailOddIdeal.defs (F := Ideal)) (onTc (τ := Cert.TailOddIdeal.τ) (Cert.TailOddIdeal.main (F := Ideal))) ⟨m, fun _ => 0, g⟩ (fun r => ∀ c : Dev Cert.TailOddIdeal.nD,
          r.2.mem ((c.tc : Thread Cert.TailOddIdeal.nD Cert.TailOddIdeal.τ).loc Cert.TailOddIdeal.main_v0) = v0 c
          ∧ r.2.mem ((c.tc : Thread Cert.TailOddIdeal.nD Cert.TailOddIdeal.τ).loc Cert.TailOddIdeal.main_arg0) = m ((c.tc : Thread Cert.TailOddIdeal.nD Cert.TailOddIdeal.τ).loc Cert.TailOddIdeal.main_arg0)
          ∧ r.2.mem ((c.tc : Thread Cert.TailOddIdeal.nD Cert.TailOddIdeal.τ).loc Cert.TailOddIdeal.main_arg1) = m ((c.tc : Thread Cert.TailOddIdeal.nD Cert.TailOddIdeal.τ).loc Cert.TailOddIdeal.main_arg1)
          ∧ r.2.mem ((c.tc : Thread Cert.TailOddIdeal.nD Cert.TailOddIdeal.τ).loc Cert.TailOddIdeal.main_arg2) = m ((c.tc : Thread Cert.TailOddIdeal.nD Cert.TailOddIdeal.τ).loc Cert.TailOddIdeal.main_arg2)
          ∧ r.2.mem ((c.tc : Thread Cert.TailOddIdeal.nD Cert.TailOddIdeal.τ).loc Cert.TailOddIdeal.main_arg3) = m ((c.tc : Thread Cert.TailOddIdeal.nD Cert.TailOddIdeal.τ).loc Cert.TailOddIdeal.main_arg3)
          ∧ r.2.mem ((c.tc : Thread Cert.TailOddIdeal.nD Cert.TailOddIdeal.τ).loc Cert.TailOddIdeal.main_arg4) = m ((c.tc : Thread Cert.TailOddIdeal.nD Cert.TailOddIdeal.τ).loc Cert.TailOddIdeal.main_arg4)
          ∧ r.2.mem ((c.tc : Thread Cert.TailOddIdeal.nD Cert.TailOddIdeal.τ).loc Cert.TailOddIdeal.main_arg5) = m ((c.tc : Thread Cert.TailOddIdeal.nD Cert.TailOddIdeal.τ).loc Cert.TailOddIdeal.main_arg5)
          ∧ r.2.mem ((c.tc : Thread Cert.TailOddIdeal.nD Cert.TailOddIdeal.τ).loc Cert.TailOddIdeal.main_arg6) = m ((c.tc : Thread Cert.TailOddIdeal.nD Cert.TailOddIdeal.τ).loc Cert.TailOddIdeal.main_arg6)
          ∧ r.2.mem ((c.tc : Thread Cert.TailOddIdeal.nD Cert.TailOddIdeal.τ).loc Cert.TailOddIdeal.main_arg7) = m ((c.tc : Thread Cert.TailOddIdeal.nD Cert.TailOddIdeal.τ).loc Cert.TailOddIdeal.main_arg7)
          ∧ r.2.mem ((c.tc : Thread Cert.TailOddIdeal.nD Cert.TailOddIdeal.τ).loc Cert.TailOddIdeal.main_arg8) = m ((c.tc : Thread Cert.TailOddIdeal.nD Cert.TailOddIdeal.τ).loc Cert.TailOddIdeal.main_arg8)
          ∧ r.2.mem ((c.tc : Thread Cert.TailOddIdeal.nD Cert.TailOddIdeal.τ).loc Cert.TailOddIdeal.main_arg9) = m ((c.tc : Thread Cert.TailOddIdeal.nD Cert.TailOddIdeal.τ).loc Cert.TailOddIdeal.main_arg9)
          ∧ r.2.mem ((c.tc : Thread Cert.TailOddIdeal.nD Cert.TailOddIdeal.τ).loc Cert.TailOddIdeal.main_arg10) = m ((c.tc : Thread Cert.TailOddIdeal.nD Cert.TailOddIdeal.τ).loc Cert.TailOddIdeal.main_arg10)
          ∧ r.2.mem ((c.tc : Thread Cert.TailOddIdeal.nD Cert.TailOddIdeal.τ).loc Cert.TailOddIdeal.main_arg11) = m ((c.tc : Thread Cert.TailOddIdeal.nD Cert.TailOddIdeal.τ).loc Cert.TailOddIdeal.main_arg11)
          ∧ r.2.mem ((c.tc : Thread Cert.TailOddIdeal.nD Cert.TailOddIdeal.τ).loc Cert.TailOddIdeal.main_arg12) = m ((c.tc : Thread Cert.TailOddIdeal.nD Cert.TailOddIdeal.τ).loc Cert.TailOddIdeal.main_arg12)
          ∧ r.2.mem ((c.tc : Thread Cert.TailOddIdeal.nD Cert.TailOddIdeal.τ).loc Cert.TailOddIdeal.main_arg13) = m ((c.tc : Thread Cert.TailOddIdeal.nD Cert.TailOddIdeal.τ).loc Cert.TailOddIdeal.main_arg13)
          ∧ r.2.mem ((c.tc : Thread Cert.TailOddIdeal.nD Cert.TailOddIdeal.τ).loc Cert.TailOddIdeal.main_arg14) = m ((c.tc : Thread Cert.TailOddIdeal.nD Cert.TailOddIdeal.τ).loc Cert.TailOddIdeal.main_arg14)
          ∧ r.2.mem ((c.tc : Thread Cert.TailOddIdeal.nD Cert.TailOddIdeal.τ).loc Cert.TailOddIdeal.main_arg15) = m ((c.tc : Thread Cert.TailOddIdeal.nD Cert.TailOddIdeal.τ).loc Cert.TailOddIdeal.main_arg15))
      ∧ θ_run (Cert.TailOddRefIdeal.defs (F := Ideal)) (onTc (τ := Cert.TailOddRefIdeal.τ) (Cert.TailOddRefIdeal.main (F := Ideal))) ⟨m', fun _ => 0, g'⟩ (fun r => ∀ c : Dev Cert.TailOddRefIdeal.nD,
          r.2.mem ((c.tc : Thread Cert.TailOddRefIdeal.nD Cert.TailOddRefIdeal.τ).loc Cert.TailOddRefIdeal.main_v113) = v0 c
          ∧ r.2.mem ((c.tc : Thread Cert.TailOddRefIdeal.nD Cert.TailOddRefIdeal.τ).loc Cert.TailOddRefIdeal.main_arg0) = m' ((c.tc : Thread Cert.TailOddRefIdeal.nD Cert.TailOddRefIdeal.τ).loc Cert.TailOddRefIdeal.main_arg0)
          ∧ r.2.mem ((c.tc : Thread Cert.TailOddRefIdeal.nD Cert.TailOddRefIdeal.τ).loc Cert.TailOddRefIdeal.main_arg1) = m' ((c.tc : Thread Cert.TailOddRefIdeal.nD Cert.TailOddRefIdeal.τ).loc Cert.TailOddRefIdeal.main_arg1)
          ∧ r.2.mem ((c.tc : Thread Cert.TailOddRefIdeal.nD Cert.TailOddRefIdeal.τ).loc Cert.TailOddRefIdeal.main_arg2) = m' ((c.tc : Thread Cert.TailOddRefIdeal.nD Cert.TailOddRefIdeal.τ).loc Cert.TailOddRefIdeal.main_arg2)
          ∧ r.2.mem ((c.tc : Thread Cert.TailOddRefIdeal.nD Cert.TailOddRefIdeal.τ).loc Cert.TailOddRefIdeal.main_arg3) = m' ((c.tc : Thread Cert.TailOddRefIdeal.nD Cert.TailOddRefIdeal.τ).loc Cert.TailOddRefIdeal.main_arg3)
          ∧ r.2.mem ((c.tc : Thread Cert.TailOddRefIdeal.nD Cert.TailOddRefIdeal.τ).loc Cert.TailOddRefIdeal.main_arg4) = m' ((c.tc : Thread Cert.TailOddRefIdeal.nD Cert.TailOddRefIdeal.τ).loc Cert.TailOddRefIdeal.main_arg4)
          ∧ r.2.mem ((c.tc : Thread Cert.TailOddRefIdeal.nD Cert.TailOddRefIdeal.τ).loc Cert.TailOddRefIdeal.main_arg5) = m' ((c.tc : Thread Cert.TailOddRefIdeal.nD Cert.TailOddRefIdeal.τ).loc Cert.TailOddRefIdeal.main_arg5)
          ∧ r.2.mem ((c.tc : Thread Cert.TailOddRefIdeal.nD Cert.TailOddRefIdeal.τ).loc Cert.TailOddRefIdeal.main_arg6) = m' ((c.tc : Thread Cert.TailOddRefIdeal.nD Cert.TailOddRefIdeal.τ).loc Cert.TailOddRefIdeal.main_arg6)
          ∧ r.2.mem ((c.tc : Thread Cert.TailOddRefIdeal.nD Cert.TailOddRefIdeal.τ).loc Cert.TailOddRefIdeal.main_arg7) = m' ((c.tc : Thread Cert.TailOddRefIdeal.nD Cert.TailOddRefIdeal.τ).loc Cert.TailOddRefIdeal.main_arg7)
          ∧ r.2.mem ((c.tc : Thread Cert.TailOddRefIdeal.nD Cert.TailOddRefIdeal.τ).loc Cert.TailOddRefIdeal.main_arg8) = m' ((c.tc : Thread Cert.TailOddRefIdeal.nD Cert.TailOddRefIdeal.τ).loc Cert.TailOddRefIdeal.main_arg8)
          ∧ r.2.mem ((c.tc : Thread Cert.TailOddRefIdeal.nD Cert.TailOddRefIdeal.τ).loc Cert.TailOddRefIdeal.main_arg9) = m' ((c.tc : Thread Cert.TailOddRefIdeal.nD Cert.TailOddRefIdeal.τ).loc Cert.TailOddRefIdeal.main_arg9)
          ∧ r.2.mem ((c.tc : Thread Cert.TailOddRefIdeal.nD Cert.TailOddRefIdeal.τ).loc Cert.TailOddRefIdeal.main_arg10) = m' ((c.tc : Thread Cert.TailOddRefIdeal.nD Cert.TailOddRefIdeal.τ).loc Cert.TailOddRefIdeal.main_arg10)
          ∧ r.2.mem ((c.tc : Thread Cert.TailOddRefIdeal.nD Cert.TailOddRefIdeal.τ).loc Cert.TailOddRefIdeal.main_arg11) = m' ((c.tc : Thread Cert.TailOddRefIdeal.nD Cert.TailOddRefIdeal.τ).loc Cert.TailOddRefIdeal.main_arg11)
          ∧ r.2.mem ((c.tc : Thread Cert.TailOddRefIdeal.nD Cert.TailOddRefIdeal.τ).loc Cert.TailOddRefIdeal.main_arg12) = m' ((c.tc : Thread Cert.TailOddRefIdeal.nD Cert.TailOddRefIdeal.τ).loc Cert.TailOddRefIdeal.main_arg12)
          ∧ r.2.mem ((c.tc : Thread Cert.TailOddRefIdeal.nD Cert.TailOddRefIdeal.τ).loc Cert.TailOddRefIdeal.main_arg13) = m' ((c.tc : Thread Cert.TailOddRefIdeal.nD Cert.TailOddRefIdeal.τ).loc Cert.TailOddRefIdeal.main_arg13)
          ∧ r.2.mem ((c.tc : Thread Cert.TailOddRefIdeal.nD Cert.TailOddRefIdeal.τ).loc Cert.TailOddRefIdeal.main_arg14) = m' ((c.tc : Thread Cert.TailOddRefIdeal.nD Cert.TailOddRefIdeal.τ).loc Cert.TailOddRefIdeal.main_arg14)
          ∧ r.2.mem ((c.tc : Thread Cert.TailOddRefIdeal.nD Cert.TailOddRefIdeal.τ).loc Cert.TailOddRefIdeal.main_arg15) = m' ((c.tc : Thread Cert.TailOddRefIdeal.nD Cert.TailOddRefIdeal.τ).loc Cert.TailOddRefIdeal.main_arg15))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)) →
    ∃ (v0 : (c : Dev Cert.PrepIdeal.nD) → Buf (Elt Ideal) ((c.tc : Thread Cert.PrepIdeal.nD Cert.PrepIdeal.τ).loc Cert.PrepIdeal.main_v34_0)) (v1 : (c : Dev Cert.PrepIdeal.nD) → Buf (Elt Ideal) ((c.tc : Thread Cert.PrepIdeal.nD Cert.PrepIdeal.τ).loc Cert.PrepIdeal.main_v34_1)) (v2 : (c : Dev Cert.PrepIdeal.nD) → Buf (Elt Ideal) ((c.tc : Thread Cert.PrepIdeal.nD Cert.PrepIdeal.τ).loc Cert.PrepIdeal.main_v34_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v34_0) = v0 c
          ∧ r.2.mem ((c.tc : Thread Cert.PrepIdeal.nD Cert.PrepIdeal.τ).loc Cert.PrepIdeal.main_v34_1) = v1 c
          ∧ r.2.mem ((c.tc : Thread Cert.PrepIdeal.nD Cert.PrepIdeal.τ).loc Cert.PrepIdeal.main_v34_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v74) = v0 c
          ∧ r.2.mem ((c.tc : Thread Cert.PrepRefIdeal.nD Cert.PrepRefIdeal.τ).loc Cert.PrepRefIdeal.main_v76) = v1 c
          ∧ r.2.mem ((c.tc : Thread Cert.PrepRefIdeal.nD Cert.PrepRefIdeal.τ).loc Cert.PrepRefIdeal.main_v78) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7))

def Claim : Prop :=
  ∃ (hMla : Cert.Mla.Facts) (hMlaIdeal : Cert.MlaIdeal.Facts) (hMlaRefIdeal : Cert.MlaRefIdeal.Facts) (hMod : Cert.Mod.Facts) (hModIdeal : Cert.ModIdeal.Facts) (hModRefIdeal : Cert.ModRefIdeal.Facts) (hTail : Cert.Tail.Facts) (hTailIdeal : Cert.TailIdeal.Facts) (hTailRefIdeal : Cert.TailRefIdeal.Facts) (hOdd : Cert.Odd.Facts) (hOddIdeal : Cert.OddIdeal.Facts) (hOddRefIdeal : Cert.OddRefIdeal.Facts) (hTailOdd : Cert.TailOdd.Facts) (hTailOddIdeal : Cert.TailOddIdeal.Facts) (hTailOddRefIdeal : Cert.TailOddRefIdeal.Facts) (hPrep : Cert.Prep.Facts) (hPrepIdeal : Cert.PrepIdeal.Facts) (hPrepRefIdeal : Cert.PrepRefIdeal.Facts) (hPre_finite_qk : Cert.Pre_finite_qk.Facts),
    quiescent_Mla (hMla := hMla)
    ∧ quiescent_MlaIdeal (hMlaIdeal := hMlaIdeal)
    ∧ quiescent_MlaIdeal_pre_finite_qk (hMlaIdeal := hMlaIdeal) (hPre_finite_qk := hPre_finite_qk)
    ∧ quiescent_MlaRefIdeal (hMlaRefIdeal := hMlaRefIdeal)
    ∧ quiescent_MlaRefIdeal_pre_finite_qk (hMlaRefIdeal := hMlaRefIdeal) (hPre_finite_qk := hPre_finite_qk)
    ∧ quiescent_Mod (hMod := hMod)
    ∧ quiescent_ModIdeal (hModIdeal := hModIdeal)
    ∧ quiescent_ModRefIdeal (hModRefIdeal := hModRefIdeal)
    ∧ quiescent_Tail (hTail := hTail)
    ∧ quiescent_TailIdeal (hTailIdeal := hTailIdeal)
    ∧ quiescent_TailRefIdeal (hTailRefIdeal := hTailRefIdeal)
    ∧ quiescent_Odd (hOdd := hOdd)
    ∧ quiescent_OddIdeal (hOddIdeal := hOddIdeal)
    ∧ quiescent_OddRefIdeal (hOddRefIdeal := hOddRefIdeal)
    ∧ quiescent_TailOdd (hTailOdd := hTailOdd)
    ∧ quiescent_TailOddIdeal (hTailOddIdeal := hTailOddIdeal)
    ∧ quiescent_TailOddRefIdeal (hTailOddRefIdeal := hTailOddRefIdeal)
    ∧ quiescent_Prep (hPrep := hPrep)
    ∧ quiescent_PrepIdeal (hPrepIdeal := hPrepIdeal)
    ∧ quiescent_PrepRefIdeal (hPrepRefIdeal := hPrepRefIdeal)
    ∧ preserves_Mla_MlaIdeal
    ∧ algebraic_MlaIdeal_MlaRefIdeal_pre_finite_qk (hMlaIdeal := hMlaIdeal) (hMlaRefIdeal := hMlaRefIdeal) (hPre_finite_qk := hPre_finite_qk)
    ∧ preserves_Mod_ModIdeal
    ∧ algebraic_ModIdeal_ModRefIdeal (hModIdeal := hModIdeal) (hModRefIdeal := hModRefIdeal)
    ∧ preserves_Tail_TailIdeal
    ∧ algebraic_TailIdeal_TailRefIdeal (hTailIdeal := hTailIdeal) (hTailRefIdeal := hTailRefIdeal)
    ∧ preserves_Odd_OddIdeal
    ∧ algebraic_OddIdeal_OddRefIdeal (hOddIdeal := hOddIdeal) (hOddRefIdeal := hOddRefIdeal)
    ∧ preserves_TailOdd_TailOddIdeal
    ∧ algebraic_TailOddIdeal_TailOddRefIdeal (hTailOddIdeal := hTailOddIdeal) (hTailOddRefIdeal := hTailOddRefIdeal)
    ∧ preserves_Prep_PrepIdeal
    ∧ algebraic_PrepIdeal_PrepRefIdeal (hPrepIdeal := hPrepIdeal) (hPrepRefIdeal := hPrepRefIdeal)
-- ==== Pre_finite_qk.lean ====
abbrev S65536x1024 : Shape := ⟨2, ![65536, 1024]⟩
abbrev S65536x512 : Shape := ⟨2, ![65536, 512]⟩
abbrev S_ : Shape := ⟨0, ![]⟩

class Facts : Prop where
  bitsLt_bf16_f32 : FTy.bits .bf16 < FTy.bits .f32
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .bf16) (main_arg1 : FVec F S65536x1024 .bf16) (main_arg2 : FVec F S65536x512 .bf16) : IVec S_ 1 :=
  let main_v0 : FVec F S65536x1024 .f32 := (extf .f32 · bitsLt_bf16_f32) main_arg0
  let main_v1 : FVec F S65536x1024 .f32 := Host.absf main_v0
  let main_cst : FVec F S_ .f32 := constant S_ .f32 0x7F800000#32
  let main_v2 : FVec F S65536x1024 .f32 := broadcastInDim S65536x1024 ![] bcast_S_S65536x1024 main_cst
  let main_v3 : IVec S65536x1024 1 := cmpf .olt main_v1 main_v2
  let main_c : IVec S_ 1 := constantI S_ 1 1#1
  let main_v4 : IVec S_ 1 := (fun x v => Host.reduce IntOp.andi x v reducesTo_S65536x1024_S_d0_1 h_S_) main_v3 main_c
  let main_v5 : FVec F S65536x1024 .f32 := (extf .f32 · bitsLt_bf16_f32) main_arg1
  let main_v6 : FVec F S65536x1024 .f32 := Host.absf main_v5
  let main_cst_0 : FVec F S_ .f32 := constant S_ .f32 0x7F800000#32
  let main_v7 : FVec F S65536x1024 .f32 := broadcastInDim S65536x1024 ![] bcast_S_S65536x1024 main_cst_0
  let main_v8 : IVec S65536x1024 1 := cmpf .olt main_v6 main_v7
  let main_c_1 : IVec S_ 1 := constantI S_ 1 1#1
  let main_v9 : IVec S_ 1 := (fun x v => Host.reduce IntOp.andi x v reducesTo_S65536x1024_S_d0_1 h_S_) main_v8 main_c_1
  let main_v10 : IVec S_ 1 := andi main_v4 main_v9
  main_v10
-- ==== Mla.lean ====
abbrev S65536x1024 : Shape := ⟨2, ![65536, 1024]⟩
abbrev S65536x512 : Shape := ⟨2, ![65536, 512]⟩
abbrev S256x256 : Shape := ⟨2, ![256, 256]⟩
abbrev S_ : Shape := ⟨0, ![]⟩
abbrev S128x128 : Shape := ⟨2, ![128, 128]⟩
abbrev S2048x256 : Shape := ⟨2, ![2048, 256]⟩
abbrev S2048x128 : Shape := ⟨2, ![2048, 128]⟩
abbrev S160x2048 : Shape := ⟨2, ![160, 2048]⟩
abbrev S2x2048x512 : Shape := ⟨3, ![2, 2048, 512]⟩
abbrev S128x2048 : Shape := ⟨2, ![128, 2048]⟩
abbrev S16x2048 : Shape := ⟨2, ![16, 2048]⟩
abbrev S64x2048 : Shape := ⟨2, ![64, 2048]⟩
abbrev S256x128 : Shape := ⟨2, ![256, 128]⟩
abbrev S256x512 : Shape := ⟨2, ![256, 512]⟩
abbrev S1x2048x512 : Shape := ⟨3, ![1, 2048, 512]⟩
abbrev S2048x512 : Shape := ⟨2, ![2048, 512]⟩
abbrev S32x8x512 : Shape := ⟨3, ![32, 8, 512]⟩
abbrev S8x512 : Shape := ⟨2, ![8, 512]⟩
abbrev S512 : Shape := ⟨1, ![512]⟩
abbrev S1x512 : Shape := ⟨2, ![1, 512]⟩
abbrev S512x128 : Shape := ⟨2, ![512, 128]⟩
abbrev S512x256 : Shape := ⟨2, ![512, 256]⟩
abbrev S512x512 : Shape := ⟨2, ![512, 512]⟩
abbrev S64x8x512 : Shape := ⟨3, ![64, 8, 512]⟩
abbrev S80x256 : Shape := ⟨2, ![80, 256]⟩
abbrev S80x512 : Shape := ⟨2, ![80, 512]⟩
abbrev S64x512 : Shape := ⟨2, ![64, 512]⟩
abbrev S64x256 : Shape := ⟨2, ![64, 256]⟩
abbrev S128x256 : Shape := ⟨2, ![128, 256]⟩
abbrev S768x128 : Shape := ⟨2, ![768, 128]⟩
abbrev S768x256 : Shape := ⟨2, ![768, 256]⟩
abbrev S768x512 : Shape := ⟨2, ![768, 512]⟩
abbrev S96x8x512 : Shape := ⟨3, ![96, 8, 512]⟩
abbrev S1024x128 : Shape := ⟨2, ![1024, 128]⟩
abbrev S1024x256 : Shape := ⟨2, ![1024, 256]⟩
abbrev S1024x512 : Shape := ⟨2, ![1024, 512]⟩
abbrev S128x8x512 : Shape := ⟨3, ![128, 8, 512]⟩
abbrev S1280x128 : Shape := ⟨2, ![1280, 128]⟩
abbrev S1280x256 : Shape := ⟨2, ![1280, 256]⟩
abbrev S1280x512 : Shape := ⟨2, ![1280, 512]⟩
abbrev S160x8x512 : Shape := ⟨3, ![160, 8, 512]⟩
abbrev S1536x128 : Shape := ⟨2, ![1536, 128]⟩
abbrev S1536x256 : Shape := ⟨2, ![1536, 256]⟩
abbrev S1536x512 : Shape := ⟨2, ![1536, 512]⟩
abbrev S192x8x512 : Shape := ⟨3, ![192, 8, 512]⟩
abbrev S1792x128 : Shape := ⟨2, ![1792, 128]⟩
abbrev S1792x256 : Shape := ⟨2, ![1792, 256]⟩
abbrev S1792x512 : Shape := ⟨2, ![1792, 512]⟩
abbrev S224x8x512 : Shape := ⟨3, ![224, 8, 512]⟩
abbrev S256x8x512 : Shape := ⟨3, ![256, 8, 512]⟩

abbrev nBuf : Space → Nat
  | .hbm => 19
  | .vmem => 12
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x512, .bf16⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S_, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S128x128, .bf16⟩
  | .hbm, ⟨18, _⟩ => ⟨S65536x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x256, .f32⟩
  | .local _ .vmem, ⟨7, _⟩ => ⟨S128x128, .bf16⟩
  | .local _ .vmem, ⟨8, _⟩ => ⟨S2048x128, .bf16⟩
  | .local _ .vmem, ⟨9, _⟩ => ⟨S2048x128, .bf16⟩
  | .local _ .vmem, ⟨10, _⟩ => ⟨S160x2048, .bf16⟩
  | .local _ .vmem, ⟨11, _⟩ => ⟨S2x2048x512, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaIdeal.lean ====
variable {F : FTy → Type} [FloatOps F] [Named F]
def κ : String → Option EReal := fun
  | "mask" => some ⊥
  | _ => none
-- ==== MlaRefIdeal.lean ====
abbrev S65536x1024 : Shape := ⟨2, ![65536, 1024]⟩
abbrev S65536x512 : Shape := ⟨2, ![65536, 512]⟩
abbrev S32x2048x8x128 : Shape := ⟨4, ![32, 2048, 8, 128]⟩
abbrev S32x2048x8x64 : Shape := ⟨4, ![32, 2048, 8, 64]⟩
abbrev S32x8x2048x2048 : Shape := ⟨4, ![32, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩

abbrev nBuf : Space → Nat
  | .hbm => 43
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x512, .bf16⟩
  | .hbm, ⟨3, _⟩ => ⟨S65536x1024, .f32⟩
  | .hbm, ⟨4, _⟩ => ⟨S32x2048x8x128, .f32⟩
  | .hbm, ⟨5, _⟩ => ⟨S65536x1024, .f32⟩
  | .hbm, ⟨6, _⟩ => ⟨S32x2048x8x128, .f32⟩
  | .hbm, ⟨7, _⟩ => ⟨S65536x512, .f32⟩
  | .hbm, ⟨8, _⟩ => ⟨S32x2048x8x64, .f32⟩
  | .hbm, ⟨9, _⟩ => ⟨S32x8x2048x2048, .f32⟩
  | .hbm, ⟨10, _⟩ => ⟨S_, .f32⟩
  | .hbm, ⟨11, _⟩ => ⟨S_, .f32⟩
  | .hbm, ⟨12, _⟩ => ⟨S32x8x2048x2048, .f32⟩
  | .hbm, ⟨13, _⟩ => ⟨S32x8x2048x2048, .f32⟩
  | .hbm, ⟨14, _⟩ => ⟨S2048, .i32⟩
  | .hbm, ⟨15, _⟩ => ⟨S2048x1, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S32x8x2048x2048, .i1⟩
  | .hbm, ⟨23, _⟩ => ⟨S32x8x2048x2048, .f32⟩
  | .hbm, ⟨24, _⟩ => ⟨S32x8x2048x2048, .f32⟩
  | .hbm, ⟨25, _⟩ => ⟨S_, .f32⟩
  | .hbm, ⟨26, _⟩ => ⟨S32x8x2048, .f32⟩
  | .hbm, ⟨27, _⟩ => ⟨S_, .f32⟩
  | .hbm, ⟨28, _⟩ => ⟨S32x8x2048, .f32⟩
  | .hbm, ⟨29, _⟩ => ⟨S32x8x2048, .f32⟩
  | .hbm, ⟨30, _⟩ => ⟨S32x8x2048x1, .f32⟩
  | .hbm, ⟨31, _⟩ => ⟨S32x8x2048x2048, .f32⟩
  | .hbm, ⟨32, _⟩ => ⟨S32x8x2048x2048, .f32⟩
  | .hbm, ⟨33, _⟩ => ⟨S32x8x2048x2048, .f32⟩
  | .hbm, ⟨34, _⟩ => ⟨S_, .f32⟩
  | .hbm, ⟨35, _⟩ => ⟨S32x8x2048, .f32⟩
  | .hbm, ⟨36, _⟩ => ⟨S32x8x2048x1, .f32⟩
  | .hbm, ⟨37, _⟩ => ⟨S32x8x2048x2048, .f32⟩
  | .hbm, ⟨38, _⟩ => ⟨S32x8x2048x2048, .f32⟩
  | .hbm, ⟨39, _⟩ => ⟨S32x8x64x2048, .f32⟩
  | .hbm, ⟨40, _⟩ => ⟨S32x2048x8x64, .f32⟩
  | .hbm, ⟨41, _⟩ => ⟨S65536x512, .f32⟩
  | .hbm, ⟨42, _⟩ => ⟨S65536x512, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Mod.lean ====
abbrev S65536x1024 : Shape := ⟨2, ![65536, 1024]⟩
abbrev S32x1x1024 : Shape := ⟨3, ![32, 1, 1024]⟩
abbrev S1024x2048 : Shape := ⟨2, ![1024, 2048]⟩
abbrev S65536x2048 : Shape := ⟨2, ![65536, 2048]⟩
abbrev S4x65536x64 : Shape := ⟨3, ![4, 65536, 64]⟩
abbrev S1024x1024 : Shape := ⟨2, ![1024, 1024]⟩
abbrev S1x1x1024 : Shape := ⟨3, ![1, 1, 1024]⟩
abbrev S4x1024x64 : Shape := ⟨3, ![4, 1024, 64]⟩
abbrev S1x1024 : Shape := ⟨2, ![1, 1024]⟩
abbrev S1024x512 : Shape := ⟨2, ![1024, 512]⟩
abbrev S1024x64 : Shape := ⟨2, ![1024, 64]⟩
abbrev S1x1024x64 : Shape := ⟨3, ![1, 1024, 64]⟩

abbrev nBuf : Space → Nat
  | .hbm => 6
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S32x1x1024, .f32⟩
  | .hbm, ⟨2, _⟩ => ⟨S32x1x1024, .f32⟩
  | .hbm, ⟨3, _⟩ => ⟨S1024x2048, .bf16⟩
  | .hbm, ⟨4, _⟩ => ⟨S65536x2048, .bf16⟩
  | .hbm, ⟨5, _⟩ => ⟨S4x65536x64, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S4x1024x64, .bf16⟩
  | .local _ .vmem, ⟨10, _⟩ => ⟨S4x1024x64, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ModRefIdeal.lean ====
abbrev S65536x1024 : Shape := ⟨2, ![65536, 1024]⟩
abbrev S32x1x1024 : Shape := ⟨3, ![32, 1, 1024]⟩
abbrev S1024x2048 : Shape := ⟨2, ![1024, 2048]⟩
abbrev S32x2048x1024 : Shape := ⟨3, ![32, 2048, 1024]⟩
abbrev S_ : Shape := ⟨0, ![]⟩
abbrev S65536x2048 : Shape := ⟨2, ![65536, 2048]⟩
abbrev S65536x256 : Shape := ⟨2, ![65536, 256]⟩
abbrev S65536x4x64 : Shape := ⟨3, ![65536, 4, 64]⟩
abbrev S4x65536x64 : Shape := ⟨3, ![4, 65536, 64]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S32x1x1024, .f32⟩
  | .hbm, ⟨2, _⟩ => ⟨S32x1x1024, .f32⟩
  | .hbm, ⟨3, _⟩ => ⟨S1024x2048, .bf16⟩
  | .hbm, ⟨4, _⟩ => ⟨S32x2048x1024, .f32⟩
  | .hbm, ⟨5, _⟩ => ⟨S_, .f32⟩
  | .hbm, ⟨6, _⟩ => ⟨S32x1x1024, .f32⟩
  | .hbm, ⟨7, _⟩ => ⟨S32x1x1024, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S65536x1024, .f32⟩
  | .hbm, ⟨13, _⟩ => ⟨S1024x2048, .f32⟩
  | .hbm, ⟨14, _⟩ => ⟨S65536x2048, .f32⟩
  | .hbm, ⟨15, _⟩ => ⟨S65536x256, .f32⟩
  | .hbm, ⟨16, _⟩ => ⟨S65536x4x64, .f32⟩
  | .hbm, ⟨17, _⟩ => ⟨S4x65536x64, .f32⟩
  | .hbm, ⟨18, _⟩ => ⟨S65536x2048, .bf16⟩
  | .hbm, ⟨19, _⟩ => ⟨S4x65536x64, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Tail.lean ====
abbrev S65536x512 : Shape := ⟨2, ![65536, 512]⟩
abbrev S1024x1024 : Shape := ⟨2, ![1024, 1024]⟩
abbrev S65536x1024 : Shape := ⟨2, ![65536, 1024]⟩
abbrev S32x1x1024 : Shape := ⟨3, ![32, 1, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S1024x512 : Shape := ⟨2, ![1024, 512]⟩
abbrev S1x1x1024 : Shape := ⟨3, ![1, 1, 1024]⟩
abbrev S16x1024 : Shape := ⟨2, ![16, 1024]⟩
abbrev S512x1024 : Shape := ⟨2, ![512, 1024]⟩
abbrev S1024 : Shape := ⟨1, ![1024]⟩
abbrev S1024x1 : Shape := ⟨2, ![1024, 1]⟩
abbrev S1040x1024 : Shape := ⟨2, ![1040, 1024]⟩
abbrev S1024x256 : Shape := ⟨2, ![1024, 256]⟩
abbrev S1040x256 : Shape := ⟨2, ![1040, 256]⟩
abbrev S3x256 : Shape := ⟨2, ![3, 256]⟩
abbrev S1x256 : Shape := ⟨2, ![1, 256]⟩

abbrev nBuf : Space → Nat
  | .hbm => 18
  | .vmem => 28
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S1024x1024, .bf16⟩
  | .hbm, ⟨3, _⟩ => ⟨S65536x1024, .f32⟩
  | .hbm, ⟨4, _⟩ => ⟨S32x1x1024, .f32⟩
  | .hbm, ⟨5, _⟩ => ⟨S1x1024, .f32⟩
  | .hbm, ⟨6, _⟩ => ⟨S1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S1024x2816, .bf16⟩
  | .hbm, ⟨11, _⟩ => ⟨S1024x2816, .bf16⟩
  | .hbm, ⟨12, _⟩ => ⟨S3x2816, .f32⟩
  | .hbm, ⟨13, _⟩ => ⟨S1x2816, .f32⟩
  | .hbm, ⟨14, _⟩ => ⟨S2816x1024, .bf16⟩
  | .hbm, ⟨15, _⟩ => ⟨S1x1024, .f32⟩
  | .hbm, ⟨16, _⟩ => ⟨S1x1024, .f32⟩
  | .hbm, ⟨17, _⟩ => ⟨S65536x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1024x2816, .bf16⟩
  | .local _ .vmem, ⟨18, _⟩ => ⟨S1024x2816, .bf16⟩
  | .local _ .vmem, ⟨19, _⟩ => ⟨S3x2816, .f32⟩
  | .local _ .vmem, ⟨20, _⟩ => ⟨S1x2816, .f32⟩
  | .local _ .vmem, ⟨21, _⟩ => ⟨S2816x1024, .bf16⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S16x1024, .bf16⟩
  | .local _ .vmem, ⟨27, _⟩ => ⟨S1024x2816, .bf16⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== TailRefIdeal.lean ====
abbrev S65536x512 : Shape := ⟨2, ![65536, 512]⟩
abbrev S1024x1024 : Shape := ⟨2, ![1024, 1024]⟩
abbrev S65536x1024 : Shape := ⟨2, ![65536, 1024]⟩
abbrev S32x1x1024 : Shape := ⟨3, ![32, 1, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S32x2048x1024 : Shape := ⟨3, ![32, 2048, 1024]⟩
abbrev S_ : Shape := ⟨0, ![]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S32x2050x2816 : Shape := ⟨3, ![32, 2050, 2816]⟩
abbrev S2816 : Shape := ⟨1, ![2816]⟩
abbrev S1x1x2816 : Shape := ⟨3, ![1, 1, 2816]⟩

abbrev nBuf : Space → Nat
  | .hbm => 154
  | .vmem => 0
  | .smem => 0
  | _ => 0

abbrev hbmTy0_0 (i : Nat) : BufTy := match i % 128 with
  | 0 => ⟨S65536x512, .bf16⟩
  | 1 => ⟨S65536x512, .bf16⟩
  | 2 => ⟨S1024x1024, .bf16⟩
  | 3 => ⟨S65536x1024, .f32⟩
  | 4 => ⟨S32x1x1024, .f32⟩
  | 5 => ⟨S1x1024, .f32⟩
  | 6 => ⟨S1x1024, .f32⟩
  | 7 => ⟨S32x1x1024, .f32⟩
  | 8 => ⟨S32x1x1024, .f32⟩
  | 9 => ⟨S32x1x1024, .f32⟩
  | 10 => ⟨S1024x2816, .bf16⟩
  | 11 => ⟨S1024x2816, .bf16⟩
  | 12 => ⟨S3x2816, .f32⟩
  | 13 => ⟨S1x2816, .f32⟩
  | 14 => ⟨S2816x1024, .bf16⟩
  | 15 => ⟨S1x1024, .f32⟩
  | 16 => ⟨S1x1024, .f32⟩
  | 17 => ⟨S1024x1024, .f32⟩
  | 18 => ⟨S1024x2816, .f32⟩
  | 19 => ⟨S1024x2816, .f32⟩
  | 20 => ⟨S2816x1024, .f32⟩
  | 21 => ⟨S65536x1024, .bf16⟩
  | 22 => ⟨S65536x1024, .f32⟩
  | 23 => ⟨S32x2048x1024, .f32⟩
  | 24 => ⟨S32x2048x1024, .f32⟩
  | 25 => ⟨S_, .f32⟩
  | 26 => ⟨S32x2048x1024, .f32⟩
  | 27 => ⟨S32x2048x1024, .f32⟩
  | 28 => ⟨S_, .f32⟩
  | 29 => ⟨S32x1x1024, .f32⟩
  | 30 => ⟨S32x1x1024, .f32⟩
  | 31 => ⟨S32x2048x1024, .f32⟩
  | 32 => ⟨S32x2048x1024, .f32⟩
  | 33 => ⟨S32x2048x1024, .f32⟩
  | 34 => ⟨S32x2048x1024, .f32⟩
  | 35 => ⟨S1024, .f32⟩
  | 36 => ⟨S1024, .f32⟩
  | 37 => ⟨S_, .f32⟩
  | 38 => ⟨S32x2048, .f32⟩
  | 39 => ⟨S32x2048x1, .f32⟩
  | 40 => ⟨S_, .f32⟩
  | 41 => ⟨S32x2048x1, .f32⟩
  | 42 => ⟨S32x2048x1, .f32⟩
  | 43 => ⟨S32x2048x1024, .f32⟩
  | 44 => ⟨S32x2048x1024, .f32⟩
  | 45 => ⟨S32x2048x1024, .f32⟩
  | 46 => ⟨S_, .f32⟩
  | 47 => ⟨S32x2048, .f32⟩
  | 48 => ⟨S32x2048x1, .f32⟩
  | 49 => ⟨S_, .f32⟩
  | 50 => ⟨S32x2048x1, .f32⟩
  | 51 => ⟨S32x2048x1, .f32⟩
  | 52 => ⟨S32x2048x1024, .f32⟩
  | 53 => ⟨S32x2048x1024, .f32⟩
  | 54 => ⟨S_, .f32⟩
  | 55 => ⟨S32x2048x1, .f32⟩
  | 56 => ⟨S32x2048x1, .f32⟩
  | 57 => ⟨S32x2048x1, .f32⟩
  | 58 => ⟨S32x2048x1024, .f32⟩
  | 59 => ⟨S32x2048x1024, .f32⟩
  | 60 => ⟨S1x1x1024, .f32⟩
  | 61 => ⟨S32x2048x1024, .f32⟩
  | 62 => ⟨S32x2048x1024, .f32⟩
  | 63 => ⟨S1x1x1024, .f32⟩
  | 64 => ⟨S32x2048x1024, .f32⟩
  | 65 => ⟨S32x2048x1024, .f32⟩
  | 66 => ⟨S_, .f32⟩
  | 67 => ⟨S32x1x1024, .f32⟩
  | 68 => ⟨S32x1x1024, .f32⟩
  | 69 => ⟨S32x2048x1024, .f32⟩
  | 70 => ⟨S32x2048x1024, .f32⟩
  | 71 => ⟨S32x2048x1024, .f32⟩
  | 72 => ⟨S32x2048x1024, .f32⟩
  | 73 => ⟨S32x2048x2816, .f32⟩
  | 74 => ⟨S32x2048x2816, .f32⟩
  | 75 => ⟨S_, .i32⟩
  | 76 => ⟨S_, .f32⟩
  | 77 => ⟨S32x2050x2816, .f32⟩
  | 78 => ⟨S1x2816, .f32⟩
  | 79 => ⟨S2816, .f32⟩
  | 80 => ⟨S32x2048x2816, .f32⟩
  | 81 => ⟨S1x1x2816, .f32⟩
  | 82 => ⟨S32x2048x2816, .f32⟩
  | 83 => ⟨S32x2048x2816, .f32⟩
  | 84 => ⟨S1x2816, .f32⟩
  | 85 => ⟨S2816, .f32⟩
  | 86 => ⟨S32x2048x2816, .f32⟩
  | 87 => ⟨S1x1x2816, .f32⟩
  | 88 => ⟨S32x2048x2816, .f32⟩
  | 89 => ⟨S32x2048x2816, .f32⟩
  | 90 => ⟨S32x2048x2816, .f32⟩
  | 91 => ⟨S1x2816, .f32⟩
  | 92 => ⟨S2816, .f32⟩
  | 93 => ⟨S32x2048x2816, .f32⟩
  | 94 => ⟨S1x1x2816, .f32⟩
  | 95 => ⟨S32x2048x2816, .f32⟩
  | 96 => ⟨S32x2048x2816, .f32⟩
  | 97 => ⟨S32x2048x2816, .f32⟩
  | 98 => ⟨S2816, .f32⟩
  | 99 => ⟨S1x1x2816, .f32⟩
  | 100 => ⟨S32x2048x2816, .f32⟩
  | 101 => ⟨S32x2048x2816, .f32⟩
  | 102 => ⟨S32x2048x2816, .f32⟩
  | 103 => ⟨S32x2048x2816, .f32⟩
  | 104 => ⟨S_, .f32⟩
  | 105 => ⟨S32x2048x2816, .f32⟩
  | 106 => ⟨S32x2048x2816, .f32⟩
  | 107 => ⟨S_, .f32⟩
  | 108 => ⟨S32x2048x2816, .f32⟩
  | 109 => ⟨S32x2048x2816, .f32⟩
  | 110 => ⟨S32x2048x2816, .f32⟩
  | 111 => ⟨S32x2048x2816, .f32⟩
  | 112 => ⟨S32x2048x1024, .f32⟩
  | 113 => ⟨S_, .f32⟩
  | 114 => ⟨S32x2048x1024, .f32⟩
  | 115 => ⟨S32x2048x1024, .f32⟩
  | 116 => ⟨S_, .f32⟩
  | 117 => ⟨S32x1x1024, .f32⟩
  | 118 => ⟨S32x1x1024, .f32⟩
  | 119 => ⟨S32x2048x1024, .f32⟩
  | 120 => ⟨S32x2048x1024, .f32⟩
  | 121 => ⟨S32x2048x1024, .f32⟩
  | 122 => ⟨S1024, .f32⟩
  | 123 => ⟨S1024, .f32⟩
  | 124 => ⟨S_, .f32⟩
  | 125 => ⟨S32x2048, .f32⟩
  | 126 => ⟨S32x2048x1, .f32⟩
  | 127 => ⟨S_, .f32⟩
  | _ => ⟨S65536x512, .bf16⟩

abbrev hbmTy0_1 (i : Nat) : BufTy := match i % 128 with
  | 0 => ⟨S32x2048x1, .f32⟩
  | 1 => ⟨S32x2048x1, .f32⟩
  | 2 => ⟨S32x2048x1024, .f32⟩
  | 3 => ⟨S32x2048x1024, .f32⟩
  | 4 => ⟨S32x2048x1024, .f32⟩
  | 5 => ⟨S_, .f32⟩
  | 6 => ⟨S32x2048, .f32⟩
  | 7 => ⟨S32x2048x1, .f32⟩
  | 8 => ⟨S_, .f32⟩
  | 9 => ⟨S32x2048x1, .f32⟩
  | 10 => ⟨S32x2048x1, .f32⟩
  | 11 => ⟨S32x2048x1024, .f32⟩
  | 12 => ⟨S32x2048x1024, .f32⟩
  | 13 => ⟨S_, .f32⟩
  | 14 => ⟨S32x2048x1, .f32⟩
  | 15 => ⟨S32x2048x1, .f32⟩
  | 16 => ⟨S32x2048x1, .f32⟩
  | 17 => ⟨S32x2048x1024, .f32⟩
  | 18 => ⟨S32x2048x1024, .f32⟩
  | 19 => ⟨S1x1x1024, .f32⟩
  | 20 => ⟨S32x2048x1024, .f32⟩
  | 21 => ⟨S32x2048x1024, .f32⟩
  | 22 => ⟨S1x1x1024, .f32⟩
  | 23 => ⟨S32x2048x1024, .f32⟩
  | 24 => ⟨S32x2048x1024, .f32⟩
  | 25 => ⟨S65536x1024, .f32⟩
  | _ => ⟨S65536x512, .bf16⟩

abbrev hbmTy (i : Nat) : BufTy := match i / 128 with
  | 0 => hbmTy0_0 i
  | 1 => hbmTy0_1 i
  | _ => ⟨S65536x512, .bf16⟩

abbrev bufTy : (tb : Table) → Fin (tcTables nBuf tb) → BufTy
  | .hbm, ⟨i, _⟩ => hbmTy i
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c : Ref sig .tc := ⟨.hbm, 75, rfl⟩
abbrev main_call0_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_7 : Ref sig .tc := ⟨.hbm, 113, rfl⟩
abbrev main_v78 : Ref sig .tc := ⟨.hbm, 114, rfl⟩
abbrev main_v79 : Ref sig .tc := ⟨.hbm, 115, rfl⟩
abbrev main_cst_8 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_9 : Ref sig .tc := ⟨.hbm, 124, rfl⟩
abbrev main_v87 : Ref sig .tc := ⟨.hbm, 125, rfl⟩
abbrev main_v88 : Ref sig .tc := ⟨.hbm, 126, rfl⟩
abbrev main_cst_10 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_11 : Ref sig .tc := ⟨.hbm, 133, rfl⟩
abbrev main_v94 : Ref sig .tc := ⟨.hbm, 134, rfl⟩
abbrev main_v95 : Ref sig .tc := ⟨.hbm, 135, rfl⟩
abbrev main_cst_12 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_13 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩

abbrev nD : Nat := 1
abbrev τ : Topo := Topo.v7x

variable {F : FTy → Type} [FloatOps F]
-- ==== Odd.lean ====
abbrev S65536x1024 : Shape := ⟨2, ![65536, 1024]⟩
abbrev S32x1x1024 : Shape := ⟨3, ![32, 1, 1024]⟩
abbrev S1024x3072 : Shape := ⟨2, ![1024, 3072]⟩
abbrev S65536x3072 : Shape := ⟨2, ![65536, 3072]⟩
abbrev S1024x1024 : Shape := ⟨2, ![1024, 1024]⟩
abbrev S1x1x1024 : Shape := ⟨3, ![1, 1, 1024]⟩
abbrev S1x1024 : Shape := ⟨2, ![1, 1024]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S32x1x1024, .f32⟩
  | .hbm, ⟨2, _⟩ => ⟨S32x1x1024, .f32⟩
  | .hbm, ⟨3, _⟩ => ⟨S1024x3072, .bf16⟩
  | .hbm, ⟨4, _⟩ => ⟨S65536x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1024x3072, .bf16⟩
  | .local _ .vmem, ⟨8, _⟩ => ⟨S1024x3072, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OddRefIdeal.lean ====
abbrev S65536x1024 : Shape := ⟨2, ![65536, 1024]⟩
abbrev S32x1x1024 : Shape := ⟨3, ![32, 1, 1024]⟩
abbrev S1024x3072 : Shape := ⟨2, ![1024, 3072]⟩
abbrev S32x2048x1024 : Shape := ⟨3, ![32, 2048, 1024]⟩
abbrev S_ : Shape := ⟨0, ![]⟩
abbrev S65536x3072 : Shape := ⟨2, ![65536, 3072]⟩

abbrev nBuf : Space → Nat
  | .hbm => 16
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S32x1x1024, .f32⟩
  | .hbm, ⟨2, _⟩ => ⟨S32x1x1024, .f32⟩
  | .hbm, ⟨3, _⟩ => ⟨S1024x3072, .bf16⟩
  | .hbm, ⟨4, _⟩ => ⟨S32x2048x1024, .f32⟩
  | .hbm, ⟨5, _⟩ => ⟨S_, .f32⟩
  | .hbm, ⟨6, _⟩ => ⟨S32x1x1024, .f32⟩
  | .hbm, ⟨7, _⟩ => ⟨S32x1x1024, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S65536x1024, .f32⟩
  | .hbm, ⟨13, _⟩ => ⟨S1024x3072, .f32⟩
  | .hbm, ⟨14, _⟩ => ⟨S65536x3072, .f32⟩
  | .hbm, ⟨15, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== TailOdd.lean ====
abbrev S65536x1024 : Shape := ⟨2, ![65536, 1024]⟩
abbrev S1024x1024 : Shape := ⟨2, ![1024, 1024]⟩
abbrev S32x1x1024 : Shape := ⟨3, ![32, 1, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S1024x512 : Shape := ⟨2, ![1024, 512]⟩
abbrev S1x1x1024 : Shape := ⟨3, ![1, 1, 1024]⟩
abbrev S16x1024 : Shape := ⟨2, ![16, 1024]⟩
abbrev S512x1024 : Shape := ⟨2, ![512, 1024]⟩
abbrev S1024 : Shape := ⟨1, ![1024]⟩
abbrev S1024x1 : Shape := ⟨2, ![1024, 1]⟩
abbrev S1040x1024 : Shape := ⟨2, ![1040, 1024]⟩
abbrev S1024x256 : Shape := ⟨2, ![1024, 256]⟩
abbrev S1040x256 : Shape := ⟨2, ![1040, 256]⟩
abbrev S3x256 : Shape := ⟨2, ![3, 256]⟩
abbrev S1x256 : Shape := ⟨2, ![1, 256]⟩

abbrev nBuf : Space → Nat
  | .hbm => 17
  | .vmem => 28
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .bf16⟩
  | .hbm, ⟨2, _⟩ => ⟨S65536x1024, .f32⟩
  | .hbm, ⟨3, _⟩ => ⟨S32x1x1024, .f32⟩
  | .hbm, ⟨4, _⟩ => ⟨S1x1024, .f32⟩
  | .hbm, ⟨5, _⟩ => ⟨S1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S1024x2816, .bf16⟩
  | .hbm, ⟨10, _⟩ => ⟨S1024x2816, .bf16⟩
  | .hbm, ⟨11, _⟩ => ⟨S3x2816, .f32⟩
  | .hbm, ⟨12, _⟩ => ⟨S1x2816, .f32⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S65536x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1024x2816, .bf16⟩
  | .local _ .vmem, ⟨18, _⟩ => ⟨S1024x2816, .bf16⟩
  | .local _ .vmem, ⟨19, _⟩ => ⟨S3x2816, .f32⟩
  | .local _ .vmem, ⟨20, _⟩ => ⟨S1x2816, .f32⟩
  | .local _ .vmem, ⟨21, _⟩ => ⟨S2816x1024, .bf16⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S16x1024, .bf16⟩
  | .local _ .vmem, ⟨27, _⟩ => ⟨S1024x2816, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== TailOddRefIdeal.lean ====
abbrev S65536x1024 : Shape := ⟨2, ![65536, 1024]⟩
abbrev S1024x1024 : Shape := ⟨2, ![1024, 1024]⟩
abbrev S32x1x1024 : Shape := ⟨3, ![32, 1, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S65536x512 : Shape := ⟨2, ![65536, 512]⟩
abbrev S32x2048x1024 : Shape := ⟨3, ![32, 2048, 1024]⟩
abbrev S_ : Shape := ⟨0, ![]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S32x2050x2816 : Shape := ⟨3, ![32, 2050, 2816]⟩
abbrev S2816 : Shape := ⟨1, ![2816]⟩
abbrev S1x1x2816 : Shape := ⟨3, ![1, 1, 2816]⟩

abbrev nBuf : Space → Nat
  | .hbm => 155
  | .vmem => 0
  | .smem => 0
  | _ => 0

abbrev hbmTy0_0 (i : Nat) : BufTy := match i % 128 with
  | 0 => ⟨S65536x1024, .bf16⟩
  | 1 => ⟨S1024x1024, .bf16⟩
  | 2 => ⟨S65536x1024, .f32⟩
  | 3 => ⟨S32x1x1024, .f32⟩
  | 4 => ⟨S1x1024, .f32⟩
  | 5 => ⟨S1x1024, .f32⟩
  | 6 => ⟨S32x1x1024, .f32⟩
  | 7 => ⟨S32x1x1024, .f32⟩
  | 8 => ⟨S32x1x1024, .f32⟩
  | 9 => ⟨S1024x2816, .bf16⟩
  | 10 => ⟨S1024x2816, .bf16⟩
  | 11 => ⟨S3x2816, .f32⟩
  | 12 => ⟨S1x2816, .f32⟩
  | 13 => ⟨S2816x1024, .bf16⟩
  | 14 => ⟨S1x1024, .f32⟩
  | 15 => ⟨S1x1024, .f32⟩
  | 16 => ⟨S65536x512, .bf16⟩
  | 17 => ⟨S65536x512, .bf16⟩
  | 18 => ⟨S1024x1024, .f32⟩
  | 19 => ⟨S1024x2816, .f32⟩
  | 20 => ⟨S1024x2816, .f32⟩
  | 21 => ⟨S2816x1024, .f32⟩
  | 22 => ⟨S65536x1024, .bf16⟩
  | 23 => ⟨S65536x1024, .f32⟩
  | 24 => ⟨S32x2048x1024, .f32⟩
  | 25 => ⟨S32x2048x1024, .f32⟩
  | 26 => ⟨S_, .f32⟩
  | 27 => ⟨S32x2048x1024, .f32⟩
  | 28 => ⟨S32x2048x1024, .f32⟩
  | 29 => ⟨S_, .f32⟩
  | 30 => ⟨S32x1x1024, .f32⟩
  | 31 => ⟨S32x1x1024, .f32⟩
  | 32 => ⟨S32x2048x1024, .f32⟩
  | 33 => ⟨S32x2048x1024, .f32⟩
  | 34 => ⟨S32x2048x1024, .f32⟩
  | 35 => ⟨S32x2048x1024, .f32⟩
  | 36 => ⟨S1024, .f32⟩
  | 37 => ⟨S1024, .f32⟩
  | 38 => ⟨S_, .f32⟩
  | 39 => ⟨S32x2048, .f32⟩
  | 40 => ⟨S32x2048x1, .f32⟩
  | 41 => ⟨S_, .f32⟩
  | 42 => ⟨S32x2048x1, .f32⟩
  | 43 => ⟨S32x2048x1, .f32⟩
  | 44 => ⟨S32x2048x1024, .f32⟩
  | 45 => ⟨S32x2048x1024, .f32⟩
  | 46 => ⟨S32x2048x1024, .f32⟩
  | 47 => ⟨S_, .f32⟩
  | 48 => ⟨S32x2048, .f32⟩
  | 49 => ⟨S32x2048x1, .f32⟩
  | 50 => ⟨S_, .f32⟩
  | 51 => ⟨S32x2048x1, .f32⟩
  | 52 => ⟨S32x2048x1, .f32⟩
  | 53 => ⟨S32x2048x1024, .f32⟩
  | 54 => ⟨S32x2048x1024, .f32⟩
  | 55 => ⟨S_, .f32⟩
  | 56 => ⟨S32x2048x1, .f32⟩
  | 57 => ⟨S32x2048x1, .f32⟩
  | 58 => ⟨S32x2048x1, .f32⟩
  | 59 => ⟨S32x2048x1024, .f32⟩
  | 60 => ⟨S32x2048x1024, .f32⟩
  | 61 => ⟨S1x1x1024, .f32⟩
  | 62 => ⟨S32x2048x1024, .f32⟩
  | 63 => ⟨S32x2048x1024, .f32⟩
  | 64 => ⟨S1x1x1024, .f32⟩
  | 65 => ⟨S32x2048x1024, .f32⟩
  | 66 => ⟨S32x2048x1024, .f32⟩
  | 67 => ⟨S_, .f32⟩
  | 68 => ⟨S32x1x1024, .f32⟩
  | 69 => ⟨S32x1x1024, .f32⟩
  | 70 => ⟨S32x2048x1024, .f32⟩
  | 71 => ⟨S32x2048x1024, .f32⟩
  | 72 => ⟨S32x2048x1024, .f32⟩
  | 73 => ⟨S32x2048x1024, .f32⟩
  | 74 => ⟨S32x2048x2816, .f32⟩
  | 75 => ⟨S32x2048x2816, .f32⟩
  | 76 => ⟨S_, .i32⟩
  | 77 => ⟨S_, .f32⟩
  | 78 => ⟨S32x2050x2816, .f32⟩
  | 79 => ⟨S1x2816, .f32⟩
  | 80 => ⟨S2816, .f32⟩
  | 81 => ⟨S32x2048x2816, .f32⟩
  | 82 => ⟨S1x1x2816, .f32⟩
  | 83 => ⟨S32x2048x2816, .f32⟩
  | 84 => ⟨S32x2048x2816, .f32⟩
  | 85 => ⟨S1x2816, .f32⟩
  | 86 => ⟨S2816, .f32⟩
  | 87 => ⟨S32x2048x2816, .f32⟩
  | 88 => ⟨S1x1x2816, .f32⟩
  | 89 => ⟨S32x2048x2816, .f32⟩
  | 90 => ⟨S32x2048x2816, .f32⟩
  | 91 => ⟨S32x2048x2816, .f32⟩
  | 92 => ⟨S1x2816, .f32⟩
  | 93 => ⟨S2816, .f32⟩
  | 94 => ⟨S32x2048x2816, .f32⟩
  | 95 => ⟨S1x1x2816, .f32⟩
  | 96 => ⟨S32x2048x2816, .f32⟩
  | 97 => ⟨S32x2048x2816, .f32⟩
  | 98 => ⟨S32x2048x2816, .f32⟩
  | 99 => ⟨S2816, .f32⟩
  | 100 => ⟨S1x1x2816, .f32⟩
  | 101 => ⟨S32x2048x2816, .f32⟩
  | 102 => ⟨S32x2048x2816, .f32⟩
  | 103 => ⟨S32x2048x2816, .f32⟩
  | 104 => ⟨S32x2048x2816, .f32⟩
  | 105 => ⟨S_, .f32⟩
  | 106 => ⟨S32x2048x2816, .f32⟩
  | 107 => ⟨S32x2048x2816, .f32⟩
  | 108 => ⟨S_, .f32⟩
  | 109 => ⟨S32x2048x2816, .f32⟩
  | 110 => ⟨S32x2048x2816, .f32⟩
  | 111 => ⟨S32x2048x2816, .f32⟩
  | 112 => ⟨S32x2048x2816, .f32⟩
  | 113 => ⟨S32x2048x1024, .f32⟩
  | 114 => ⟨S_, .f32⟩
  | 115 => ⟨S32x2048x1024, .f32⟩
  | 116 => ⟨S32x2048x1024, .f32⟩
  | 117 => ⟨S_, .f32⟩
  | 118 => ⟨S32x1x1024, .f32⟩
  | 119 => ⟨S32x1x1024, .f32⟩
  | 120 => ⟨S32x2048x1024, .f32⟩
  | 121 => ⟨S32x2048x1024, .f32⟩
  | 122 => ⟨S32x2048x1024, .f32⟩
  | 123 => ⟨S1024, .f32⟩
  | 124 => ⟨S1024, .f32⟩
  | 125 => ⟨S_, .f32⟩
  | 126 => ⟨S32x2048, .f32⟩
  | 127 => ⟨S32x2048x1, .f32⟩
  | _ => ⟨S65536x1024, .bf16⟩

abbrev hbmTy0_1 (i : Nat) : BufTy := match i % 128 with
  | 0 => ⟨S_, .f32⟩
  | 1 => ⟨S32x2048x1, .f32⟩
  | 2 => ⟨S32x2048x1, .f32⟩
  | 3 => ⟨S32x2048x1024, .f32⟩
  | 4 => ⟨S32x2048x1024, .f32⟩
  | 5 => ⟨S32x2048x1024, .f32⟩
  | 6 => ⟨S_, .f32⟩
  | 7 => ⟨S32x2048, .f32⟩
  | 8 => ⟨S32x2048x1, .f32⟩
  | 9 => ⟨S_, .f32⟩
  | 10 => ⟨S32x2048x1, .f32⟩
  | 11 => ⟨S32x2048x1, .f32⟩
  | 12 => ⟨S32x2048x1024, .f32⟩
  | 13 => ⟨S32x2048x1024, .f32⟩
  | 14 => ⟨S_, .f32⟩
  | 15 => ⟨S32x2048x1, .f32⟩
  | 16 => ⟨S32x2048x1, .f32⟩
  | 17 => ⟨S32x2048x1, .f32⟩
  | 18 => ⟨S32x2048x1024, .f32⟩
  | 19 => ⟨S32x2048x1024, .f32⟩
  | 20 => ⟨S1x1x1024, .f32⟩
  | 21 => ⟨S32x2048x1024, .f32⟩
  | 22 => ⟨S32x2048x1024, .f32⟩
  | 23 => ⟨S1x1x1024, .f32⟩
  | 24 => ⟨S32x2048x1024, .f32⟩
  | 25 => ⟨S32x2048x1024, .f32⟩
  | 26 => ⟨S65536x1024, .f32⟩
  | _ => ⟨S65536x1024, .bf16⟩

abbrev hbmTy (i : Nat) : BufTy := match i / 128 with
  | 0 => hbmTy0_0 i
  | 1 => hbmTy0_1 i
  | _ => ⟨S65536x1024, .bf16⟩

abbrev bufTy : (tb : Table) → Fin (tcTables nBuf tb) → BufTy
  | .hbm, ⟨i, _⟩ => hbmTy i
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c : Ref sig .tc := ⟨.hbm, 76, rfl⟩
abbrev main_call0_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call1_v0 : Ref sig .tc := ⟨.hbm, 103, rfl⟩
abbrev main_call1_v1 : Ref sig .tc := ⟨.hbm, 104, rfl⟩
abbrev main_call1_cst : Ref sig .tc := ⟨.hbm, 105, rfl⟩
abbrev main_call1_v2 : Ref sig .tc := ⟨.hbm, 106, rfl⟩
abbrev main_call1_v3 : Ref sig .tc := ⟨.hbm, 107, rfl⟩
abbrev main_call1_cst_0 : Ref sig .tc := ⟨.hbm, 108, rfl⟩
abbrev main_call1_v4 : Ref sig .tc := ⟨.hbm, 109, rfl⟩
abbrev main_call1_v5 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_7 : Ref sig .tc := ⟨.hbm, 114, rfl⟩
abbrev main_v80 : Ref sig .tc := ⟨.hbm, 115, rfl⟩
abbrev main_v81 : Ref sig .tc := ⟨.hbm, 116, rfl⟩
abbrev main_cst_8 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_9 : Ref sig .tc := ⟨.hbm, 125, rfl⟩
abbrev main_v89 : Ref sig .tc := ⟨.hbm, 126, rfl⟩
abbrev main_v90 : Ref sig .tc := ⟨.hbm, 127, rfl⟩
abbrev main_cst_10 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_11 : Ref sig .tc := ⟨.hbm, 134, rfl⟩
abbrev main_v96 : Ref sig .tc := ⟨.hbm, 135, rfl⟩
abbrev main_v97 : Ref sig .tc := ⟨.hbm, 136, rfl⟩
abbrev main_cst_12 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_13 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩

abbrev nD : Nat := 1
abbrev τ : Topo := Topo.v7x

variable {F : FTy → Type} [FloatOps F]
-- ==== Prep.lean ====
abbrev S65536x2048 : Shape := ⟨2, ![65536, 2048]⟩
abbrev S1x384 : Shape := ⟨2, ![1, 384]⟩
abbrev S1x256 : Shape := ⟨2, ![1, 256]⟩
abbrev S384x2048 : Shape := ⟨2, ![384, 2048]⟩
abbrev S256x1024 : Shape := ⟨2, ![256, 1024]⟩
abbrev S256x512 : Shape := ⟨2, ![256, 512]⟩
abbrev S2048x32 : Shape := ⟨2, ![2048, 32]⟩
abbrev S_ : Shape := ⟨0, ![]⟩
abbrev S2048x64 : Shape := ⟨2, ![2048, 64]⟩
abbrev S2048x128 : Shape := ⟨2, ![2048, 128]⟩
abbrev S128x8x128 : Shape := ⟨3, ![128, 8, 128]⟩
abbrev S128x1024 : Shape := ⟨2, ![128, 1024]⟩
abbrev S65536x1024 : Shape := ⟨2, ![65536, 1024]⟩
abbrev S65536x512 : Shape := ⟨2, ![65536, 512]⟩
abbrev S512x768 : Shape := ⟨2, ![512, 768]⟩
abbrev S512x128 : Shape := ⟨2, ![512, 128]⟩
abbrev S512x1024 : Shape := ⟨2, ![512, 1024]⟩
abbrev S512x512 : Shape := ⟨2, ![512, 512]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩

abbrev nBuf : Space → Nat
  | .hbm => 61
  | .vmem => 20
  | .smem => 0
  | _ => 0

abbrev bufTy : (tb : Table) → Fin (tcTables nBuf tb) → BufTy
  | .hbm, ⟨0, _⟩ => ⟨S65536x2048, .bf16⟩
  | .hbm, ⟨1, _⟩ => ⟨S1x384, .f32⟩
  | .hbm, ⟨2, _⟩ => ⟨S1x256, .f32⟩
  | .hbm, ⟨3, _⟩ => ⟨S384x2048, .bf16⟩
  | .hbm, ⟨4, _⟩ => ⟨S256x1024, .bf16⟩
  | .hbm, ⟨5, _⟩ => ⟨S256x512, .bf16⟩
  | .hbm, ⟨6, _⟩ => ⟨S2048x32, .f32⟩
  | .hbm, ⟨7, _⟩ => ⟨S2048x32, .f32⟩
  | .hbm, ⟨8, _⟩ => ⟨S_, .f32⟩
  | .hbm, ⟨9, _⟩ => ⟨S2048x32, .f32⟩
  | .hbm, ⟨10, _⟩ => ⟨S_, .f32⟩
  | .hbm, ⟨11, _⟩ => ⟨S2048x64, .f32⟩
  | .hbm, ⟨12, _⟩ => ⟨S_, .f32⟩
  | .hbm, ⟨13, _⟩ => ⟨S2048x32, .f32⟩
  | .hbm, ⟨14, _⟩ => ⟨S2048x32, .f32⟩
  | .hbm, ⟨15, _⟩ => ⟨S2048x128, .f32⟩
  | .hbm, ⟨16, _⟩ => ⟨S_, .f32⟩
  | .hbm, ⟨17, _⟩ => ⟨S2048x64, .f32⟩
  | .hbm, ⟨18, _⟩ => ⟨S_, .f32⟩
  | .hbm, ⟨19, _⟩ => ⟨S2048x32, .f32⟩
  | .hbm, ⟨20, _⟩ => ⟨S2048x32, .f32⟩
  | .hbm, ⟨21, _⟩ => ⟨S2048x128, .f32⟩
  | .hbm, ⟨22, _⟩ => ⟨S_, .f32⟩
  | .hbm, ⟨23, _⟩ => ⟨S2048x64, .f32⟩
  | .hbm, ⟨24, _⟩ => ⟨S2048x128, .f32⟩
  | .hbm, ⟨25, _⟩ => ⟨S128x8x128, .i32⟩
  | .hbm, ⟨26, _⟩ => ⟨S128x8x128, .i32⟩
  | .hbm, ⟨27, _⟩ => ⟨S_, .i32⟩
  | .hbm, ⟨28, _⟩ => ⟨S128x8x128, .i32⟩
  | .hbm, ⟨29, _⟩ => ⟨S128x8x128, .i1⟩
  | .hbm, ⟨30, _⟩ => ⟨S_, .i32⟩
  | .hbm, ⟨31, _⟩ => ⟨S128x8x128, .i32⟩
  | .hbm, ⟨32, _⟩ => ⟨S128x8x128, .i32⟩
  | .hbm, ⟨33, _⟩ => ⟨S128x8x128, .i1⟩
  | .hbm, ⟨34, _⟩ => ⟨S128x8x128, .i1⟩
  | .hbm, ⟨35, _⟩ => ⟨S_, .i32⟩
  | .hbm, ⟨36, _⟩ => ⟨S128x8x128, .i32⟩
  | .hbm, ⟨37, _⟩ => ⟨S128x8x128, .i1⟩
  | .hbm, ⟨38, _⟩ => ⟨S_, .i32⟩
  | .hbm, ⟨39, _⟩ => ⟨S128x8x128, .i32⟩
  | .hbm, ⟨40, _⟩ => ⟨S128x8x128, .i1⟩
  | .hbm, ⟨41, _⟩ => ⟨S128x8x128, .i1⟩
  | .hbm, ⟨42, _⟩ => ⟨S_, .i32⟩
  | .hbm, ⟨43, _⟩ => ⟨S128x8x128, .i32⟩
  | .hbm, ⟨44, _⟩ => ⟨S128x8x128, .i32⟩
  | .hbm, ⟨45, _⟩ => ⟨S_, .i32⟩
  | .hbm, ⟨46, _⟩ => ⟨S128x8x128, .i32⟩
  | .hbm, ⟨47, _⟩ => ⟨S128x8x128, .i32⟩
  | .hbm, ⟨48, _⟩ => ⟨S128x8x128, .i1⟩
  | .hbm, ⟨49, _⟩ => ⟨S128x8x128, .i1⟩
  | .hbm, ⟨50, _⟩ => ⟨S128x8x128, .i1⟩
  | .hbm, ⟨51, _⟩ => ⟨S_, .f32⟩
  | .hbm, ⟨52, _⟩ => ⟨S_, .f32⟩
  | .hbm, ⟨53, _⟩ => ⟨S128x8x128, .f32⟩
  | .hbm, ⟨54, _⟩ => ⟨S128x8x128, .f32⟩
  | .hbm, ⟨55, _⟩ => ⟨S128x8x128, .f32⟩
  | .hbm, ⟨56, _⟩ => ⟨S128x8x128, .bf16⟩
  | .hbm, ⟨57, _⟩ => ⟨S128x1024, .bf16⟩
  | .hbm, ⟨58, _⟩ => ⟨S65536x1024, .bf16⟩
  | .hbm, ⟨59, _⟩ => ⟨S65536x1024, .bf16⟩
  | .hbm, ⟨60, _⟩ => ⟨S65536x512, .bf16⟩
  | .local _ .vmem, ⟨0, _⟩ => ⟨S512x768, .bf16⟩
  | .local _ .vmem, ⟨1, _⟩ => ⟨S512x768, .bf16⟩
  | .local _ .vmem, ⟨2, _⟩ => ⟨S1x384, .f32⟩
  | .local _ .vmem, ⟨3, _⟩ => ⟨S1x256, .f32⟩
  | .local _ .vmem, ⟨4, _⟩ => ⟨S384x2048, .bf16⟩
  | .local _ .vmem, ⟨5, _⟩ => ⟨S256x1024, .bf16⟩
  | .local _ .vmem, ⟨6, _⟩ => ⟨S256x512, .bf16⟩
  | .local _ .vmem, ⟨7, _⟩ => ⟨S128x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_cst_3 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_c_7 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_c_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_cst_11 : Ref sig .tc := ⟨.hbm, 52, rfl⟩
abbrev main_call0_v0 : Ref sig .tc := ⟨.hbm, 53, rfl⟩
abbrev main_call0_v1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PrepRefIdeal.lean ====
abbrev S65536x2048 : Shape := ⟨2, ![65536, 2048]⟩
abbrev S1x384 : Shape := ⟨2, ![1, 384]⟩
abbrev S1x256 : Shape := ⟨2, ![1, 256]⟩
abbrev S384x2048 : Shape := ⟨2, ![384, 2048]⟩
abbrev S256x1024 : Shape := ⟨2, ![256, 1024]⟩
abbrev S256x512 : Shape := ⟨2, ![256, 512]⟩
abbrev S2048x32 : Shape := ⟨2, ![2048, 32]⟩
abbrev S65536x384 : Shape := ⟨2, ![65536, 384]⟩
abbrev S384 : Shape := ⟨1, ![384]⟩
abbrev S_ : Shape := ⟨0, ![]⟩
abbrev S65536 : Shape := ⟨1, ![65536]⟩
abbrev S65536x1 : Shape := ⟨2, ![65536, 1]⟩
abbrev S65536x256 : Shape := ⟨2, ![65536, 256]⟩
abbrev S256 : Shape := ⟨1, ![256]⟩
abbrev S384x1024 : Shape := ⟨2, ![384, 1024]⟩
abbrev S65536x1024 : Shape := ⟨2, ![65536, 1024]⟩
abbrev S32x2048x8x128 : Shape := ⟨4, ![32, 2048, 8, 128]⟩
abbrev S32x2048x8x32 : Shape := ⟨4, ![32, 2048, 8, 32]⟩
abbrev S2048x1x32 : Shape := ⟨3, ![2048, 1, 32]⟩
abbrev S1x2048x1x32 : Shape := ⟨4, ![1, 2048, 1, 32]⟩
abbrev S32x2048x8x64 : Shape := ⟨4, ![32, 2048, 8, 64]⟩
abbrev S32x2048x8x96 : Shape := ⟨4, ![32, 2048, 8, 96]⟩
abbrev S65536x64 : Shape := ⟨2, ![65536, 64]⟩
abbrev S32x2048x64 : Shape := ⟨3, ![32, 2048, 64]⟩
abbrev S32x2048x32 : Shape := ⟨3, ![32, 2048, 32]⟩
abbrev S1x2048x32 : Shape := ⟨3, ![1, 2048, 32]⟩
abbrev S32x2048x128 : Shape := ⟨3, ![32, 2048, 128]⟩
abbrev S32x2048x1x128 : Shape := ⟨4, ![32, 2048, 1, 128]⟩
abbrev S65536x512 : Shape := ⟨2, ![65536, 512]⟩

abbrev nBuf : Space → Nat
  | .hbm => 98
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S1x384, .f32⟩
  | .hbm, ⟨2, _⟩ => ⟨S1x256, .f32⟩
  | .hbm, ⟨3, _⟩ => ⟨S384x2048, .bf16⟩
  | .hbm, ⟨4, _⟩ => ⟨S256x1024, .bf16⟩
  | .hbm, ⟨5, _⟩ => ⟨S256x512, .bf16⟩
  | .hbm, ⟨6, _⟩ => ⟨S2048x32, .f32⟩
  | .hbm, ⟨7, _⟩ => ⟨S2048x32, .f32⟩
  | .hbm, ⟨8, _⟩ => ⟨S65536x2048, .f32⟩
  | .hbm, ⟨9, _⟩ => ⟨S384x2048, .f32⟩
  | .hbm, ⟨10, _⟩ => ⟨S256x1024, .f32⟩
  | .hbm, ⟨11, _⟩ => ⟨S256x512, .f32⟩
  | .hbm, ⟨12, _⟩ => ⟨S65536x384, .f32⟩
  | .hbm, ⟨13, _⟩ => ⟨S384, .f32⟩
  | .hbm, ⟨14, _⟩ => ⟨S65536x384, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x384, .f32⟩
  | .hbm, ⟨26, _⟩ => ⟨S65536x384, .f32⟩
  | .hbm, ⟨27, _⟩ => ⟨S1x384, .f32⟩
  | .hbm, ⟨28, _⟩ => ⟨S65536x384, .f32⟩
  | .hbm, ⟨29, _⟩ => ⟨S65536x384, .f32⟩
  | .hbm, ⟨30, _⟩ => ⟨S65536x256, .f32⟩
  | .hbm, ⟨31, _⟩ => ⟨S256, .f32⟩
  | .hbm, ⟨32, _⟩ => ⟨S65536x256, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1, .f32⟩
  | .hbm, ⟨43, _⟩ => ⟨S65536x256, .f32⟩
  | .hbm, ⟨44, _⟩ => ⟨S65536x256, .f32⟩
  | .hbm, ⟨45, _⟩ => ⟨S1x256, .f32⟩
  | .hbm, ⟨46, _⟩ => ⟨S65536x256, .f32⟩
  | .hbm, ⟨47, _⟩ => ⟨S65536x256, .f32⟩
  | .hbm, ⟨48, _⟩ => ⟨S384x1024, .f32⟩
  | .hbm, ⟨49, _⟩ => ⟨S384x1024, .f32⟩
  | .hbm, ⟨50, _⟩ => ⟨S65536x1024, .f32⟩
  | .hbm, ⟨51, _⟩ => ⟨S32x2048x8x128, .f32⟩
  | .hbm, ⟨52, _⟩ => ⟨S65536x1024, .f32⟩
  | .hbm, ⟨53, _⟩ => ⟨S32x2048x8x128, .f32⟩
  | .hbm, ⟨54, _⟩ => ⟨S32x2048x8x32, .f32⟩
  | .hbm, ⟨55, _⟩ => ⟨S2048x1x32, .f32⟩
  | .hbm, ⟨56, _⟩ => ⟨S1x2048x1x32, .f32⟩
  | .hbm, ⟨57, _⟩ => ⟨S32x2048x8x32, .f32⟩
  | .hbm, ⟨58, _⟩ => ⟨S32x2048x8x32, .f32⟩
  | .hbm, ⟨59, _⟩ => ⟨S32x2048x8x32, .f32⟩
  | .hbm, ⟨60, _⟩ => ⟨S2048x1x32, .f32⟩
  | .hbm, ⟨61, _⟩ => ⟨S1x2048x1x32, .f32⟩
  | .hbm, ⟨62, _⟩ => ⟨S32x2048x8x32, .f32⟩
  | .hbm, ⟨63, _⟩ => ⟨S32x2048x8x32, .f32⟩
  | .hbm, ⟨64, _⟩ => ⟨S32x2048x8x32, .f32⟩
  | .hbm, ⟨65, _⟩ => ⟨S32x2048x8x64, .f32⟩
  | .hbm, ⟨66, _⟩ => ⟨S32x2048x8x96, .f32⟩
  | .hbm, ⟨67, _⟩ => ⟨S_, .f32⟩
  | .hbm, ⟨68, _⟩ => ⟨S32x2048x8x96, .f32⟩
  | .hbm, ⟨69, _⟩ => ⟨S32x2048x8x96, .f32⟩
  | .hbm, ⟨70, _⟩ => ⟨S_, .i32⟩
  | .hbm, ⟨71, _⟩ => ⟨S_, .f32⟩
  | .hbm, ⟨72, _⟩ => ⟨S32x2048x8x128, .f32⟩
  | .hbm, ⟨73, _⟩ => ⟨S65536x64, .f32⟩
  | .hbm, ⟨74, _⟩ => ⟨S32x2048x64, .f32⟩
  | .hbm, ⟨75, _⟩ => ⟨S32x2048x32, .f32⟩
  | .hbm, ⟨76, _⟩ => ⟨S1x2048x32, .f32⟩
  | .hbm, ⟨77, _⟩ => ⟨S32x2048x32, .f32⟩
  | .hbm, ⟨78, _⟩ => ⟨S32x2048x32, .f32⟩
  | .hbm, ⟨79, _⟩ => ⟨S32x2048x32, .f32⟩
  | .hbm, ⟨80, _⟩ => ⟨S1x2048x32, .f32⟩
  | .hbm, ⟨81, _⟩ => ⟨S32x2048x32, .f32⟩
  | .hbm, ⟨82, _⟩ => ⟨S32x2048x32, .f32⟩
  | .hbm, ⟨83, _⟩ => ⟨S32x2048x32, .f32⟩
  | .hbm, ⟨84, _⟩ => ⟨S65536x1024, .f32⟩
  | .hbm, ⟨85, _⟩ => ⟨S32x2048x8x128, .f32⟩
  | .hbm, ⟨86, _⟩ => ⟨S_, .i32⟩
  | .hbm, ⟨87, _⟩ => ⟨S_, .f32⟩
  | .hbm, ⟨88, _⟩ => ⟨S32x2048x128, .f32⟩
  | .hbm, ⟨89, _⟩ => ⟨S32x2048x1x128, .f32⟩
  | .hbm, ⟨90, _⟩ => ⟨S32x2048x8x128, .f32⟩
  | .hbm, ⟨91, _⟩ => ⟨S32x2048x8x128, .f32⟩
  | .hbm, ⟨92, _⟩ => ⟨S65536x1024, .f32⟩
  | .hbm, ⟨93, _⟩ => ⟨S65536x1024, .bf16⟩
  | .hbm, ⟨94, _⟩ => ⟨S65536x1024, .f32⟩
  | .hbm, ⟨95, _⟩ => ⟨S65536x1024, .bf16⟩
  | .hbm, ⟨96, _⟩ => ⟨S65536x512, .f32⟩
  | .hbm, ⟨97, _⟩ => ⟨S65536x512, .bf16⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_c : Ref sig .tc := ⟨.hbm, 70, rfl⟩
abbrev main_call0_v0 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c_6 : Ref sig .tc := ⟨.hbm, 86, rfl⟩
abbrev main_call1_v0 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== Proof.ModValue.lean ====
/-
  THE INPUT PROJECTION'S TWO RESULT ARRAYS. The kernel walks the 65536 rows in 64 blocks of 1024 rows and computes each block's
  2048 columns as four products of 512 columns. Here: what a block holds, and that the two arrays after the run are the
  reference's two results, element by element.
-/
module

public import proofs.«01_k».proof.Defs
public import proofs.«01_k».proof.Proof.Gen.ModIdeal.Value
public import proofs.«01_k».proof.Proof.Gen.ModRefIdeal.Run
public import proofs.«01_k».proof.Proof.Gen.ModRefIdeal.Read
public import Idealize.ShloMosaic.Lib.Pipeline.ValueKit
public import Idealize.ShloMosaic.Lib.Pointwise
public import Idealize.ShloMosaic.Lib.Quiescent

@[expose] public section

noncomputable section

namespace Cert.Proof.ModValue

open Idealize.ShloMosaic Idealize.ShloMosaic.TcCoe Idealize.SL.Sem
open Cert.ModIdeal Cert.ModIdeal.Gen
open Idealize.ShloMosaic.Pipeline (Dat)

variable (m : (ℓ : Loc nD τ sig) → Buf (Elt Ideal) ℓ)

/-- Which block of the rows point `t` stages. -/
theorem idx0 : ∀ t : Fin cfg0.N, win0_0.index t = ![t.val, 0] :=
  (by decide +kernel : ∀ t : Fin grid0.N, _)
/-- Which scale row point `t` stages: its sequence's. -/
theorem idx1 : ∀ t : Fin cfg0.N, win0_1.index t = ![t.val / 2, 0, 0] :=
  (by decide +kernel : ∀ t : Fin grid0.N, _)
/-- Which shift row point `t` stages. -/
theorem idx2 : ∀ t : Fin cfg0.N, win0_2.index t = ![t.val / 2, 0, 0] :=
  (by decide +kernel : ∀ t : Fin grid0.N, _)
/-- The weight is one block. -/
theorem idx3 : ∀ t : Fin cfg0.N, win0_3.index t = ![0, 0] :=
  (by decide +kernel : ∀ t : Fin grid0.N, _)
/-- Which block of the projection point `t` writes. -/
theorem idx4 : ∀ t : Fin cfg0.N, win0_4.index t = ![t.val, 0] :=
  (by decide +kernel : ∀ t : Fin grid0.N, _)
/-- Which block of the planes point `t` writes. -/
theorem idx5 : ∀ t : Fin cfg0.N, win0_5.index t = ![0, t.val, 0] :=
  (by decide +kernel : ∀ t : Fin grid0.N, _)

/-- The projection at a row and a column: the modulated row against the weight's column. -/
def proj {N : Nat} (x : S65536x1024.Idx → EReal) (sc sh : S32x1x1024.Idx → EReal) (w : (⟨2, ![1024, N]⟩ : Shape).Idx → EReal)
    (r : Fin 65536) (l : Fin N) : EReal :=
  ∑ k : Fin 1024, (x (ix2 r k) * (Ideal.ofBits .f32 0x3F800000#32 + sc (ix3 ⟨r.val / 2048, by omega⟩ 0 k))
    + sh (ix3 ⟨r.val / 2048, by omega⟩ 0 k)) * w (ix2 k l)

/-- The reference's projection is `proj`. -/
theorem ref_proj (x : FVec Ideal S65536x1024 .f32) (sc sh : FVec Ideal S32x1x1024 .f32) (w : FVec Ideal S1024x2048 .bf16)
    (j : S65536x2048.Idx) :
    ModRefIdeal.Read.val_main_v13 (F := Ideal) x sc sh w j = proj x sc sh w (j 0) (j 1) := by
  pointwise [ModRefIdeal.Read.val_main_v13, ModRefIdeal.Read.val_main_v9, ModRefIdeal.Read.val_main_v8, ModRefIdeal.Read.val_main_v7,
    ModRefIdeal.Read.val_main_v6, ModRefIdeal.Read.val_main_v5, ModRefIdeal.Read.val_main_v4, ModRefIdeal.Read.val_main_v3,
    ModRefIdeal.Read.val_main_v2, ModRefIdeal.Read.val_main_v1, ModRefIdeal.Read.val_main_v0, ModRefIdeal.Read.val_main_cst, proj]

/-- The projection array after the run is `proj` of the arguments. -/
theorem final4 (c : Dev nD) : (dats (F := Ideal) m 0 c).arrAt 4 cfg0.N = fun j : S65536x2048.Idx =>
    proj (m ((c : Thread nD τ).loc main_arg0)) (m ((c : Thread nD τ).loc main_arg1)) (m ((c : Thread nD τ).loc main_arg2)) (m ((c : Thread nD τ).loc main_arg3)) (j 0) (j 1) := by
  refine (dats (F := Ideal) m 0 c).arrAt_eq_of_covers 4 _ (by decide +kernel) fun t hf y => ?_
  blk_simp
  rw [after0_4]
  unfold out0_4
  canon_tiles x h using cover0_4 ..
  all_goals
    pointwise [k0_pay10, k0_pay9, k0_pay8, k0_pay7, k0_pay6, k0_pay5, proj]
  all_goals
    blk_point [iblk, V_main_arg0, V_main_arg1, V_main_arg2, V_main_arg3, idx0 t, idx1 t, idx2 t, idx3 t, idx4 t]

/-- The planes array after the run: plane `j 0` holds columns `1792 + 64 (j 0)` onwards of the projection. -/
theorem final5 (c : Dev nD) : (dats (F := Ideal) m 0 c).arrAt 5 cfg0.N = fun j : S4x65536x64.Idx =>
    proj (m ((c : Thread nD τ).loc main_arg0)) (m ((c : Thread nD τ).loc main_arg1)) (m ((c : Thread nD τ).loc main_arg2)) (m ((c : Thread nD τ).loc main_arg3)) (j 1)
      ⟨1792 + (j 0).val * 64 + (j 2).val, by have := (j 0).isLt; have := (j 2).isLt; simp at *; omega⟩ := by
  refine (dats (F := Ideal) m 0 c).arrAt_eq_of_covers 5 _ (by decide +kernel) fun t hf y => ?_
  blk_simp
  rw [after0_5]
  unfold out0_5
  canon_tiles x h using cover0_5 ..
  all_goals
    pointwise [k0_pay1, k0_pay2, k0_pay3, k0_pay4, k0_pay10, k0_pay9, k0_pay5, proj]
  all_goals
    blk_point [iblk, V_main_arg0, V_main_arg1, V_main_arg2, V_main_arg3, idx0 t, idx1 t, idx2 t, idx3 t, idx5 t]

/-- The reference's planes. -/
theorem ref_planes (x : FVec Ideal S65536x1024 .f32) (sc sh : FVec Ideal S32x1x1024 .f32) (w : FVec Ideal S1024x2048 .bf16)
    (j : S4x65536x64.Idx) :
    ModRefIdeal.Read.val_main_v14 (F := Ideal) x sc sh w j = proj x sc sh w (j 1)
      ⟨1792 + (j 0).val * 64 + (j 2).val, by have := (j 0).isLt; have := (j 2).isLt; simp at *; omega⟩ := by
  rw [ModRefIdeal.Read.val_main_v14_apply, ModRefIdeal.Read.val_main_v12_apply, ModRefIdeal.Read.val_main_v11_apply,
    ModRefIdeal.Read.val_main_v10_apply]
  refine (ref_proj x sc sh w _).trans ?_
  have h0 : (j 0).val < 4 := (j 0).isLt
  have h1 : (j 1).val < 65536 := (j 1).isLt
  have h2 : (j 2).val < 64 := (j 2).isLt
  congr 1
  · apply Fin.ext
    show (((j 1).val * 4 + (j 0).val) * 64 + (j 2).val) / 256 = (j 1).val
    omega
  · apply Fin.ext
    show 1792 + (((j 1).val * 4 + (j 0).val) * 64 + (j 2).val) % 256 = 1792 + (j 0).val * 64 + (j 2).val
    omega

/-- The reference terminates, keeps its arguments and leaves every counter at zero. -/
theorem frame_ref : Cert.quiescent_ModRefIdeal := fun m ρ _ =>
  (θ_run Cert.ModRefIdeal.defs _ _).mono (fun r h => ⟨fun c => (h c).2.2,
      Idealize.ShloMosaic.sem_eq_zero_of_no_sems (by decide) r.2⟩)
    (Cert.ModRefIdeal.Value.run (F := Ideal) m ρ)

/-- The kernel's projection and planes are the reference's, for all arguments. -/
theorem algebraic : Cert.algebraic_ModIdeal_ModRefIdeal := by
  intro m ρ m' ρ' _ hagree
  refine ⟨fun c => (dats (F := Ideal) m 0 c).arrAt 4 cfg0.N, fun c => (dats (F := Ideal) m 0 c).arrAt 5 cfg0.N,
    Cert.ModIdeal.Value.run_blocks (F := Ideal) m ρ, ?_⟩
  refine (θ_run Cert.ModRefIdeal.defs _ _).mono (fun _ h c => ?_) (Cert.ModRefIdeal.Value.run (F := Ideal) m' ρ')
  obtain ⟨e0, e1, e2, e3⟩ := hagree c
  refine ⟨(h c).1.trans ?_, (h c).2.1.trans ?_, (h c).2.2⟩
  · rw [ModRefIdeal.Read.val_main_v13_eq, e0, e1, e2, e3]
    refine Eq.trans (funext fun j => ref_proj _ _ _ _ j) (final4 m c).symm
  · rw [ModRefIdeal.Read.val_main_v14_eq, e0, e1, e2, e3]
    refine Eq.trans (funext fun j => ref_planes _ _ _ _ j) (final5 m c).symm

end Cert.Proof.ModValue

end
-- ==== Proof.MlaScores.lean ====
/-
  THE SCORES OF ONE BLOCK OF ATTENTION. A block is one sequence and two heads; its 2048 queries are walked in eight tiles of 256,
  and tile `n` meets the first `256 (n + 1)` keys. Here: what the eight score arrays hold.
-/
module

public import proofs.«01_k».proof.Defs
public import proofs.«01_k».proof.Proof.Gen.MlaIdeal.Value
public import Idealize.ShloMosaic.Lib.Pipeline.ValueKit
public import Idealize.ShloMosaic.Lib.Pointwise
public import Idealize.ShloMosaic.Lib.WholeRead

@[expose] public section

noncomputable section

namespace Cert.Proof.MlaScores

open Idealize.ShloMosaic Idealize.ShloMosaic.TcCoe Idealize.SL.Sem
open Cert.MlaIdeal Cert.MlaIdeal.Gen

/-- The score of query row `qi` and key row `ki` of head `h` of the block: their product over the head's 128 columns, and the mask. -/
def sc (q k : S2048x256.Idx → EReal) (qi ki : Fin 2048) (h : Fin 2) : EReal :=
  (∑ e : Fin 128, k (ix2 ki ⟨128 * h.val + e.val, by omega⟩) * q (ix2 qi ⟨128 * h.val + e.val, by omega⟩))
    + (if ki.val ≤ qi.val then 0 else ⊥)

/-- Two pairs of coordinates with equal values are the same index. -/
theorem ix2_eq {a b : Nat} {i i' : Fin a} {j j' : Fin b} (hi : i.val = i'.val) (hj : j.val = j'.val) : ix2 i j = ix2 i' j' := by
  rw [Fin.ext hi, Fin.ext hj]

/-- A load of a rectangle of a two-axis memref that holds `X` reads `X` at the rectangle's place. -/
theorem rd {κ : Kind} {sp : Space} {e : EltTy} {R C r s o p : Nat} (m : Memref sig κ sp (⟨2, ![R, C]⟩ : Shape) e) (h : m.IsWhole)
    (X : (⟨2, ![R, C]⟩ : Shape).Idx → Elt Ideal e) (inb : ∀ a, (![o, p] : Fin 2 → Nat) a + (![r, s] : Fin 2 → Nat) a ≤ (⟨2, ![R, C]⟩ : Shape).size a)
    (i : Fin r) (j : Fin s) :
    View.readAt (Elt Ideal) m.view (Rect.unit (s := (⟨2, ![R, C]⟩ : Shape)) ![o, p] ![r, s] inb).toLoadRect (h.unread X) (ix2 i j)
      = X (ix2 ⟨o + i.val, by have := inb 0; simp at this; omega⟩ ⟨p + j.val, by have := inb 1; simp at this; omega⟩) := by
  refine (h.readAt_unread X _ _).trans (congrArg X (funext fun a => ?_))
  match a with
  | 0 => exact Fin.ext (by simp [LoadRect.idx_apply])
  | 1 => exact Fin.ext (by simp [LoadRect.idx_apply])

variable (c : Dev nD) (a2 : Memref sig .tc .vmem S2048x256 .bf16) (h2 : a2.IsWhole) (a3 : Memref sig .tc .vmem S2048x256 .bf16)
  (h3 : a3.IsWhole) (a5 : Memref sig .tc .vmem S256x256 .f32) (h5 : a5.IsWhole)
  (x0 x1 : Vec Ideal S2048x256 .bf16) (x3 : Vec Ideal S256x256 .f32)

set_option maxHeartbeats 4000000 in
open kernelRun0_A in
/-- The score arrays hold the scores: row `k` is a key, column `j` is query `j % 256` of the tile for head `j / 256`. -/
theorem scores (hx3 : ∀ k j : Fin 256, x3 (ix2 k j) = if k.val ≤ j.val then 0 else 1) :
    (∀ (k : Fin 256) (j : Fin 512), sl.v32 c a2 h2 a3 h3 a5 h5 x0 x1 x3 (ix2 k j) = sc x0 x1 ⟨0 + j.val % 256, by omega⟩ ⟨k.val, by omega⟩ ⟨j.val / 256, by omega⟩) ∧
    (∀ (k : Fin 512) (j : Fin 512), sl.v56 c a2 h2 a3 h3 a5 h5 x0 x1 x3 (ix2 k j) = sc x0 x1 ⟨256 + j.val % 256, by omega⟩ ⟨k.val, by omega⟩ ⟨j.val / 256, by omega⟩) ∧
    (∀ (k : Fin 768) (j : Fin 512), sl.v106 c a2 h2 a3 h3 a5 h5 x0 x1 x3 (ix2 k j) = sc x0 x1 ⟨512 + j.val % 256, by omega⟩ ⟨k.val, by omega⟩ ⟨j.val / 256, by omega⟩) ∧
    (∀ (k : Fin 1024) (j : Fin 512), sl.v171 c a2 h2 a3 h3 a5 h5 x0 x1 x3 (ix2 k j) = sc x0 x1 ⟨768 + j.val % 256, by omega⟩ ⟨k.val, by omega⟩ ⟨j.val / 256, by omega⟩) ∧
    (∀ (k : Fin 1280) (j : Fin 512), sl.v251 c a2 h2 a3 h3 a5 h5 x0 x1 x3 (ix2 k j) = sc x0 x1 ⟨1024 + j.val % 256, by omega⟩ ⟨k.val, by omega⟩ ⟨j.val / 256, by omega⟩) ∧
    (∀ (k : Fin 1536) (j : Fin 512), sl.v346 c a2 h2 a3 h3 a5 h5 x0 x1 x3 (ix2 k j) = sc x0 x1 ⟨1280 + j.val % 256, by omega⟩ ⟨k.val, by omega⟩ ⟨j.val / 256, by omega⟩) ∧
    (∀ (k : Fin 1792) (j : Fin 512), sl.v456 c a2 h2 a3 h3 a5 h5 x0 x1 x3 (ix2 k j) = sc x0 x1 ⟨1536 + j.val % 256, by omega⟩ ⟨k.val, by omega⟩ ⟨j.val / 256, by omega⟩) ∧
    (∀ (k : Fin 2048) (j : Fin 512), sl.v581 c a2 h2 a3 h3 a5 h5 x0 x1 x3 (ix2 k j) = sc x0 x1 ⟨1792 + j.val % 256, by omega⟩ ⟨k.val, by omega⟩ ⟨j.val / 256, by omega⟩) := by
  have hmask : (Named.named (F := Ideal) κ "mask" 4048155338#32 : Ideal .f32) = (⊥ : EReal) := rfl
  have hm : ∀ k j : Fin 256, x3 (ix2 k j) * (⊥ : EReal) = if k.val ≤ j.val then 0 else ⊥ := fun k j => by
    rw [hx3]; split_ifs <;> simp
  refine ⟨?_, ?_, ?_, ?_, ?_, ?_, ?_, ?_⟩
  all_goals
    intro k j
    pointwise [sl.r, sl.r_1, sl.r_2, sl.v30, sl.v31, sl.v32, sl.v44, sl.v45, sl.v46, sl.v47, sl.v48, sl.v51, sl.v52, sl.v53, sl.v54,
      sl.v55, sl.v56, sl.v94, sl.v95, sl.v96, sl.v97, sl.v98, sl.v101, sl.v102, sl.v103, sl.v104, sl.v105, sl.v106, sl.v159,
      sl.v160, sl.v161, sl.v162, sl.v163, sl.v166, sl.v167, sl.v168, sl.v169, sl.v170, sl.v171, sl.v239, sl.v240, sl.v241,
      sl.v242, sl.v243, sl.v246, sl.v247, sl.v248, sl.v249, sl.v250, sl.v251, sl.v334, sl.v335, sl.v336, sl.v337, sl.v338,
      sl.v341, sl.v342, sl.v343, sl.v344, sl.v345, sl.v346, sl.v444, sl.v445, sl.v446, sl.v447, sl.v448, sl.v451, sl.v452,
      sl.v453, sl.v454, sl.v455, sl.v456, sl.v569, sl.v570, sl.v571, sl.v572, sl.v573, sl.v576, sl.v577, sl.v578, sl.v579,
      sl.v580, sl.v581, sl.cst_20, sl.cst_30, sl.cst_59, sl.cst_100, sl.cst_152, sl.cst_215, sl.cst_289, sl.cst_374, k0_pay2,
      k0_pay9]
    split_ifs
    all_goals first
      | contradiction
      | (simp only [rd]
         exact (add_zero _).symm.trans (congrArg₂ (· + ·) (Finset.sum_congr rfl fun e _ => congrArg₂ (· * ·)
           (congrArg x1 (ix2_eq (by dsimp only; omega) (by dsimp only; omega)))
           (congrArg x0 (ix2_eq (by dsimp only; omega) (by dsimp only; omega)))) (if_pos (by dsimp only; omega)).symm))
      | (simp only [hmask, rd, hm]
         exact congrArg₂ (· + ·) (Finset.sum_congr rfl fun e _ => congrArg₂ (· * ·)
           (congrArg x1 (ix2_eq (by dsimp only; omega) (by dsimp only; omega)))
           (congrArg x0 (ix2_eq (by dsimp only; omega) (by dsimp only; omega))))
             (if_congr (by dsimp only; constructor <;> intro _ <;> omega) rfl rfl))

end Cert.Proof.MlaScores

end
-- ==== Proof.MlaReads.lean ====
/-
  READING THE SCRATCH BACK. The score arrays are stored in one of two slots of a scratch buffer and read back in chunks of 256 keys;
  the transposed values, with rows of ones below, lie in a second scratch buffer. Here: what the reads give.
-/
module

public import proofs.«01_k».proof.Proof.MlaScores
public import Idealize.ShloMosaic.Lib.Pipeline.ReadBack
public import Idealize.ShloMosaic.Lib.IdealHost

@[expose] public section

noncomputable section

namespace Cert.Proof.MlaReads

open Idealize.ShloMosaic Idealize.ShloMosaic.TcCoe Idealize.SL.Sem
open Cert.MlaIdeal Cert.MlaIdeal.Gen

/-- A chunk of 256 keys read from a slot whose last store is the array `w` is those rows of `w`. -/
theorem chunk_hit {κ : Kind} {sp : Space} (v : View sig κ sp S2x2048x512 .f32) {n sl o : Nat}
    (i1 : ∀ a, (![sl, 0, 0] : Fin 3 → Nat) a + S1x2048x512.size a ≤ S2x2048x512.size a)
    (i2 : ∀ a, (![0, 0] : Fin 2 → Nat) a + (![n, 512] : Fin 2 → Nat) a ≤ S2048x512.size a)
    (i3 : ∀ a, (![o, 0] : Fin 2 → Nat) a + S256x512.size a ≤ S2048x512.size a)
    (h0 h0' : (![1, 2048, 512] : Fin 3 → Nat) 0 = 1) (hs hs' : ∀ i : Fin 2, (![1, 2048, 512] : Fin 3 → Nat) i.succ = S2048x512.size i)
    (h₀ h₀' : ∀ a, (Rect.unit (s := S2x2048x512) ![sl, 0, 0] S1x2048x512.size i1).stride a = 1)
    (hR : _) (hR' : _) (w : (⟨2, ![n, 512]⟩ : Shape).Idx → EReal) (L : List (View.Piece (Elt Ideal) S2x2048x512 .f32))
    (ho : o + 256 ≤ n) (k : Fin 256) (j : Fin 512) :
    LoadRect.valAlong (lr := (Rect.unit (s := S2048x512) ![o, 0] S256x512.size i3).toLoadRect) hR'
      (v.readCov (Val := Elt Ideal) (⟨(Rect.unit (s := S2x2048x512) ![sl, 0, 0] S1x2048x512.size i1).within
          ((Rect.unit (s := S2048x512) ![0, 0] ![n, 512] i2).consLift ![1, 2048, 512] h0 hs) h₀,
          Rect.payAlong (r := Rect.unit (s := S2048x512) ![0, 0] ![n, 512] i2) hR w⟩ :: L)
        ((Rect.unit (s := S2x2048x512) ![sl, 0, 0] S1x2048x512.size i1).withinL
          ((Rect.unit (s := S2048x512) ![o, 0] S256x512.size i3).toLoadRect.consLift ![1, 2048, 512] h0' hs') h₀')) (ix2 k j)
      = w (ix2 ⟨o + k.val, by omega⟩ j) := by
  rw [View.readCov_eq_canon']
  have hz : Shape.reshapeEquiv hR' (ix2 k j) = Fin.cons ⟨0, Nat.one_pos⟩ (ix2 k j) :=
    Shape.reshapeEquiv_cons_one (d := S256x512.size) _ _
  let y : ((Rect.unit (s := S2048x512) ![0, 0] ![n, 512] i2).consLift ![1, 2048, 512] h0 hs).shape.Idx :=
    Fin.cons ⟨0, Nat.one_pos⟩ (ix2 ⟨o + k.val, by omega⟩ j)
  have he : (((Rect.unit (s := S2x2048x512) ![sl, 0, 0] S1x2048x512.size i1).withinL
          ((Rect.unit (s := S2048x512) ![o, 0] S256x512.size i3).toLoadRect.consLift ![1, 2048, 512] h0' hs') h₀').idx
        (Shape.reshapeEquiv hR' (ix2 k j))) = (Rect.unit (s := S2x2048x512) ![sl, 0, 0] S1x2048x512.size i1).emb
          (((Rect.unit (s := S2048x512) ![0, 0] ![n, 512] i2).consLift ![1, 2048, 512] h0 hs).emb y) := by
    refine (congrArg _ hz).trans (funext fun a => ?_)
    match a with
    | 0 => exact Fin.ext (show sl + 0 + 1 * 0 = sl + 1 * (0 + 1 * 0) by omega)
    | 1 => exact Fin.ext (show 0 + o + 1 * k.val = 0 + 1 * (0 + 1 * (o + k.val)) by omega)
    | 2 => exact Fin.ext (show 0 + 0 + 1 * j.val = 0 + 1 * (0 + 1 * j.val) by omega)
  refine (congrArg (View.canon _) he).trans ?_
  rw [View.canon_cons_within_emb]
  refine (Rect.payAlong_consLift (Rect.unit (s := S2048x512) ![0, 0] ![n, 512] i2) ![1, 2048, 512] h0 hs w hR y
    (ix2 ⟨o + k.val, by omega⟩ j) fun i => ?_)
  match i with
  | 0 => rfl
  | 1 => rfl

/-- A store to the other slot does not touch a chunk read. -/
theorem chunk_skip {κ : Kind} {sp : Space} (v : View sig κ sp S2x2048x512 .f32) {lr : LoadRect S2048x512} {B : LoadRect S2x2048x512}
    (hR : lr.shape.numel = B.shape.numel) (p : View.Piece (Elt Ideal) S2x2048x512 .f32) (L : List (View.Piece (Elt Ideal) S2x2048x512 .f32))
    (x : lr.shape.Idx) (h : LoadRect.disj p.1 B = true) :
    LoadRect.valAlong hR (v.readCov (Val := Elt Ideal) (p :: L) B) x = LoadRect.valAlong hR (v.readCov (Val := Elt Ideal) L B) x :=
  congrFun (View.readCov_skip v p.1 p.2 L B h) _

/-- A rectangle of rows of a two-axis array, over all the columns, holds every index whose row lies in it. -/
theorem rows_mem {A B o n : Nat} (inb : ∀ a, (![o, 0] : Fin 2 → Nat) a + (![n, B] : Fin 2 → Nat) a ≤ (⟨2, ![A, B]⟩ : Shape).size a)
    (y : (⟨2, ![A, B]⟩ : Shape).Idx) (h : o ≤ (y 0).val) (h' : (y 0).val < o + n) :
    y ∈ (Rect.unit (s := (⟨2, ![A, B]⟩ : Shape)) ![o, 0] ![n, B] inb).set := by
  refine (LoadRect.mem_set _).mpr fun a => ?_
  match a with
  | 0 => exact ⟨(y 0).val - o, show (y 0).val - o < n by omega, show (y 0).val = o + 1 * ((y 0).val - o) by omega⟩
  | 1 => exact ⟨(y 1).val, (y 1).isLt, show (y 1).val = 0 + 1 * (y 1).val by omega⟩

/-- Every index of a two-axis array is a pair of coordinates. -/
theorem ix_pair {a b : Nat} (x : (⟨2, ![a, b]⟩ : Shape).Idx) : ∃ (i : Fin a) (j : Fin b), x = ix2 i j :=
  ⟨x 0, x 1, funext fun q => by match q with | 0 => rfl | 1 => rfl⟩

/-- A row of the identity against a column gives the column's entry in that place. -/
theorem ident_sum (i : Nat) (hi : 0 + i < 128) (f : Fin 128 → EReal) :
    (∑ e : Fin 128, (if (⟨0 + i, hi⟩ : Fin 128) = ⟨0 + e.val, by omega⟩ then 1 else 0) * f e) = f ⟨i, by omega⟩ := by
  refine (Finset.sum_eq_single (⟨i, by omega⟩ : Fin 128) (fun b _ hb => ?_) (by simp)).trans ?_
  · rw [if_neg fun h => hb (Fin.ext (show b.val = i by have e : 0 + i = 0 + b.val := congrArg Fin.val h; omega)), zero_mul]
  · rw [if_pos rfl, one_mul]

/-- Row `r` and key `k` of the transposed values: per head of 80 rows, the head's 64 value columns, then ones. -/
def vt (x : S2048x128.Idx → EReal) (r : Fin 160) (k : Fin 2048) : EReal :=
  if r.val % 80 < 64 then x (ix2 k ⟨64 * (r.val / 80) + r.val % 80 % 64, by omega⟩) else 1

section
variable (c : Dev nD) (a4 : Memref sig .tc .vmem S2048x128 .bf16) (h4 : a4.IsWhole) (a6 : Memref sig .tc .vmem S128x128 .bf16)
  (h6 : a6.IsWhole) (a8 : Memref sig .tc .vmem S160x2048 .bf16) (x2 : Vec Ideal S2048x128 .bf16) (x4 : Vec Ideal S128x128 .bf16)

open kernelRun0_A in
/-- The second scratch buffer holds the transposed values. -/
theorem vt_canon (hx4 : ∀ i j : Fin 128, x4 (ix2 i j) = if i = j then 1 else 0) (y : S160x2048.Idx) :
    View.canon (Val := Elt Ideal) (sl.HS0_4 c a4 h4 a6 h6 x2 x4) y = vt x2 (y 0) (y 1) := by
  unfold sl.HS0_4
  have hy : (y 0).val < 160 := (y 0).isLt
  have hc : ∀ w8 w7 w6 w5, ∃ p ∈ ([⟨Rect.unit (s := S160x2048) ![144, 0] S16x2048.size inb_S160x2048_S16x2048_144_0, w8⟩,
      ⟨Rect.unit (s := S160x2048) ![80, 0] S64x2048.size inb_S160x2048_S64x2048_80_0, w7⟩,
      ⟨Rect.unit (s := S160x2048) ![64, 0] S16x2048.size inb_S160x2048_S16x2048_64_0, w6⟩,
      ⟨Rect.unit (s := S160x2048) ![0, 0] S64x2048.size inb_S160x2048_S64x2048_0_0, w5⟩] :
        List (View.Piece (Elt Ideal) S160x2048 .bf16)), y ∈ p.1.set := by
    intro w8 w7 w6 w5
    by_cases g1 : 144 ≤ (y 0).val
    · exact ⟨_, List.mem_cons_self, rows_mem (n := 16) inb_S160x2048_S16x2048_144_0 y g1 (by omega)⟩
    by_cases g2 : 80 ≤ (y 0).val
    · exact ⟨_, List.mem_cons_of_mem _ List.mem_cons_self, rows_mem (n := 64) inb_S160x2048_S64x2048_80_0 y g2 (by omega)⟩
    by_cases g3 : 64 ≤ (y 0).val
    · exact ⟨_, List.mem_cons_of_mem _ (List.mem_cons_of_mem _ List.mem_cons_self),
        rows_mem (n := 16) inb_S160x2048_S16x2048_64_0 y g3 (by omega)⟩
    · exact ⟨_, List.mem_cons_of_mem _ (List.mem_cons_of_mem _ (List.mem_cons_of_mem _ List.mem_cons_self)),
        rows_mem (n := 64) inb_S160x2048_S64x2048_0_0 y (by omega) (by omega)⟩
  canon_tiles x h using hc _ _ _ _
  all_goals
    obtain ⟨r, k, rfl⟩ := ix_pair x
    have e0 : (ix2 r k 0).val = r.val := rfl
    have e1 : (ix2 r k 1).val = k.val := rfl
    pointwise [k0_pay5, k0_pay6, k0_pay7, k0_pay8, k0_pay3, k0_pay4, vt]
  all_goals first
    | (rw [if_neg (by omega)]; done)
    | (rw [if_pos (show (y 0).val % 80 < 64 by omega)]
       simp only [MlaScores.rd, hx4]
       refine (ident_sum _ _ _).trans (congrArg x2 (MlaScores.ix2_eq ?_ ?_)) <;> dsimp only <;> omega)
end

end Cert.Proof.MlaReads

end
-- ==== Proof.MlaChunks.lean ====
/-
  THE MAXIMA AND THE CHUNKS. Each tile of 256 queries takes a row maximum of its scores, which is a real number, and reads its scores
  and the transposed values back from the scratch buffers in chunks of 256 keys. Here: what those reads give.
-/
module

public import proofs.«01_k».proof.Proof.MlaReads

@[expose] public section

noncomputable section

namespace Cert.Proof.MlaChunks

open Idealize.ShloMosaic Idealize.ShloMosaic.TcCoe Idealize.SL.Sem
open Cert.MlaIdeal Cert.MlaIdeal.Gen
open Cert.Proof.MlaScores Cert.Proof.MlaReads

/-- An extended real that is a real number. -/
def Real1 (x : EReal) : Prop := ∃ r : ℝ, x = (r : EReal)

/-- What is neither infinity is a real number. -/
theorem real1_of {x : EReal} (ht : x ≠ ⊤) (hb : x ≠ ⊥) : Real1 x := ⟨x.toReal, (EReal.coe_toReal ht hb).symm⟩

/-- The accumulated products of one row of the transposed values with the weights of query `q`, over the first `n` chunks. -/
def acc (x0 x1 : S2048x256.Idx → EReal) (x2 : S2048x128.Idx → EReal) (n : Nat) (q : Fin 2048) (h : Fin 2) (m : EReal) (r : Fin 160) : EReal :=
  ∑ t ∈ Finset.range n, ∑ x : Fin 256, vt x2 r ⟨(256 * t + x.val) % 2048, by omega⟩
    * Ideal.exp2 (sc x0 x1 q ⟨(256 * t + x.val) % 2048, by omega⟩ h - m)

/-- What a tile leaves for query `q` and value column `d`: the weighted values over the sum of the weights. -/
def tile (x0 x1 : S2048x256.Idx → EReal) (x2 : S2048x128.Idx → EReal) (n : Nat) (q : Fin 2048) (d : Fin 128) (m : EReal) : EReal :=
  acc x0 x1 x2 n q ⟨d.val / 64, by omega⟩ m ⟨80 * (d.val / 64) + d.val % 64, by omega⟩
    * Ideal.div 1 (acc x0 x1 x2 n q ⟨d.val / 64, by omega⟩ m ⟨80 * (d.val / 64) + 64, by omega⟩)

/-- A maximum over the rows, taken in two steps from minus infinity, is real if no entry is plus infinity and one is not minus infinity. -/
theorem fold_real {a b : Nat} (f : Fin a → Fin b → EReal) (ht : ∀ x y, f x y ≠ ⊤) (hb : ∃ x y, f x y ≠ ⊥) :
    Real1 (Finset.fold max (Ideal.ofBits FTy.f32 4286578688#32) (fun x => Finset.fold max (Ideal.ofBits FTy.f32 4286578688#32) (fun y => f x y)
      Finset.univ) Finset.univ) := by
  have hbot : Ideal.ofBits FTy.f32 4286578688#32 = ⊥ := by simp [Ideal.ofBits, Ideal.ieee]
  rw [hbot]
  refine real1_of ?_ ?_
  · exact ne_of_lt ((Finset.fold_max_lt _).2 ⟨bot_lt_top, fun x _ => (Finset.fold_max_lt _).2 ⟨bot_lt_top, fun y _ => lt_top_iff_ne_top.2 (ht x y)⟩⟩)
  · obtain ⟨x, y, h⟩ := hb
    refine ne_of_gt (lt_of_lt_of_le (bot_lt_iff_ne_bot.2 h) ?_)
    exact (Finset.le_fold_max _).2 (Or.inr ⟨x, Finset.mem_univ _, (Finset.le_fold_max _).2 (Or.inr ⟨y, Finset.mem_univ _, le_rfl⟩)⟩)

/-- A product of real numbers is real. -/
theorem real1_mul {x y : EReal} (hx : Real1 x) (hy : Real1 y) : Real1 (x * y) := by
  obtain ⟨a, rfl⟩ := hx
  obtain ⟨b, rfl⟩ := hy
  exact ⟨a * b, (EReal.coe_mul a b).symm⟩

/-- A finite sum of real numbers is real. -/
theorem real1_sum {ι : Type} (s : Finset ι) {f : ι → EReal} (hf : ∀ i, Real1 (f i)) : Real1 (∑ i ∈ s, f i) := by
  choose g hg using hf
  refine ⟨∑ i ∈ s, g i, ?_⟩
  rw [Finset.sum_congr rfl fun i _ => hg i]
  classical
  refine Finset.induction_on s (by simp) fun a t ha ih => ?_
  rw [Finset.sum_insert ha, Finset.sum_insert ha, ih, EReal.coe_add]

/-- The scores of real queries and keys are never plus infinity, and the first key's score is real. -/
theorem sc_real {x0 x1 : S2048x256.Idx → EReal} (hx0 : ∀ y, Real1 (x0 y)) (hx1 : ∀ y, Real1 (x1 y)) (q k : Fin 2048) (h : Fin 2) :
    sc x0 x1 q k h ≠ ⊤ ∧ (k.val = 0 → sc x0 x1 q k h ≠ ⊥) := by
  obtain ⟨r, hr⟩ := real1_sum Finset.univ fun e : Fin 128 =>
    real1_mul (hx1 (ix2 k ⟨128 * h.val + e.val, by omega⟩)) (hx0 (ix2 q ⟨128 * h.val + e.val, by omega⟩))
  have hs : sc x0 x1 q k h = (r : EReal) + (if k ≤ q then 0 else ⊥) := by rw [← hr]; rfl
  rw [hs]
  refine ⟨?_, fun hk => ?_⟩
  · split_ifs <;> simp
  · rw [if_pos (Fin.le_def.2 (by omega))]; simp

variable (c : Dev nD) (a2 : Memref sig .tc .vmem S2048x256 .bf16) (h2 : a2.IsWhole) (a3 : Memref sig .tc .vmem S2048x256 .bf16)
  (h3 : a3.IsWhole) (a4 : Memref sig .tc .vmem S2048x128 .bf16) (h4 : a4.IsWhole) (a5 : Memref sig .tc .vmem S256x256 .f32)
  (h5 : a5.IsWhole) (a6 : Memref sig .tc .vmem S128x128 .bf16) (h6 : a6.IsWhole) (a8 : Memref sig .tc .vmem S160x2048 .bf16)
  (a9 : Memref sig .tc .vmem S2x2048x512 .f32)
  (x0 x1 : Vec Ideal S2048x256 .bf16) (x2 : Vec Ideal S2048x128 .bf16) (x3 : Vec Ideal S256x256 .f32) (x4 : Vec Ideal S128x128 .bf16)

set_option maxHeartbeats 4000000 in
open kernelRun0_A in
/-- The row maxima of the eight tiles are real. -/
theorem maxima (hx3 : ∀ k j : Fin 256, x3 (ix2 k j) = if k.val ≤ j.val then 0 else 1) (hx0 : ∀ y, Real1 (x0 y)) (hx1 : ∀ y, Real1 (x1 y)) :
    (∀ j : Fin 512, Real1 (sl.v41 c a2 h2 a3 h3 a5 h5 x0 x1 x3 (ix2 0 j))) ∧
    (∀ j : Fin 512, Real1 (sl.v65 c a2 h2 a3 h3 a5 h5 x0 x1 x3 (ix2 0 j))) ∧
    (∀ j : Fin 512, Real1 (sl.v115 c a2 h2 a3 h3 a5 h5 x0 x1 x3 (ix2 0 j))) ∧
    (∀ j : Fin 512, Real1 (sl.v180 c a2 h2 a3 h3 a5 h5 x0 x1 x3 (ix2 0 j))) ∧
    (∀ j : Fin 512, Real1 (sl.v260 c a2 h2 a3 h3 a5 h5 x0 x1 x3 (ix2 0 j))) ∧
    (∀ j : Fin 512, Real1 (sl.v355 c a2 h2 a3 h3 a5 h5 x0 x1 x3 (ix2 0 j))) ∧
    (∀ j : Fin 512, Real1 (sl.v465 c a2 h2 a3 h3 a5 h5 x0 x1 x3 (ix2 0 j))) ∧
    (∀ j : Fin 512, Real1 (sl.v590 c a2 h2 a3 h3 a5 h5 x0 x1 x3 (ix2 0 j))) := by
  obtain ⟨s0, s1, s2, s3, s4, s5, s6, s7⟩ := scores c a2 h2 a3 h3 a5 h5 x0 x1 x3 hx3
  refine ⟨?_, ?_, ?_, ?_, ?_, ?_, ?_, ?_⟩
  all_goals
    intro j
    pointwise [sl.v38, sl.v39, sl.v40, sl.v41, sl.v62, sl.v63, sl.v64, sl.v65, sl.v112, sl.v113, sl.v114, sl.v115, sl.v177, sl.v178, sl.v179,
      sl.v180, sl.v257, sl.v258, sl.v259, sl.v260, sl.v352, sl.v353, sl.v354, sl.v355, sl.v462, sl.v463, sl.v464, sl.v465, sl.v587,
      sl.v588, sl.v589, sl.v590]
    simp only [s0, s1, s2, s3, s4, s5, s6, s7]
    exact fold_real _ (fun x y => (sc_real hx0 hx1 _ _ _).1) ⟨0, 0, (sc_real hx0 hx1 _ _ _).2 rfl⟩

/-- A read of the second scratch buffer gives the transposed values. -/
theorem vt_read (hx4 : ∀ i j : Fin 128, x4 (ix2 i j) = if i = j then 1 else 0) {o p : Nat}
    (inb : ∀ a, (![o, p] : Fin 2 → Nat) a + S80x256.size a ≤ S160x2048.size a) (r : Fin 80) (k : Fin 256) :
    View.readCov (Val := Elt Ideal) a8.view (kernelRun0_A.sl.HS0_4 c a4 h4 a6 h6 x2 x4) (Rect.unit (s := S160x2048) ![o, p] S80x256.size inb).toLoadRect (ix2 r k)
      = vt x2 ⟨o + r.val, by have := inb 0; simp at this; omega⟩ ⟨p + k.val, by have := inb 1; simp at this; omega⟩ := by
  rw [View.readCov_eq_canon']
  refine (vt_canon c a4 h4 a6 h6 x2 x4 hx4 _).trans (congrArg₂ (vt x2) (Fin.ext ?_) (Fin.ext ?_))
  · show o + 1 * r.val = o + r.val; omega
  · show p + 1 * k.val = p + k.val; omega

/-- The chunks read from slot `sl` of a buffer with the stores `L` are the scores of tile `n`. -/
def ChunkHolds (x0 x1 : S2048x256.Idx → EReal) (L : List (View.Piece (Elt Ideal) S2x2048x512 .f32)) (sl n : Nat) (hn : n < 8) : Prop :=
  ∀ (o : Nat) (i3 : ∀ a, (![o, 0] : Fin 2 → Nat) a + S256x512.size a ≤ S2048x512.size a) (h0' : (![1, 2048, 512] : Fin 3 → Nat) 0 = 1)
    (hs' : ∀ i : Fin 2, (![1, 2048, 512] : Fin 3 → Nat) i.succ = S2048x512.size i)
    (i1 : ∀ a, (![sl, 0, 0] : Fin 3 → Nat) a + S1x2048x512.size a ≤ S2x2048x512.size a)
    (h₀' : ∀ a, (Rect.unit (s := S2x2048x512) ![sl, 0, 0] S1x2048x512.size i1).stride a = 1) (hR' : _) (_ : o + 256 ≤ 256 * (n + 1))
    (k : Fin 256) (j : Fin 512) (q key : Fin 2048) (h : Fin 2) (_ : q.val = 256 * n + j.val % 256) (_ : key.val = o + k.val) (_ : h.val = j.val / 256),
    LoadRect.valAlong (lr := (Rect.unit (s := S2048x512) ![o, 0] S256x512.size i3).toLoadRect) hR'
      (a9.view.readCov (Val := Elt Ideal) L
        ((Rect.unit (s := S2x2048x512) ![sl, 0, 0] S1x2048x512.size i1).withinL
          ((Rect.unit (s := S2048x512) ![o, 0] S256x512.size i3).toLoadRect.consLift ![1, 2048, 512] h0' hs') h₀')) (ix2 k j)
      = sc x0 x1 q key h

set_option maxHeartbeats 4000000 in
open kernelRun0_A in
/-- The stored score arrays, read back in chunks. -/
theorem chunks (hx3 : ∀ k j : Fin 256, x3 (ix2 k j) = if k.val ≤ j.val then 0 else 1) :
    ChunkHolds a9 x0 x1 (sl.HS1_2 c a2 h2 a3 h3 a5 h5 x0 x1 x3) 0 0 (by omega) ∧
    ChunkHolds a9 x0 x1 (sl.HS1_3 c a2 h2 a3 h3 a5 h5 x0 x1 x3) 1 1 (by omega) ∧
    ChunkHolds a9 x0 x1 (sl.HS1_4 c a2 h2 a3 h3 a5 h5 x0 x1 x3) 0 2 (by omega) ∧
    ChunkHolds a9 x0 x1 (sl.HS1_5 c a2 h2 a3 h3 a5 h5 x0 x1 x3) 1 3 (by omega) ∧
    ChunkHolds a9 x0 x1 (sl.HS1_6 c a2 h2 a3 h3 a5 h5 x0 x1 x3) 0 4 (by omega) ∧
    ChunkHolds a9 x0 x1 (sl.HS1_7 c a2 h2 a3 h3 a5 h5 x0 x1 x3) 1 5 (by omega) ∧
    ChunkHolds a9 x0 x1 (sl.HS1_8 c a2 h2 a3 h3 a5 h5 x0 x1 x3) 0 6 (by omega) ∧
    ChunkHolds a9 x0 x1 (sl.HS1_8 c a2 h2 a3 h3 a5 h5 x0 x1 x3) 1 7 (by omega) := by
  obtain ⟨s0, s1, s2, s3, s4, s5, s6, s7⟩ := scores c a2 h2 a3 h3 a5 h5 x0 x1 x3 hx3
  refine ⟨?_, ?_, ?_, ?_, ?_, ?_, ?_, ?_⟩
  all_goals intro o i3 h0' hs' i1 h₀' hR' ho k j q key h hq hk hh
  on_goal 1 => unfold sl.HS1_2; rw [chunk_skip _ _ _ _ _ (by rfl)]
  on_goal 2 => unfold sl.HS1_3; rw [chunk_skip _ _ _ _ _ (by rfl)]; unfold sl.HS1_2
  on_goal 3 => unfold sl.HS1_4; rw [chunk_skip _ _ _ _ _ (by rfl)]; unfold sl.HS1_3
  on_goal 4 => unfold sl.HS1_5; rw [chunk_skip _ _ _ _ _ (by rfl)]; unfold sl.HS1_4
  on_goal 5 => unfold sl.HS1_6; rw [chunk_skip _ _ _ _ _ (by rfl)]; unfold sl.HS1_5
  on_goal 6 => unfold sl.HS1_7; rw [chunk_skip _ _ _ _ _ (by rfl)]; unfold sl.HS1_6
  on_goal 7 => unfold sl.HS1_8; rw [chunk_skip _ _ _ _ _ (by rfl)]; unfold sl.HS1_7
  on_goal 8 => unfold sl.HS1_8
  all_goals
    refine (chunk_hit _ _ _ _ _ _ _ _ _ _ _ _ _ _ ho k j).trans ?_
    pointwise [sl.v37, sl.v61, sl.v111, sl.v176, sl.v256, sl.v351, sl.v461, sl.v586, s0, s1, s2, s3, s4, s5, s6, s7]
    exact congr (congrArg₂ (sc x0 x1) (Fin.ext (by dsimp only; omega)) (Fin.ext (by dsimp only; omega))) (Fin.ext (by dsimp only; omega))

end Cert.Proof.MlaChunks

end
-- ==== Proof.MlaTiles.lean ====
/-
  THE TILES OF ONE BLOCK OF ATTENTION. Each tile of 256 queries accumulates over chunks of 256 keys the
  weighted values and, in the row below them, the weights themselves. Here: what a tile's
  output holds, as sums over the chunks.
-/
module

public import proofs.«01_k».proof.Proof.MlaChunks

@[expose] public section

noncomputable section

namespace Cert.Proof.MlaTiles

open Idealize.ShloMosaic Idealize.ShloMosaic.TcCoe Idealize.SL.Sem
open Cert.MlaIdeal Cert.MlaIdeal.Gen
open Cert.Proof.MlaScores Cert.Proof.MlaReads Cert.Proof.MlaChunks

variable (c : Dev nD) (a2 : Memref sig .tc .vmem S2048x256 .bf16) (h2 : a2.IsWhole) (a3 : Memref sig .tc .vmem S2048x256 .bf16)
  (h3 : a3.IsWhole) (a4 : Memref sig .tc .vmem S2048x128 .bf16) (h4 : a4.IsWhole) (a5 : Memref sig .tc .vmem S256x256 .f32)
  (h5 : a5.IsWhole) (a6 : Memref sig .tc .vmem S128x128 .bf16) (h6 : a6.IsWhole) (a8 : Memref sig .tc .vmem S160x2048 .bf16)
  (a9 : Memref sig .tc .vmem S2x2048x512 .f32)
  (x0 x1 : Vec Ideal S2048x256 .bf16) (x2 : Vec Ideal S2048x128 .bf16) (x3 : Vec Ideal S256x256 .f32) (x4 : Vec Ideal S128x128 .bf16)

/-- One weighted term on both sides. -/
theorem term_congr {a a' b b' m m' : EReal} (ha : a = a') (hb : b = b') (hm : m = m') : a * Ideal.exp2 (b - m) = a' * Ideal.exp2 (b' - m') := by
  rw [ha, hb, hm]

set_option maxHeartbeats 8000000 in
open kernelRun0_A in
/-- The outputs of the eight tiles. -/
theorem tiles (hx3 : ∀ k j : Fin 256, x3 (ix2 k j) = if k.val ≤ j.val then 0 else 1)
    (hx4 : ∀ i j : Fin 128, x4 (ix2 i j) = if i = j then 1 else 0) :
    (∀ (i : Fin 256) (d : Fin 128), sl.v90 c a2 h2 a3 h3 a4 h4 a5 h5 a6 h6 a8 a9 x0 x1 x2 x3 x4 (ix2 i d)
      = tile x0 x1 x2 1 ⟨0 + i.val, by omega⟩ d (sl.v41 c a2 h2 a3 h3 a5 h5 x0 x1 x3 (ix2 0 ⟨256 * (d.val / 64) + i.val, by omega⟩))) ∧
    (∀ (i : Fin 256) (d : Fin 128), sl.v155 c a2 h2 a3 h3 a4 h4 a5 h5 a6 h6 a8 a9 x0 x1 x2 x3 x4 (ix2 i d)
      = tile x0 x1 x2 2 ⟨256 + i.val, by omega⟩ d (sl.v65 c a2 h2 a3 h3 a5 h5 x0 x1 x3 (ix2 0 ⟨256 * (d.val / 64) + i.val, by omega⟩))) ∧
    (∀ (i : Fin 256) (d : Fin 128), sl.v235 c a2 h2 a3 h3 a4 h4 a5 h5 a6 h6 a8 a9 x0 x1 x2 x3 x4 (ix2 i d)
      = tile x0 x1 x2 3 ⟨512 + i.val, by omega⟩ d (sl.v115 c a2 h2 a3 h3 a5 h5 x0 x1 x3 (ix2 0 ⟨256 * (d.val / 64) + i.val, by omega⟩))) ∧
    (∀ (i : Fin 256) (d : Fin 128), sl.v330 c a2 h2 a3 h3 a4 h4 a5 h5 a6 h6 a8 a9 x0 x1 x2 x3 x4 (ix2 i d)
      = tile x0 x1 x2 4 ⟨768 + i.val, by omega⟩ d (sl.v180 c a2 h2 a3 h3 a5 h5 x0 x1 x3 (ix2 0 ⟨256 * (d.val / 64) + i.val, by omega⟩))) ∧
    (∀ (i : Fin 256) (d : Fin 128), sl.v440 c a2 h2 a3 h3 a4 h4 a5 h5 a6 h6 a8 a9 x0 x1 x2 x3 x4 (ix2 i d)
      = tile x0 x1 x2 5 ⟨1024 + i.val, by omega⟩ d (sl.v260 c a2 h2 a3 h3 a5 h5 x0 x1 x3 (ix2 0 ⟨256 * (d.val / 64) + i.val, by omega⟩))) ∧
    (∀ (i : Fin 256) (d : Fin 128), sl.v565 c a2 h2 a3 h3 a4 h4 a5 h5 a6 h6 a8 a9 x0 x1 x2 x3 x4 (ix2 i d)
      = tile x0 x1 x2 6 ⟨1280 + i.val, by omega⟩ d (sl.v355 c a2 h2 a3 h3 a5 h5 x0 x1 x3 (ix2 0 ⟨256 * (d.val / 64) + i.val, by omega⟩))) ∧
    (∀ (i : Fin 256) (d : Fin 128), sl.v705 c a2 h2 a3 h3 a4 h4 a5 h5 a6 h6 a8 a9 x0 x1 x2 x3 x4 (ix2 i d)
      = tile x0 x1 x2 7 ⟨1536 + i.val, by omega⟩ d (sl.v465 c a2 h2 a3 h3 a5 h5 x0 x1 x3 (ix2 0 ⟨256 * (d.val / 64) + i.val, by omega⟩))) ∧
    (∀ (i : Fin 256) (d : Fin 128), k0_pay1 (sl.r_3 c a2 h2 a3 h3 a4 h4 a5 h5 a6 h6 a8 a9 x0 x1 x2 x3 x4) (ix2 i d)
      = tile x0 x1 x2 8 ⟨1792 + i.val, by omega⟩ d (sl.v590 c a2 h2 a3 h3 a5 h5 x0 x1 x3 (ix2 0 ⟨256 * (d.val / 64) + i.val, by omega⟩))) := by
  obtain ⟨w0, w1, w2, w3, w4, w5, w6, w7⟩ := chunks c a2 h2 a3 h3 a5 h5 a9 x0 x1 x3 hx3
  have hv := fun (o p : Nat) inb => vt_read c a4 h4 a6 h6 a8 x2 x4 hx4 (o := o) (p := p) inb
  have he : ∀ x : EReal, FloatOps.exp2 (F := Ideal) (φ := .bf16) x = Ideal.exp2 x := fun _ => rfl
  refine ⟨?_, ?_, ?_, ?_, ?_, ?_, ?_, ?_⟩
  on_goal 1 => have w := w0
  on_goal 2 => have w := w1
  on_goal 3 => have w := w2
  on_goal 4 => have w := w3
  on_goal 5 => have w := w4
  on_goal 6 => have w := w5
  on_goal 7 => have w := w6
  on_goal 8 => have w := w7
  all_goals
    clear w0 w1 w2 w3 w4 w5 w6 w7
    intro i d
    pointwise [sl.r_3, sl.v69, sl.v70, sl.v71, sl.v72, sl.v75, sl.v76, sl.v77, sl.v78, sl.v79, sl.v80, sl.v81, sl.v82, sl.v83, sl.v84,
      sl.v85, sl.v86, sl.v87, sl.v88, sl.v89, sl.v90, sl.v119, sl.v120, sl.v121, sl.v122, sl.v125, sl.v126, sl.v127, sl.v128,
      sl.v129, sl.v134, sl.v135, sl.v136, sl.v139, sl.v140, sl.v141, sl.v142, sl.v143, sl.v144, sl.v145, sl.v146, sl.v148, sl.v149,
      sl.v150, sl.v151, sl.v152, sl.v153, sl.v154, sl.v155, sl.v184, sl.v185, sl.v186, sl.v187, sl.v190, sl.v191, sl.v192, sl.v193,
      sl.v194, sl.v199, sl.v200, sl.v201, sl.v204, sl.v205, sl.v206, sl.v207, sl.v208, sl.v209, sl.v214, sl.v215, sl.v216, sl.v219,
      sl.v220, sl.v221, sl.v222, sl.v223, sl.v224, sl.v225, sl.v226, sl.v228, sl.v229, sl.v230, sl.v231, sl.v232, sl.v233, sl.v234,
      sl.v235, sl.v264, sl.v265, sl.v266, sl.v267, sl.v270, sl.v271, sl.v272, sl.v273, sl.v274, sl.v279, sl.v280, sl.v281, sl.v284,
      sl.v285, sl.v286, sl.v287, sl.v288, sl.v289, sl.v294, sl.v295, sl.v296, sl.v299, sl.v300, sl.v301, sl.v302, sl.v303, sl.v304,
      sl.v309, sl.v310, sl.v311, sl.v314, sl.v315, sl.v316, sl.v317, sl.v318, sl.v319, sl.v320, sl.v321, sl.v323, sl.v324, sl.v325,
      sl.v326, sl.v327, sl.v328, sl.v329, sl.v330, sl.v359, sl.v360, sl.v361, sl.v362, sl.v365, sl.v366, sl.v367, sl.v368, sl.v369,
      sl.v374, sl.v375, sl.v376, sl.v379, sl.v380, sl.v381, sl.v382, sl.v383, sl.v384, sl.v389, sl.v390, sl.v391, sl.v394, sl.v395,
      sl.v396, sl.v397, sl.v398, sl.v399, sl.v404, sl.v405, sl.v406, sl.v409, sl.v410, sl.v411, sl.v412, sl.v413, sl.v414, sl.v419,
      sl.v420, sl.v421, sl.v424, sl.v425, sl.v426, sl.v427, sl.v428, sl.v429, sl.v430, sl.v431, sl.v433, sl.v434, sl.v435, sl.v436,
      sl.v437, sl.v438, sl.v439, sl.v440, sl.v469, sl.v470, sl.v471, sl.v472, sl.v475, sl.v476, sl.v477, sl.v478, sl.v479, sl.v484,
      sl.v485, sl.v486, sl.v489, sl.v490, sl.v491, sl.v492, sl.v493, sl.v494, sl.v499, sl.v500, sl.v501, sl.v504, sl.v505, sl.v506,
      sl.v507, sl.v508, sl.v509, sl.v514, sl.v515, sl.v516, sl.v519, sl.v520, sl.v521, sl.v522, sl.v523, sl.v524, sl.v529, sl.v530,
      sl.v531, sl.v534, sl.v535, sl.v536, sl.v537, sl.v538, sl.v539, sl.v544, sl.v545, sl.v546, sl.v549, sl.v550, sl.v551, sl.v552,
      sl.v553, sl.v554, sl.v555, sl.v556, sl.v558, sl.v559, sl.v560, sl.v561, sl.v562, sl.v563, sl.v564, sl.v565, sl.v594, sl.v595,
      sl.v596, sl.v597, sl.v600, sl.v601, sl.v602, sl.v603, sl.v604, sl.v609, sl.v610, sl.v611, sl.v614, sl.v615, sl.v616, sl.v617,
      sl.v618, sl.v619, sl.v624, sl.v625, sl.v626, sl.v629, sl.v630, sl.v631, sl.v632, sl.v633, sl.v634, sl.v639, sl.v640, sl.v641,
      sl.v644, sl.v645, sl.v646, sl.v647, sl.v648, sl.v649, sl.v654, sl.v655, sl.v656, sl.v659, sl.v660, sl.v661, sl.v662, sl.v663,
      sl.v664, sl.v669, sl.v670, sl.v671, sl.v674, sl.v675, sl.v676, sl.v677, sl.v678, sl.v679, sl.v684, sl.v685, sl.v686, sl.v689,
      sl.v690, sl.v691, sl.v692, sl.v693, sl.v694, sl.v695, sl.v696, sl.v698, sl.v699, sl.v700, sl.v701, sl.v702, sl.v703, sl.v704,
      sl.v705, sl.v710, sl.v711, sl.v712, sl.v713, sl.v716, sl.v717, sl.v718, sl.v719, sl.v720, sl.v725, sl.v726, sl.v727, sl.v730,
      sl.v731, sl.v732, sl.v733, sl.v734, sl.v735, sl.v740, sl.v741, sl.v742, sl.v745, sl.v746, sl.v747, sl.v748, sl.v749, sl.v750,
      sl.v755, sl.v756, sl.v757, sl.v760, sl.v761, sl.v762, sl.v763, sl.v764, sl.v765, sl.v770, sl.v771, sl.v772, sl.v775, sl.v776,
      sl.v777, sl.v778, sl.v779, sl.v780, sl.v785, sl.v786, sl.v787, sl.v790, sl.v791, sl.v792, sl.v793, sl.v794, sl.v795, sl.v800,
      sl.v801, sl.v802, sl.cst_51, sl.cst_53, k0_pay1, k0_pay84]
    simp only [sl.v73, sl.v74, sl.v137, sl.v138, sl.v217, sl.v218, sl.v312, sl.v313, sl.v422, sl.v423, sl.v547, sl.v548, sl.v687, sl.v688,
      sl.v804, sl.v818, sl.v819, hv, he, tile, acc, Finset.sum_range_succ, Finset.sum_range_zero, zero_add]
    split_ifs
    all_goals try contradiction
    all_goals
      with_reducible refine congrArg₂ (· * ·) ?_ (congrArg₂ Ideal.div (by simp) ?_)
    all_goals
      repeat' with_reducible refine congrArg₂ (· + ·) ?_ ?_
    all_goals
      with_reducible refine Finset.sum_congr rfl fun x _ => term_congr (congrArg₂ (vt x2) (Fin.ext ?_) (Fin.ext ?_)) ?_ (congrArg _ (ix2_eq rfl ?_))
    all_goals first
      | (dsimp only; omega)
      | exact w _ _ _ _ _ _ _ (by omega) _ _ _ _ _ (by dsimp only; omega) (by dsimp only; omega) (by dsimp only; omega)

end Cert.Proof.MlaTiles

end
-- ==== Proof.MlaSoftmax.lean ====
/-
  THE SOFTMAX. Weighted values over the sum of the weights, for scores that are real up to the query and minus infinity after it:
  whatever real number is subtracted from the scores, the quotient is the same, in powers of two and in exponentials.
-/
module

public import proofs.«01_k».proof.Proof.MlaChunks

@[expose] public section

noncomputable section

namespace Cert.Proof.MlaSoftmax

open Idealize.ShloMosaic
open Cert.Proof.MlaChunks

/-- The weight of key `k` for query `q`, before it is divided by the sum of the weights. -/
def wt (s : Fin 2048 → ℝ) (q k : Fin 2048) : ℝ := if k ≤ q then Real.rpow 2 (s k) else 0

/-- The softmax weight of key `k` for query `q`. -/
def prob (s : Fin 2048 → ℝ) (q k : Fin 2048) : ℝ := wt s q k / ∑ j, wt s q j

/-- The weights are positive up to the query. -/
theorem wt_sum_pos (s : Fin 2048 → ℝ) (q : Fin 2048) : 0 < ∑ j, wt s q j := by
  refine Finset.sum_pos' (fun j _ => ?_) ⟨q, Finset.mem_univ _, ?_⟩
  · unfold wt; split_ifs
    · exact (Real.rpow_pos_of_pos (by norm_num) _).le
    · exact le_rfl
  · rw [wt, if_pos le_rfl]; exact Real.rpow_pos_of_pos (by norm_num) _

/-- A sum of reals, as an extended real. -/
theorem coe_sum {ι : Type} (s : Finset ι) (f : ι → ℝ) : ∑ i ∈ s, ((f i : ℝ) : EReal) = ((∑ i ∈ s, f i : ℝ) : EReal) := by
  classical
  refine Finset.induction_on s (by simp) fun a t ha ih => ?_
  rw [Finset.sum_insert ha, Finset.sum_insert ha, ih, EReal.coe_add]

/-- A nonnegative real factor goes into a sum of extended reals. -/
theorem sum_mul_real {ι : Type} (s : Finset ι) (f : ι → EReal) (r : ℝ) (hr : 0 ≤ r) : (∑ i ∈ s, f i) * (r : EReal) = ∑ i ∈ s, f i * (r : EReal) := by
  classical
  refine Finset.induction_on s (by simp) fun a t ha ih => ?_
  rw [Finset.sum_insert ha, Finset.sum_insert ha, ← ih, EReal.right_distrib_of_nonneg_of_ne_top (by exact_mod_cast hr) (EReal.coe_ne_top r)]

/-- Chunks of 256 keys, as one sum over the keys. -/
theorem sum_chunks (f : Fin 2048 → EReal) (n : Nat) (hn : n ≤ 8) (h0 : ∀ k : Fin 2048, 256 * n ≤ k.val → f k = 0) :
    ∑ t ∈ Finset.range n, ∑ x : Fin 256, f ⟨(256 * t + x.val) % 2048, by omega⟩ = ∑ k, f k := by
  have e1 : ∑ t ∈ Finset.range n, ∑ x : Fin 256, f ⟨(256 * t + x.val) % 2048, by omega⟩
      = ∑ t ∈ Finset.range 8, ∑ x : Fin 256, f ⟨(256 * t + x.val) % 2048, by omega⟩ := by
    refine Finset.sum_subset (Finset.range_subset_range.2 hn) fun t ht ht' => Finset.sum_eq_zero fun x _ => h0 _ ?_
    have h1 := Finset.mem_range.1 ht
    have h2 := mt Finset.mem_range.2 ht'
    dsimp only
    omega
  rw [e1, Finset.sum_range, ← Fintype.sum_prod_type', ← Equiv.sum_comp (finProdFinEquiv (m := 8) (n := 256)) f]
  refine Finset.sum_congr rfl fun p _ => congrArg f (Fin.ext ?_)
  have h1 := p.1.isLt
  have h2 := p.2.isLt
  simp only [finProdFinEquiv_apply_val]
  omega

/-- A masked score's power of two. -/
theorem exp2_score (d : EReal) (hd : Real1 d) (m : ℝ) (q k : Fin 2048) :
    Ideal.exp2 (d + (if k ≤ q then 0 else ⊥) - (m : EReal)) = ((if k ≤ q then Real.rpow 2 d.toReal * Real.rpow 2 (-m) else 0 : ℝ) : EReal) := by
  obtain ⟨r, rfl⟩ := hd
  split_ifs
  · rw [add_zero, ← EReal.coe_sub, Ideal.exp2_coe, EReal.toReal_coe, sub_eq_add_neg]
    exact congrArg _ (Real.rpow_add (by norm_num) _ _)
  · simp

/-- The kernel's quotient is the softmax's weighted sum of the values. -/
theorem kernel_side (d V : Fin 2048 → EReal) (hd : ∀ k, Real1 (d k)) (q : Fin 2048) (n : Nat) (hn : n ≤ 8) (hq : q.val < 256 * n) (M : EReal) (hM : Real1 M) :
    (∑ t ∈ Finset.range n, ∑ x : Fin 256, V ⟨(256 * t + x.val) % 2048, by omega⟩
        * Ideal.exp2 (d ⟨(256 * t + x.val) % 2048, by omega⟩ + (if (⟨(256 * t + x.val) % 2048, by omega⟩ : Fin 2048) ≤ q then 0 else ⊥) - M))
      * Ideal.div 1 (∑ t ∈ Finset.range n, ∑ x : Fin 256, (1 : EReal)
        * Ideal.exp2 (d ⟨(256 * t + x.val) % 2048, by omega⟩ + (if (⟨(256 * t + x.val) % 2048, by omega⟩ : Fin 2048) ≤ q then 0 else ⊥) - M))
      = ∑ k, V k * ((prob (fun k => (d k).toReal) q k : ℝ) : EReal) := by
  obtain ⟨m, rfl⟩ := hM
  have hc : 0 < Real.rpow 2 (-m) := Real.rpow_pos_of_pos (by norm_num) _
  have hw : ∀ k, Ideal.exp2 (d k + (if k ≤ q then 0 else ⊥) - (m : EReal)) = ((wt (fun k => (d k).toReal) q k * Real.rpow 2 (-m) : ℝ) : EReal) := fun k => by
    rw [exp2_score (d k) (hd k) m q k, wt]; split_ifs <;> simp
  have hz : ∀ k : Fin 2048, 256 * n ≤ k.val → wt (fun k => (d k).toReal) q k = 0 := fun k hk =>
    if_neg (by rw [Fin.le_def]; omega)
  rw [sum_chunks (fun k => V k * Ideal.exp2 (d k + (if k ≤ q then 0 else ⊥) - (m : EReal))) n hn (fun k hk => by rw [hw, hz k hk]; simp),
    sum_chunks (fun k => 1 * Ideal.exp2 (d k + (if k ≤ q then 0 else ⊥) - (m : EReal))) n hn (fun k hk => by rw [hw, hz k hk]; simp)]
  simp only [hw, one_mul]
  rw [coe_sum, ← Finset.sum_mul]
  have hL := wt_sum_pos (fun k => (d k).toReal) q
  have hne : ((((∑ j, wt (fun k => (d k).toReal) q j) * Real.rpow 2 (-m) : ℝ) : EReal)) ≠ 0 := by
    rw [Ne, EReal.coe_eq_zero]; exact (mul_pos hL hc).ne'
  rw [Ideal.div, if_neg hne, one_mul, ← EReal.coe_inv, sum_mul_real _ _ _ (inv_nonneg.2 (mul_pos hL hc).le)]
  refine Finset.sum_congr rfl fun k _ => ?_
  rw [mul_assoc, ← EReal.coe_mul]
  refine congrArg (fun x : ℝ => V k * (x : EReal)) ?_
  rw [prob]
  field_simp

/-- A masked score's exponential, in the base of the reference. -/
theorem exp_score (d : EReal) (hd : Real1 d) (m : ℝ) (q k : Fin 2048) :
    Ideal.exp ((if k ≤ q then d * ((Real.log 2 : ℝ) : EReal) else ⊥) - (m : EReal)) = ((if k ≤ q then Real.rpow 2 d.toReal * Real.exp (-m) else 0 : ℝ) : EReal) := by
  obtain ⟨r, rfl⟩ := hd
  split_ifs
  · rw [← EReal.coe_mul, ← EReal.coe_sub, Ideal.exp_coe, EReal.toReal_coe, sub_eq_add_neg, Real.exp_add, mul_comm r]
    exact congrArg (fun x : ℝ => ((x * Real.exp (-m) : ℝ) : EReal)) (Real.rpow_def_of_pos (by norm_num) r).symm
  · simp

/-- The reference's softmax is the same weighted sum of the values. -/
theorem ref_side (d V : Fin 2048 → EReal) (hd : ∀ k, Real1 (d k)) (q : Fin 2048) (M : EReal) (hM : Real1 M) :
    ∑ k, V k * Ideal.div (Ideal.exp ((if k ≤ q then d k * ((Real.log 2 : ℝ) : EReal) else ⊥) - M))
        (∑ j, Ideal.exp ((if j ≤ q then d j * ((Real.log 2 : ℝ) : EReal) else ⊥) - M))
      = ∑ k, V k * ((prob (fun k => (d k).toReal) q k : ℝ) : EReal) := by
  obtain ⟨m, rfl⟩ := hM
  have hc : 0 < Real.exp (-m) := Real.exp_pos _
  have hw : ∀ k, Ideal.exp ((if k ≤ q then d k * ((Real.log 2 : ℝ) : EReal) else ⊥) - (m : EReal))
      = ((wt (fun k => (d k).toReal) q k * Real.exp (-m) : ℝ) : EReal) := fun k => by
    rw [exp_score (d k) (hd k) m q k, wt]; split_ifs <;> simp
  simp only [hw]
  rw [coe_sum, ← Finset.sum_mul]
  have hL := wt_sum_pos (fun k => (d k).toReal) q
  have hne : ((((∑ j, wt (fun k => (d k).toReal) q j) * Real.exp (-m) : ℝ) : EReal)) ≠ 0 := by
    rw [Ne, EReal.coe_eq_zero]; exact (mul_pos hL hc).ne'
  refine Finset.sum_congr rfl fun k _ => ?_
  rw [Ideal.div, if_neg hne, ← EReal.coe_inv, ← EReal.coe_mul]
  refine congrArg (fun x : ℝ => V k * (x : EReal)) ?_
  rw [prob]
  field_simp

end Cert.Proof.MlaSoftmax

end
-- ==== Proof.MlaArray.lean ====
/-
  THE ATTENTION'S RESULT ARRAY. The kernel walks 32 sequences times 4 pairs of heads; a point stages one sequence's queries, keys and
  values of two heads. Here: what the staged blocks hold, and that the array after the run is the softmax of the scores times the
  values, element by element.
-/
module

public import proofs.«01_k».proof.Defs
public import proofs.«01_k».proof.Proof.MlaTiles
public import proofs.«01_k».proof.Proof.MlaSoftmax
public import proofs.«01_k».proof.Proof.Gen.MlaIdeal.Value
public import Idealize.ShloMosaic.Lib.Pipeline.ValueKit
public import Idealize.ShloMosaic.Lib.Pointwise
public import Idealize.ShloMosaic.Lib.Claim
public import Idealize.ShloMosaic.Lib.IdealHost

@[expose] public section

noncomputable section

namespace Cert.Proof.MlaArray

open Idealize.ShloMosaic Idealize.ShloMosaic.TcCoe Idealize.SL.Sem
open Cert.MlaIdeal Cert.MlaIdeal.Gen
open Cert.Proof.MlaScores Cert.Proof.MlaReads Cert.Proof.MlaChunks Cert.Proof.MlaTiles Cert.Proof.MlaSoftmax
open Idealize.ShloMosaic.Pipeline (Dat)

variable (m : (ℓ : Loc nD τ sig) → Buf (Elt Ideal) ℓ)

/-- Which block of the queries point `t` stages. -/
theorem idx0 : ∀ t : Fin cfg0.N, win0_0.index t = ![t.val / 4, t.val % 4] :=
  (by decide +kernel : ∀ t : Fin grid0.N, _)
/-- Which block of the keys point `t` stages. -/
theorem idx1 : ∀ t : Fin cfg0.N, win0_1.index t = ![t.val / 4, t.val % 4] :=
  (by decide +kernel : ∀ t : Fin grid0.N, _)
/-- Which block of the values point `t` stages. -/
theorem idx2 : ∀ t : Fin cfg0.N, win0_2.index t = ![t.val / 4, t.val % 4] :=
  (by decide +kernel : ∀ t : Fin grid0.N, _)
/-- The mask tile is one block. -/
theorem idx3 : ∀ t : Fin cfg0.N, win0_3.index t = ![0, 0] :=
  (by decide +kernel : ∀ t : Fin grid0.N, _)
/-- The identity is one block. -/
theorem idx4 : ∀ t : Fin cfg0.N, win0_4.index t = ![0, 0] :=
  (by decide +kernel : ∀ t : Fin grid0.N, _)
/-- Which block of the result point `t` writes. -/
theorem idx5 : ∀ t : Fin cfg0.N, win0_5.index t = ![t.val / 4, t.val % 4] :=
  (by decide +kernel : ∀ t : Fin grid0.N, _)

/-- A signed comparison of two small naturals. -/
theorem sge_small (a b : Nat) (ha : a < 2147483648) (hb : b < 2147483648) :
    IntOp.cmpi .sge (BitVec.ofNat 32 a) (BitVec.ofNat 32 b) = BitVec.ofBool (decide (b ≤ a)) := by
  simp only [IntOp.cmpi, BitVec.sle_eq_decide, BitVec.toInt_eq_toNat_cond, BitVec.toNat_ofNat]
  congr 2
  rw [Nat.mod_eq_of_lt (by omega : a < 2 ^ 32), Nat.mod_eq_of_lt (by omega : b < 2 ^ 32), if_pos (by omega), if_pos (by omega)]
  exact propext Int.ofNat_le

/-- A choice by a decided comparison. -/
theorem select_ofBool {α : Type} (p : Prop) [Decidable p] (x y : α) : Scalar.select (BitVec.ofBool (decide p)) x y = if p then x else y := by
  by_cases h : p <;> simp [Scalar.select, h]

/-- The mask tile: one above the diagonal (a key after the query), zero elsewhere. -/
theorem mask_tile (c : Dev nD) (t : Fin cfg0.N) (k j : Fin 256) : iblk m c 3 t (ix2 k j) = if k.val ≤ j.val then (0 : EReal) else 1 := by
  have e : iblk m c 3 t (ix2 k j) = V m c main_v3 (ix2 k j) := by blk_point [iblk, idx3 t]
  rw [e]
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  pointwise []
  rw [sge_small _ _ (by omega) (by omega), select_ofBool]

/-- The identity. -/
theorem ident_tile (c : Dev nD) (t : Fin cfg0.N) (i j : Fin 128) : iblk m c 4 t (ix2 i j) = if i = j then (1 : EReal) else 0 := by
  have e : iblk m c 4 t (ix2 i j) = V m c main_v9 (ix2 i j) := by blk_point [iblk, idx4 t]
  rw [e]
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  pointwise []
  have hi := i.isLt
  have hj := j.isLt
  have hb : (BitVec.ofNat 32 i.val + 0#32 == BitVec.ofNat 32 j.val) = decide (i = j) := by
    rw [BitVec.add_zero, Bool.eq_iff_iff, beq_iff_eq, decide_eq_true_iff, ← BitVec.toNat_inj, BitVec.toNat_ofNat, BitVec.toNat_ofNat, Fin.ext_iff]
    omega
  simp only [IntOp.cmpi, IntOp.addi, hb]
  by_cases h : i = j
  · rw [if_pos h, decide_eq_true h]; simp [FloatOps.uitofp]
  · rw [if_neg h, decide_eq_false h]; simp [FloatOps.uitofp]

/-- A query entry of the block. -/
theorem q_block (c : Dev nD) (t : Fin cfg0.N) (y : S2048x256.Idx) : iblk m c 0 t y
    = m ((c : Thread nD τ).loc main_arg0) (ix2 ⟨2048 * (t.val / 4) + (y 0).val, by have h : t.val < 128 := t.isLt; have h' : (y 0).val < 2048 := (y 0).isLt; omega⟩
      ⟨256 * (t.val % 4) + (y 1).val, by have h' : (y 1).val < 256 := (y 1).isLt; omega⟩) := by
  blk_point [iblk, V_main_arg0, idx0 t]

/-- A key entry of the block. -/
theorem k_block (c : Dev nD) (t : Fin cfg0.N) (y : S2048x256.Idx) : iblk m c 1 t y
    = m ((c : Thread nD τ).loc main_arg1) (ix2 ⟨2048 * (t.val / 4) + (y 0).val, by have h : t.val < 128 := t.isLt; have h' : (y 0).val < 2048 := (y 0).isLt; omega⟩
      ⟨256 * (t.val % 4) + (y 1).val, by have h' : (y 1).val < 256 := (y 1).isLt; omega⟩) := by
  blk_point [iblk, V_main_arg1, idx1 t]

/-- A value entry of the block. -/
theorem v_block (c : Dev nD) (t : Fin cfg0.N) (y : S2048x128.Idx) : iblk m c 2 t y
    = m ((c : Thread nD τ).loc main_arg2) (ix2 ⟨2048 * (t.val / 4) + (y 0).val, by have h : t.val < 128 := t.isLt; have h' : (y 0).val < 2048 := (y 0).isLt; omega⟩
      ⟨128 * (t.val % 4) + (y 1).val, by have h' : (y 1).val < 128 := (y 1).isLt; omega⟩) := by
  blk_point [iblk, V_main_arg2, idx2 t]

/-- The score of row `r`'s query and its sequence's key `k`, head `h`. -/
def score (Q K : S65536x1024.Idx → EReal) (r : Fin 65536) (h : Fin 8) (k : Fin 2048) : EReal :=
  ∑ e : Fin 128, K (ix2 ⟨2048 * (r.val / 2048) + k.val, by omega⟩ ⟨128 * h.val + e.val, by omega⟩) * Q (ix2 r ⟨128 * h.val + e.val, by omega⟩)

/-- Attention at row `r` and column `col`: the values weighted by the softmax of the scores. -/
def attn (Q K : S65536x1024.Idx → EReal) (V : S65536x512.Idx → EReal) (r : Fin 65536) (col : Fin 512) : EReal :=
  ∑ k : Fin 2048, V (ix2 ⟨2048 * (r.val / 2048) + k.val, by omega⟩ col)
    * ((prob (fun k => (score Q K r ⟨col.val / 64, by omega⟩ k).toReal) ⟨r.val % 2048, by omega⟩ k : ℝ) : EReal)

/-- What a tile leaves is the softmax of the block's scores times its values. -/
theorem tile_eq (x0 x1 : S2048x256.Idx → EReal) (x2 : S2048x128.Idx → EReal) (hx0 : ∀ y, Real1 (x0 y)) (hx1 : ∀ y, Real1 (x1 y))
    (n : Nat) (hn : n ≤ 8) (q : Fin 2048) (hq : q.val < 256 * n) (d : Fin 128) (M : EReal) (hM : Real1 M) :
    tile x0 x1 x2 n q d M = ∑ k : Fin 2048, x2 (ix2 k d)
      * ((prob (fun k => (∑ e : Fin 128, x1 (ix2 k ⟨128 * (d.val / 64) + e.val, by omega⟩) * x0 (ix2 q ⟨128 * (d.val / 64) + e.val, by omega⟩)).toReal) q k : ℝ) : EReal) := by
  have h := kernel_side (fun k => ∑ e : Fin 128, x1 (ix2 k ⟨128 * (d.val / 64) + e.val, by omega⟩) * x0 (ix2 q ⟨128 * (d.val / 64) + e.val, by omega⟩))
    (fun k => x2 (ix2 k d)) (fun k => real1_sum _ fun e => real1_mul (hx1 _) (hx0 _)) q n hn hq M hM
  refine Eq.trans ?_ h
  have hv : ∀ k : Fin 2048, vt x2 ⟨80 * (d.val / 64) + d.val % 64, by omega⟩ k = x2 (ix2 k d) := fun k => by
    rw [vt, if_pos (by dsimp only; omega)]
    exact congrArg x2 (ix2_eq rfl (by dsimp only; omega))
  have h1 : ∀ k : Fin 2048, vt x2 ⟨80 * (d.val / 64) + 64, by omega⟩ k = 1 := fun k => if_neg (by dsimp only; omega)
  simp only [tile, acc, hv, h1]
  rfl

/-- A block's attention is the arrays' attention at the block's place (sequence `b`, heads `2 p` and `2 p + 1`). -/
theorem block_attn (Q K : S65536x1024.Idx → EReal) (V : S65536x512.Idx → EReal) (x0 x1 : S2048x256.Idx → EReal) (x2 : S2048x128.Idx → EReal)
    (b p : Nat) (hb : b < 32) (hp : p < 4)
    (h0 : ∀ (k : Fin 2048) (e : Fin 256), x0 (ix2 k e) = Q (ix2 ⟨2048 * b + k.val, by omega⟩ ⟨256 * p + e.val, by omega⟩))
    (h1 : ∀ (k : Fin 2048) (e : Fin 256), x1 (ix2 k e) = K (ix2 ⟨2048 * b + k.val, by omega⟩ ⟨256 * p + e.val, by omega⟩))
    (h2 : ∀ (k : Fin 2048) (e : Fin 128), x2 (ix2 k e) = V (ix2 ⟨2048 * b + k.val, by omega⟩ ⟨128 * p + e.val, by omega⟩))
    (q : Fin 2048) (d : Fin 128) :
    (∑ k : Fin 2048, x2 (ix2 k d)
      * ((prob (fun k => (∑ e : Fin 128, x1 (ix2 k ⟨128 * (d.val / 64) + e.val, by omega⟩) * x0 (ix2 q ⟨128 * (d.val / 64) + e.val, by omega⟩)).toReal) q k : ℝ) : EReal))
    = attn Q K V ⟨2048 * b + q.val, by omega⟩ ⟨128 * p + d.val, by omega⟩ := by
  have hs : ∀ k : Fin 2048, (∑ e : Fin 128, x1 (ix2 k ⟨128 * (d.val / 64) + e.val, by omega⟩) * x0 (ix2 q ⟨128 * (d.val / 64) + e.val, by omega⟩))
      = score Q K ⟨2048 * b + q.val, by omega⟩ ⟨(128 * p + d.val) / 64, by omega⟩ k := fun k => by
    unfold score
    refine Finset.sum_congr rfl fun e _ => ?_
    rw [h0, h1]
    exact congrArg₂ (fun a b : EReal => a * b) (congrArg _ (ix2_eq (by dsimp only; omega) (by dsimp only; omega)))
      (congrArg _ (ix2_eq (by dsimp only) (by dsimp only; omega)))
  unfold attn
  refine Finset.sum_congr rfl fun k _ => ?_
  simp only [hs]
  rw [h2]
  refine congrArg₂ (fun a b : EReal => a * b) (congrArg _ (ix2_eq (by dsimp only; omega) (by dsimp only))) ?_
  exact congrArg (fun q' : Fin 2048 => ((prob _ q' k : ℝ) : EReal)) (Fin.ext (by dsimp only; omega))

/-- The row a result block's entry has in the array. -/
theorem emb_row (t : Fin cfg0.N) (y : (win0_5.xblock (grid0.coords t)).Idx) : ((win0_5.blk t).view.emb y 0).val = 2048 * (t.val / 4) + (y 0).val := by
  blk_simp [idx5 t]
  try omega

/-- The column a result block's entry has in the array. -/
theorem emb_col (t : Fin cfg0.N) (y : (win0_5.xblock (grid0.coords t)).Idx) : ((win0_5.blk t).view.emb y 1).val = 128 * (t.val % 4) + (y 1).val := by
  blk_simp [idx5 t]
  try omega

/-- A tile's output is the attention of the arrays at the place the tile's rows have. -/
theorem close_tile (c : Dev nD) (t : Fin cfg0.N) (hx0 : ∀ y, Real1 (iblk m c 0 t y)) (hx1 : ∀ y, Real1 (iblk m c 1 t y))
    (n : Nat) (hn : n ≤ 8) (o : Nat) (ho : o + 256 = 256 * n) (out : S256x128.Idx → EReal) (mx : S1x512.Idx → EReal)
    (ht : ∀ (i : Fin 256) (d : Fin 128), out (ix2 i d) = tile (iblk m c 0 t) (iblk m c 1 t) (iblk m c 2 t) n ⟨o + i.val, by omega⟩ d
      (mx (ix2 0 ⟨256 * (d.val / 64) + i.val, by omega⟩)))
    (hM : ∀ j : Fin 512, Real1 (mx (ix2 0 j))) (x : S256x128.Idx) (r : Fin 65536) (col : Fin 512)
    (hr : r.val = 2048 * (t.val / 4) + (o + (x 0).val)) (hc : col.val = 128 * (t.val % 4) + (x 1).val) :
    out x = attn (m ((c : Thread nD τ).loc main_arg0)) (m ((c : Thread nD τ).loc main_arg1)) (m ((c : Thread nD τ).loc main_arg2)) r col := by
  have hN : t.val < 128 := t.isLt
  have h0 : (x 0).val < 256 := (x 0).isLt
  have h1 : (x 1).val < 128 := (x 1).isLt
  have hx : x = ix2 (⟨(x 0).val, h0⟩ : Fin 256) (⟨(x 1).val, h1⟩ : Fin 128) := by
    funext a; match a with
    | ⟨0, _⟩ => rfl
    | ⟨1, _⟩ => rfl
  have e := (ht ⟨(x 0).val, h0⟩ ⟨(x 1).val, h1⟩).trans ((tile_eq _ _ _ hx0 hx1 n hn _ (by dsimp only; omega) _ _ (hM _)).trans
    (block_attn _ _ _ _ _ _ (t.val / 4) (t.val % 4) (by omega) (by omega) (fun k e => q_block m c t _) (fun k e => k_block m c t _) (fun k e => v_block m c t _) _ _))
  rw [← hx] at e
  refine e.trans ?_
  exact congrArg₂ (attn _ _ _) (Fin.ext hr.symm) (Fin.ext hc.symm)

set_option maxHeartbeats 4000000 in
/-- The result array after the run is the attention of the arguments, for real queries and keys. -/
theorem final5 (c : Dev nD) (hQ : ∀ y, Real1 (m ((c : Thread nD τ).loc main_arg0) y)) (hK : ∀ y, Real1 (m ((c : Thread nD τ).loc main_arg1) y)) :
    (dats (F := Ideal) m 0 c).arrAt 5 cfg0.N = fun j : S65536x512.Idx =>
      attn (m ((c : Thread nD τ).loc main_arg0)) (m ((c : Thread nD τ).loc main_arg1)) (m ((c : Thread nD τ).loc main_arg2)) (j 0) (j 1) := by
  refine (dats (F := Ideal) m 0 c).arrAt_eq_of_covers 5 _ (by decide +kernel) fun t hf y => ?_
  have hx0 : ∀ y, Real1 (iblk m c 0 t y) := fun y => by rw [q_block]; exact hQ _
  have hx1 : ∀ y, Real1 (iblk m c 1 t y) := fun y => by rw [k_block]; exact hK _
  have e0 := emb_row t y
  have e1 := emb_col t y
  have hm := mask_tile m c t
  have hi := ident_tile m c t
  obtain ⟨M0, M1, M2, M3, M4, M5, M6, M7⟩ := maxima c (ms0_0 t) (hs0_0 t) (ms0_1 t) (hs0_1 t) (ms0_3 t) (hs0_3 t) (iblk m c 0 t) (iblk m c 1 t)
    (iblk m c 3 t) hm hx0 hx1
  obtain ⟨T0, T1, T2, T3, T4, T5, T6, T7⟩ := tiles c (ms0_0 t) (hs0_0 t) (ms0_1 t) (hs0_1 t) (ms0_2 t) (hs0_2 t) (ms0_3 t) (hs0_3 t) (ms0_4 t) (hs0_4 t)
    scM0_0 scM0_1 (iblk m c 0 t) (iblk m c 1 t) (iblk m c 2 t) (iblk m c 3 t) (iblk m c 4 t) hm hi
  blk_simp
  rw [after0_5]
  unfold outsAt0
  unfold out0_A_5
  rw [View.read_writes_junk_eq_canon]
  unfold kernelRun0_A
  canon_tiles x h using cover0_A_5 ..
  case piece0 => exact close_tile m c t hx0 hx1 8 (by omega) 1792 (by omega) _ _ T7 M7 x _ _ (by omega) (by omega)
  case piece1 => exact close_tile m c t hx0 hx1 7 (by omega) 1536 (by omega) _ _ T6 M6 x _ _ (by omega) (by omega)
  case piece2 => exact close_tile m c t hx0 hx1 6 (by omega) 1280 (by omega) _ _ T5 M5 x _ _ (by omega) (by omega)
  case piece3 => exact close_tile m c t hx0 hx1 5 (by omega) 1024 (by omega) _ _ T4 M4 x _ _ (by omega) (by omega)
  case piece4 => exact close_tile m c t hx0 hx1 4 (by omega) 768 (by omega) _ _ T3 M3 x _ _ (by omega) (by omega)
  case piece5 => exact close_tile m c t hx0 hx1 3 (by omega) 512 (by omega) _ _ T2 M2 x _ _ (by omega) (by omega)
  case piece6 => exact close_tile m c t hx0 hx1 2 (by omega) 256 (by omega) _ _ T1 M1 x _ _ (by omega) (by omega)
  case piece7 => exact close_tile m c t hx0 hx1 1 (by omega) 0 (by omega) _ _ T0 M0 x _ _ (by omega) (by omega)

end Cert.Proof.MlaArray

end
-- ==== Proof.MlaValue.lean ====
/-
  THE ATTENTION'S VALUE. The reference's softmax of the scores times the values, element by element, and the equation: the kernel's
  result array is the reference's, for real queries and keys.
-/
module

public import proofs.«01_k».proof.Defs
public import proofs.«01_k».proof.Proof.MlaArray
public import proofs.«01_k».proof.Proof.Gen.MlaIdeal.Value
public import proofs.«01_k».proof.Proof.Gen.MlaRefIdeal.Run
public import proofs.«01_k».proof.Proof.Gen.MlaRefIdeal.Read
public import Idealize.ShloMosaic.Lib.Pointwise
public import Idealize.ShloMosaic.Lib.ReduceAll
public import Idealize.ShloMosaic.Lib.Quiescent
public import Idealize.ShloMosaic.Lib.IdealHost

@[expose] public section

noncomputable section

namespace Cert.Proof.MlaValue

open Idealize.ShloMosaic Idealize.ShloMosaic.TcCoe Idealize.SL.Sem
open Cert.Proof.MlaScores Cert.Proof.MlaChunks Cert.Proof.MlaSoftmax Cert.Proof.MlaArray
open Cert.MlaRefIdeal

/-- The predicate's shape facts. -/
theorem facts_pre : Cert.Pre_finite_qk.Facts := ⟨by decide, by decide, by decide, by decide⟩

/-- A reduction by maximum along the last of four axes, as a fold over that axis. -/
theorem reduce_max {n0 n1 n2 n3 : Nat} {t u : Shape} (x : (⟨4, ![n0, n1, n2, n3]⟩ : Shape).Idx → EReal) (init : u.Idx → EReal)
    (h : (⟨4, ![n0, n1, n2, n3]⟩ : Shape).ReducesTo [3] t) (hu : 0 < u.numel) (j : t.Idx) :
    Host.reduce (FloatOps.maximumf (F := Ideal) (φ := .f32)) x init h hu j = (Finset.univ : Finset (Fin n3)).fold max (init (Shape.Idx.first hu)) (fun k =>
      x (ix4 ⟨(j ⟨0, h.lt_r4_a3_0⟩).val, Shape.coordLt (j ⟨0, h.lt_r4_a3_0⟩) h.size_r4_a3_0⟩
        ⟨(j ⟨1, h.lt_r4_a3_1⟩).val, Shape.coordLt (j ⟨1, h.lt_r4_a3_1⟩) h.size_r4_a3_1⟩
        ⟨(j ⟨2, h.lt_r4_a3_2⟩).val, Shape.coordLt (j ⟨2, h.lt_r4_a3_2⟩) h.size_r4_a3_2⟩ k)) := by
  pointwise []

/-- The reference's row maximum, as a fold over the keys. -/
theorem ref_fold (x0 x1 : S65536x1024.Idx → EReal) (b : Fin 32) (h : Fin 8) (q : Fin 2048) :
    Read.val_main_v17 (F := Ideal) x0 x1 (ix3 b h q) = (Finset.univ : Finset (Fin 2048)).fold max (Ideal.ofBits FTy.f32 4286578688#32)
      (fun k => Read.val_main_v16 (F := Ideal) x0 x1 (ix4 b h q k)) := by
  unfold Read.val_main_v17
  generalize Read.val_main_v16 (F := Ideal) x0 x1 = y
  exact reduce_max y _ _ _ _

/-- The word of minus infinity. -/
theorem bits_bot : Ideal.ofBits FTy.f32 4286578688#32 = ⊥ := by simp [Ideal.ofBits, Ideal.ieee]

/-- The logarithm of the word of two. -/
theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee]
    rw [← EReal.coe_mul]
    norm_num
  rw [h]
  show (if (2 : ℝ) ≤ 0 then (⊥ : EReal) else ((Real.log 2 : ℝ) : EReal)) = _
  rw [if_neg (by norm_num)]

/-- The row of query `q` of sequence `b`. -/
def rowOf (b : Fin 32) (q : Fin 2048) : Fin 65536 := ⟨2048 * b.val + q.val, by omega⟩

/-- The reference's score of query `q` and key `k` in head `h` of sequence `b`: the product of the rows times log 2, minus infinity
    for a key after the query. -/
theorem ref_score (x0 x1 : S65536x1024.Idx → EReal) (b : Fin 32) (h : Fin 8) (q k : Fin 2048) :
    Read.val_main_v16 (F := Ideal) x0 x1 (ix4 b h q k) = if k ≤ q then
      score x0 x1 (rowOf b q) h k * ((Real.log 2 : ℝ) : EReal) else ⊥ := by
  pointwise [Read.val_main_v16, Read.val_main_call0_v0, Read.val_main_call0_v1, Read.val_main_call0_v2, Read.val_main_v15, Read.val_main_v14,
    Read.val_main_v13, Read.val_main_v12, Read.val_main_v11, Read.val_main_v10, Read.val_main_v9, Read.val_main_v8, Read.val_main_v7,
    Read.val_main_v6, Read.val_main_v3, Read.val_main_v2, Read.val_main_v1, Read.val_main_v0, Read.val_main_cst, Read.val_main_cst_0]
  rw [sge_small _ _ (by omega) (by omega), select_ofBool, log_two]
  refine if_congr Iff.rfl ?_ bits_bot
  refine congrArg (fun z : EReal => z * ((Real.log 2 : ℝ) : EReal)) ?_
  unfold score rowOf
  refine Finset.sum_congr rfl fun e _ => ?_
  rw [mul_comm]
  exact congrArg₂ (fun a b : EReal => a * b) (congrArg x1 (ix2_eq (by dsimp only; omega) (by dsimp only; omega)))
    (congrArg x0 (ix2_eq (by dsimp only; omega) (by dsimp only; omega)))

/-- The scores of real queries and keys are real. -/
theorem score_real (x0 x1 : S65536x1024.Idx → EReal) (h0 : ∀ y, Real1 (x0 y)) (h1 : ∀ y, Real1 (x1 y)) (r : Fin 65536) (h : Fin 8) (k : Fin 2048) :
    Real1 (score x0 x1 r h k) := real1_sum _ fun _ => real1_mul (h1 _) (h0 _)

/-- The reference's row maximum is real. -/
theorem ref_max (x0 x1 : S65536x1024.Idx → EReal) (h0 : ∀ y, Real1 (x0 y)) (h1 : ∀ y, Real1 (x1 y)) (b : Fin 32) (h : Fin 8) (q : Fin 2048) :
    Real1 (Read.val_main_v19 (F := Ideal) x0 x1 (ix3 b h q)) := by
  have hm : Read.val_main_v19 (F := Ideal) x0 x1 (ix3 b h q)
      = max (Ideal.ofBits FTy.f32 4286578688#32) (Read.val_main_v17 (F := Ideal) x0 x1 (ix3 b h q)) := by
    rw [Read.val_main_v19_apply, Read.val_main_v18_apply, Read.val_main_cst_2_apply]
    generalize Read.val_main_v17 (F := Ideal) x0 x1 (ix3 b h q) = z
    rfl
  rw [hm, ref_fold, bits_bot, max_eq_right bot_le]
  simp only [ref_score]
  have hs : ∀ k : Fin 2048, Real1 (score x0 x1 (rowOf b q) h k * ((Real.log 2 : ℝ) : EReal)) := fun k =>
    real1_mul (score_real x0 x1 h0 h1 _ _ _) ⟨_, rfl⟩
  refine real1_of ?_ ?_
  · refine ne_of_lt ((Finset.fold_max_lt _).2 ⟨bot_lt_top, fun k _ => ?_⟩)
    split_ifs
    · obtain ⟨r, hr⟩ := hs k
      rw [hr]; exact EReal.coe_lt_top r
    · exact bot_lt_top
  · refine ne_of_gt (lt_of_lt_of_le ?_ ((Finset.le_fold_max _).2 (Or.inr ⟨q, Finset.mem_univ _, le_rfl⟩)))
    rw [if_pos le_rfl]
    obtain ⟨r, hr⟩ := hs q
    rw [hr]; exact EReal.bot_lt_coe r

/-- The reference's softmax of a row, from its scores and its values however they are read. -/
theorem row_eq (d s V V' : Fin 2048 → EReal) (hd : ∀ k, Real1 (d k)) (q : Fin 2048)
    (hs : ∀ k, s k = if k ≤ q then d k * ((Real.log 2 : ℝ) : EReal) else ⊥) (hV : ∀ k, V k = V' k) (M : EReal) (hM : Real1 M) :
    ∑ k, V k * Ideal.div (Ideal.exp (s k - M)) (∑ j, Ideal.exp (s j - M)) = ∑ k, V' k * ((prob (fun k => (d k).toReal) q k : ℝ) : EReal) := by
  obtain rfl : s = _ := funext hs
  obtain rfl : V = V' := funext hV
  exact ref_side d V hd q M hM

/-- A row is the row of its query. -/
theorem rowOf_eq (r : Fin 65536) : rowOf ⟨r.val / 2048, by omega⟩ ⟨r.val % 2048, by omega⟩ = r := Fin.ext (by unfold rowOf; dsimp only; omega)

/-- The reference's result at a row and a column is the attention. -/
theorem ref_apply (x0 x1 : S65536x1024.Idx → EReal) (x2 : S65536x512.Idx → EReal) (h0 : ∀ y, Real1 (x0 y)) (h1 : ∀ y, Real1 (x1 y))
    (r : Fin 65536) (col : Fin 512) :
    Read.val_main_v31 (F := Ideal) x0 x1 x2 (ix2 r col) = attn x0 x1 x2 r col := by
  pointwise [Read.val_main_v31, Read.val_main_v30, Read.val_main_v29, Read.val_main_v28, Read.val_main_v27, Read.val_main_v26, Read.val_main_v25,
    Read.val_main_v24, Read.val_main_v23, Read.val_main_v22, Read.val_main_v21, Read.val_main_v20, Read.val_main_v5, Read.val_main_v4, Read.val_main_cst_3]
  have hM := ref_max x0 x1 h0 h1 ⟨r.val / 2048, by omega⟩ ⟨col.val / 64, by omega⟩ ⟨r.val % 2048, by omega⟩
  have hs : ∀ k : Fin 2048, Read.val_main_v16 (F := Ideal) x0 x1 (ix4 ⟨r.val / 2048, by omega⟩ ⟨col.val / 64, by omega⟩ ⟨r.val % 2048, by omega⟩ k)
      = if k ≤ (⟨r.val % 2048, by omega⟩ : Fin 2048) then score x0 x1 r ⟨col.val / 64, by omega⟩ k * ((Real.log 2 : ℝ) : EReal) else ⊥ := fun k => by
    rw [ref_score, rowOf_eq]
  unfold attn
  have e := row_eq (fun k => score x0 x1 r ⟨col.val / 64, by omega⟩ k)
    (fun k => Read.val_main_v16 (F := Ideal) x0 x1 (ix4 ⟨r.val / 2048, by omega⟩ ⟨col.val / 64, by omega⟩ ⟨r.val % 2048, by omega⟩ k))
    (fun k => x2 (ix2 ⟨r.val / 2048 * 2048 + k.val, by omega⟩ col)) (fun k => x2 (ix2 ⟨2048 * (r.val / 2048) + k.val, by omega⟩ col))
    (fun k => score_real x0 x1 h0 h1 _ _ _) ⟨r.val % 2048, by omega⟩ hs
    (fun k => congrArg x2 (ix2_eq (by dsimp only; omega) rfl)) _ hM
  with_reducible exact e

/-- A conjunction of bits is one when both are. -/
theorem and_eq_one (a b : BitVec 1) (h : IntOp.andi a b = 1#1) : a = 1#1 ∧ b = 1#1 := by
  revert a b; decide

/-- A number whose absolute value is below infinity is real. -/
theorem real_of_abs (x : EReal) (h : FloatOps.cmpf (F := Ideal) (φ := .f32) .olt (FloatOps.hostAbsf (F := Ideal) (φ := .f32) x) (Ideal.ofBits .f32 0x7F800000#32) = 1#1) : Real1 x := by
  have ht : Ideal.ofBits FTy.f32 0x7F800000#32 = ⊤ := by simp [Ideal.ofBits, Ideal.ieee]
  rw [ht] at h
  refine real1_of ?_ ?_
  · rintro rfl
    exact absurd h (by simp [FloatOps.cmpf, FloatOps.hostAbsf, Ideal.cmp])
  · rintro rfl
    exact absurd h (by simp [FloatOps.cmpf, FloatOps.hostAbsf, Ideal.cmp])

/-- An array all of whose absolute values are below infinity is real. -/
theorem real_of_all (x : FVec Ideal S65536x1024 .f32) (f : Cert.Pre_finite_qk.Facts)
    (h : Host.reduce IntOp.andi (cmpf .olt (Host.absf x) (broadcastInDim S65536x1024 ![] f.bcast_S_S65536x1024 (constant (F := Ideal) S_ .f32 0x7F800000#32)))
      (constantI S_ 1 1#1) f.reducesTo_S65536x1024_S_d0_1 f.h_S_ ix0 = 1#1) (y) : Real1 (x y) :=
  real_of_abs _ (Host.reduce_andi_all _ _ _ _ _ h y)

/-- The precondition says that the queries and the keys are real. -/
theorem real_of_pre (x0 x1 : S65536x1024.Idx → EReal) (x2 : S65536x512.Idx → EReal)
    (h : @Cert.Pre_finite_qk.fn facts_pre Ideal _ x0 x1 x2 = fun _ => 1#1) : (∀ y, Real1 (x0 y)) ∧ (∀ y, Real1 (x1 y)) := by
  have e := congrFun h ix0
  obtain ⟨a, b⟩ := and_eq_one _ _ e
  exact ⟨real_of_all x0 facts_pre a, real_of_all x1 facts_pre b⟩

/-- The reference terminates, keeps its arguments and leaves every counter at zero. -/
theorem frame_ref : Cert.quiescent_MlaRefIdeal := fun m ρ _ =>
  (θ_run Cert.MlaRefIdeal.defs _ _).mono (fun r h => ⟨fun c => (h c).2,
      Idealize.ShloMosaic.sem_eq_zero_of_no_sems (by decide) r.2⟩)
    (Cert.MlaRefIdeal.Value.run (F := Ideal) m ρ)

/-- The kernel's attention is the reference's, for real queries and keys and all values. -/
theorem algebraic : Cert.algebraic_MlaIdeal_MlaRefIdeal_pre_finite_qk (hPre_finite_qk := facts_pre) := by
  intro m ρ m' ρ' hpre hagree
  refine ⟨fun c => (Cert.MlaIdeal.Gen.dats (F := Ideal) m 0 c).arrAt 5 Cert.MlaIdeal.cfg0.N, Cert.MlaIdeal.Value.run_blocks (F := Ideal) m ρ, ?_⟩
  refine (θ_run Cert.MlaRefIdeal.defs _ _).mono (fun _ h c => ?_) (Cert.MlaRefIdeal.Value.run (F := Ideal) m' ρ')
  obtain ⟨e0, e1, e2⟩ := hagree c
  obtain ⟨hQ, hK⟩ := real_of_pre _ _ _ (hpre c)
  refine ⟨(h c).1.trans ?_, (h c).2⟩
  rw [Read.val_main_v31_eq, e0, e1, e2]
  refine Eq.trans (funext fun j => ?_) (final5 m c hQ hK).symm
  refine Eq.trans (congrArg _ (show j = ix2 (j 0) (j 1) from ?_)) (ref_apply _ _ _ hQ hK (j 0) (j 1))
  funext a; match a with | ⟨0, _⟩ => rfl | ⟨1, _⟩ => rfl

end Cert.Proof.MlaValue

end
-- ==== Proof.TailSpec.lean ====
/-
  THE TAIL, ROW BY ROW. What the layer's tail computes of one row: the output projection, the first layer norm, the modulation, the
  gated convolution of three rows, the down projection and the second layer norm. Both the kernel and the reference are read as this.
-/
module

public import Idealize.ShloMosaic.PureOps.Ideal
public import Idealize.ShloMosaic.Lib.Pointwise
public import Idealize.ShloMosaic.Lib.IdealHost

@[expose] public section

noncomputable section

namespace Cert.Proof.TailSpec

open Idealize.ShloMosaic

/-- A row of `n` numbers. -/
abbrev Row (n : Nat) := Fin n → EReal

/-- A row less its mean. -/
def dev (z : Row 1024) : Row 1024 := fun j => z j - Ideal.div (∑ e, z e) (Ideal.ofBits .f32 0x44800000#32)

/-- The reciprocal root of a row's variance and the epsilon. -/
def inv (z : Row 1024) : EReal :=
  Ideal.rsqrt (Ideal.div (∑ e, dev z e * dev z e) (Ideal.ofBits .f32 0x44800000#32) + Ideal.ofBits .f32 0x3727C5AC#32)

/-- The layer norm of a row. -/
def ln (z g b : Row 1024) : Row 1024 := fun j => dev z j * inv z * g j + b j

/-- A residual scaled by alpha and a gated branch. -/
def mix (x g y : Row 1024) : Row 1024 := fun j => Ideal.ofBits .f32 0x3FD744FD#32 * x j + (1 + g j) * y j

/-- The output projection of the two halves of a row. -/
def proj (a b : Row 512) (W : Fin 1024 → Row 1024) : Row 1024 := fun j =>
  ∑ e : Fin 512, a e * W ⟨e.val, by omega⟩ j + ∑ e : Fin 512, b e * W ⟨512 + e.val, by omega⟩ j

/-- A modulated row. -/
def modu (x s t : Row 1024) : Row 1024 := fun j => x j * (1 + s j) + t j

/-- A row times a matrix. -/
def times {n k : Nat} (h : Row n) (W : Fin n → Row k) : Row k := fun j => ∑ e, h e * W e j

/-- The convolution of three rows, the last the newest. -/
def conv {k : Nat} (w : Fin 3 → Row k) (b g2 g1 g0 : Row k) : Row k := fun j => w 2 j * g0 j + w 1 j * g1 j + w 0 j * g2 j + b j

/-- The gated activation. -/
def act {k : Nat} (a u : Row k) : Row k := fun j => Ideal.div (a j) (1 + Ideal.exp (-(a j))) * u j

/-- The row `k` rows before row `q` of a sequence, zero where the sequence has not begun. -/
def before {n : Nat} (H : Fin 65536 → Row n) (k : Nat) (R : Fin 65536) : Row n := fun e => if k ≤ R.val % 2048 then H ⟨R.val - k, by omega⟩ e else 0

/-- The tail's arguments, read by rows: two halves of the attention, the output projection, the residual, the first gate, the first
    norm's gain and bias, the modulation's scale and shift, the second gate, the up and gate projections, the convolution's taps and
    bias, the down projection, the second norm's gain and bias. -/
structure Args where
  oa : Fin 65536 → Row 512
  ob : Fin 65536 → Row 512
  Wo : Fin 1024 → Row 1024
  x : Fin 65536 → Row 1024
  g1 : Fin 32 → Row 1024
  n1g : Row 1024
  n1b : Row 1024
  sc : Fin 32 → Row 1024
  sh : Fin 32 → Row 1024
  g2 : Fin 32 → Row 1024
  Wu : Fin 1024 → Row 2816
  Wg : Fin 1024 → Row 2816
  cw : Fin 3 → Row 2816
  cb : Row 2816
  Wd : Fin 2816 → Row 1024
  n2g : Row 1024
  n2b : Row 1024

/-- The sequence of a row. -/
def seq (R : Fin 65536) : Fin 32 := ⟨R.val / 2048, by omega⟩

/-- The row before the first norm. -/
def Args.z1 (A : Args) (R : Fin 65536) : Row 1024 := mix (A.x R) (A.g1 (seq R)) (proj (A.oa R) (A.ob R) A.Wo)

/-- The row after the first norm. -/
def Args.x1 (A : Args) (R : Fin 65536) : Row 1024 := ln (A.z1 R) A.n1g A.n1b

/-- The modulated row. -/
def Args.h (A : Args) (R : Fin 65536) : Row 1024 := modu (A.x1 R) (A.sc (seq R)) (A.sh (seq R))

/-- The convolution's row. -/
def Args.a (A : Args) (R : Fin 65536) : Row 2816 :=
  conv A.cw A.cb (times (before A.h 2 R) A.Wg) (times (before A.h 1 R) A.Wg) (times (A.h R) A.Wg)

/-- The activation's row. -/
def Args.s (A : Args) (R : Fin 65536) : Row 2816 := act (A.a R) (times (A.h R) A.Wu)

/-- The result's row. -/
def Args.out (A : Args) (R : Fin 65536) : Row 1024 := ln (mix (A.x1 R) (A.g2 (seq R)) (times (A.s R) A.Wd)) A.n2g A.n2b

end Cert.Proof.TailSpec

end
-- ==== Proof.TailBlock.lean ====
/-
  A BLOCK'S ROWS. What a block of the tail computes of its staged rows before the activations: the row before the first norm, the row
  after it and the modulated row.
-/
module

public import proofs.«01_k».proof.Defs
public import proofs.«01_k».proof.Proof.TailSpec
public import proofs.«01_k».proof.Proof.Gen.TailIdeal.Value
public import Idealize.ShloMosaic.Lib.Pipeline.ValueKit
public import Idealize.ShloMosaic.Lib.Pointwise
public import Idealize.ShloMosaic.Lib.WholeRead
public import Idealize.ShloMosaic.Lib.IdealHost

@[expose] public section

noncomputable section

namespace Cert.Proof.TailBlock

open Idealize.ShloMosaic Idealize.ShloMosaic.TcCoe Idealize.SL.Sem
open Cert.TailIdeal Cert.TailIdeal.Gen Cert.Proof.TailSpec

/-- A load of a rectangle of a two-axis buffer that holds `X` reads `X` at the rectangle's place. -/
theorem rd2 {κ : Kind} {sp : Space} {e : EltTy} {R C r s o p : Nat} (m : Memref sig κ sp (⟨2, ![R, C]⟩ : Shape) e) (h : m.IsWhole)
    (X : (⟨2, ![R, C]⟩ : Shape).Idx → Elt Ideal e) (inb : ∀ a, (![o, p] : Fin 2 → Nat) a + (![r, s] : Fin 2 → Nat) a ≤ (⟨2, ![R, C]⟩ : Shape).size a)
    (i : Fin r) (j : Fin s) :
    View.readAt (Elt Ideal) m.view (Rect.unit (s := (⟨2, ![R, C]⟩ : Shape)) ![o, p] ![r, s] inb).toLoadRect (h.unread X) (ix2 i j)
      = X (ix2 ⟨o + i.val, by have := inb 0; simp at this; omega⟩ ⟨p + j.val, by have := inb 1; simp at this; omega⟩) := by
  refine (h.readAt_unread X _ _).trans (congrArg X (funext fun a => ?_))
  match a with
  | 0 => exact Fin.ext (by simp [LoadRect.idx_apply])
  | 1 => exact Fin.ext (by simp [LoadRect.idx_apply])

/-- A load of a whole two-axis buffer. -/
theorem rdw {κ : Kind} {sp : Space} {e : EltTy} {R C : Nat} (m : Memref sig κ sp (⟨2, ![R, C]⟩ : Shape) e) (h : m.IsWhole)
    (X : (⟨2, ![R, C]⟩ : Shape).Idx → Elt Ideal e) (inb : ∀ a, (![0, 0] : Fin 2 → Nat) a + (![R, C] : Fin 2 → Nat) a ≤ (⟨2, ![R, C]⟩ : Shape).size a)
    (i : Fin R) (j : Fin C) :
    View.readAt (Elt Ideal) m.view (Rect.unit (s := (⟨2, ![R, C]⟩ : Shape)) ![0, 0] ![R, C] inb).toLoadRect (h.unread X) (ix2 i j) = X (ix2 i j) := by
  refine (h.readAt_unread X _ _).trans (congrArg X (funext fun a => ?_))
  match a with
  | 0 => exact Fin.ext (by simp [LoadRect.idx_apply])
  | 1 => exact Fin.ext (by simp [LoadRect.idx_apply])

/-- A load of a whole row held under two axes of length one. -/
theorem rd3 {κ : Kind} {sp : Space} {e : EltTy} {C : Nat} (m : Memref sig κ sp (⟨3, ![1, 1, C]⟩ : Shape) e) (h : m.IsWhole)
    (X : (⟨3, ![1, 1, C]⟩ : Shape).Idx → Elt Ideal e) (inb : ∀ a, (![0, 0, 0] : Fin 3 → Nat) a + (![1, 1, C] : Fin 3 → Nat) a ≤ (⟨3, ![1, 1, C]⟩ : Shape).size a)
    (j : Fin C) :
    View.readAt (Elt Ideal) m.view (Rect.unit (s := (⟨3, ![1, 1, C]⟩ : Shape)) ![0, 0, 0] ![1, 1, C] inb).toLoadRect (h.unread X) (ix3 0 0 j) = X (ix3 0 0 j) := by
  refine (h.readAt_unread X _ _).trans (congrArg X (funext fun a => ?_))
  match a with
  | 0 => exact Fin.ext (by simp [LoadRect.idx_apply])
  | 1 => exact Fin.ext (by simp [LoadRect.idx_apply])
  | 2 => exact Fin.ext (by simp [LoadRect.idx_apply])

variable (c : Dev nD) (a1 : Memref sig .tc .vmem S1024x512 .bf16) (h1 : a1.IsWhole) (a2 : Memref sig .tc .vmem S1024x512 .bf16) (h2 : a2.IsWhole) (a3 : Memref sig .tc .vmem S1024x1024 .bf16) (h3 : a3.IsWhole) (a4 : Memref sig .tc .vmem S1024x1024 .f32) (h4 : a4.IsWhole) (a5 : Memref sig .tc .vmem S1x1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1x1024 .f32) (h8 : a8.IsWhole) (a9 : Memref sig .tc .vmem S1x1x1024 .f32) (h9 : a9.IsWhole)
  (x0 x1 : Vec Ideal S1024x512 .bf16) (x2 : Vec Ideal S1024x1024 .bf16) (x3 : Vec Ideal S1024x1024 .f32) (x4 : Vec Ideal S1x1x1024 .f32)
  (x5 x6 : Vec Ideal S1x1024 .f32) (x7 x8 : Vec Ideal S1x1x1024 .f32)

/-- A block's row before the first norm. -/
def z1 (i : Fin 1024) : Row 1024 :=
  mix (fun j => x3 (ix2 i j)) (fun j => x4 (ix3 0 0 j)) (proj (fun e => x0 (ix2 i e)) (fun e => x1 (ix2 i e)) (fun e j => x2 (ix2 e j)))

/-- A block's row after the first norm. -/
def x1r (i : Fin 1024) : Row 1024 := ln (z1 x0 x1 x2 x3 x4 i) (fun j => x5 (ix2 0 j)) (fun j => x6 (ix2 0 j))

/-- A block's modulated row. -/
def hr (i : Fin 1024) : Row 1024 := modu (x1r x0 x1 x2 x3 x4 x5 x6 i) (fun j => x7 (ix3 0 0 j)) (fun j => x8 (ix3 0 0 j))

open kernelRun0_A in
/-- The block's centred rows. -/
theorem dev_apply (i j : Fin 1024) : sl.r_2 c a1 h1 a2 h2 a3 h3 a4 h4 a5 h5 x0 x1 x2 x3 x4 (ix2 i j) = dev (z1 x0 x1 x2 x3 x4 i) j := by
  unfold sl.r_2
  pointwise [k0_pay1]
  simp only [rdw, rd2, rd3]
  unfold dev z1 mix proj
  simp only [Nat.zero_add]

open kernelRun0_A in
/-- The block's reciprocal roots. -/
theorem inv_apply (i : Fin 1024) : sl.r_3 c a1 h1 a2 h2 a3 h3 a4 h4 a5 h5 x0 x1 x2 x3 x4 (ix2 i 0) = inv (z1 x0 x1 x2 x3 x4 i) := by
  have h : ∀ j, sl.r_2 c a1 h1 a2 h2 a3 h3 a4 h4 a5 h5 x0 x1 x2 x3 x4 (ix2 i j) = dev (z1 x0 x1 x2 x3 x4 i) j := dev_apply c a1 h1 a2 h2 a3 h3 a4 h4 a5 h5 x0 x1 x2 x3 x4 i
  unfold sl.r_2 at h
  unfold sl.r_3
  pointwise [k0_pay2]
  simp only [h]
  rfl

open kernelRun0_A in
/-- The block's rows after the first norm. -/
theorem x1_apply (i j : Fin 1024) : k0_pay3 (sl.r c a6 h6 x5) (sl.r_1 c a7 h7 x6) (sl.r_2 c a1 h1 a2 h2 a3 h3 a4 h4 a5 h5 x0 x1 x2 x3 x4) (sl.r_3 c a1 h1 a2 h2 a3 h3 a4 h4 a5 h5 x0 x1 x2 x3 x4) (ix2 i j)
    = x1r x0 x1 x2 x3 x4 x5 x6 i j := by
  pointwise [k0_pay3, sl.r, sl.r_1]
  rw [dev_apply, inv_apply, rdw, rdw]
  rfl

open kernelRun0_A in
/-- The block's modulated rows. -/
theorem h_apply (i j : Fin 1024) : sl.r_4 c a1 h1 a2 h2 a3 h3 a4 h4 a5 h5 a6 h6 a7 h7 a8 h8 a9 h9 x0 x1 x2 x3 x4 x5 x6 x7 x8 (ix2 i j) = hr x0 x1 x2 x3 x4 x5 x6 x7 x8 i j := by
  have h := x1_apply c a1 h1 a2 h2 a3 h3 a4 h4 a5 h5 a6 h6 a7 h7 x0 x1 x2 x3 x4 x5 x6 i j
  unfold sl.r_4
  pointwise [k0_pay4]
  rw [h, rd3, rd3]
  rfl

open kernelRun0_A in
/-- The sixteen rows the block leaves: its last sixteen modulated rows. -/
theorem last_apply (i : Fin 16) (j : Fin 1024) : sl.r_6 c a1 h1 a2 h2 a3 h3 a4 h4 a5 h5 a6 h6 a7 h7 a8 h8 a9 h9 x0 x1 x2 x3 x4 x5 x6 x7 x8 (ix2 i j) = hr x0 x1 x2 x3 x4 x5 x6 x7 x8 ⟨1008 + i.val, by omega⟩ j := by
  have h := h_apply c a1 h1 a2 h2 a3 h3 a4 h4 a5 h5 a6 h6 a7 h7 a8 h8 a9 h9 x0 x1 x2 x3 x4 x5 x6 x7 x8 ⟨1008 + i.val, by omega⟩ j
  unfold sl.r_4 at h
  unfold sl.r_6
  pointwise [k0_pay7]
  exact h

open kernelRun0_A in
/-- The block's modulated rows behind sixteen rows before them. -/
theorem hx_apply (v64 : Vec Ideal S16x1024 .bf16) (i : Fin 1040) (j : Fin 1024) :
    k0_pay6 (sl.r c a6 h6 x5) (sl.r_1 c a7 h7 x6) (sl.r_2 c a1 h1 a2 h2 a3 h3 a4 h4 a5 h5 x0 x1 x2 x3 x4) (sl.r_3 c a1 h1 a2 h2 a3 h3 a4 h4 a5 h5 x0 x1 x2 x3 x4)
        (View.readAt (Elt Ideal) a8.view (Rect.unit (s := S1x1x1024) ![0, 0, 0] S1x1x1024.size inb_S1x1x1024_S1x1x1024_0_0_0).toLoadRect (h8.unread x7))
        (View.readAt (Elt Ideal) a9.view (Rect.unit (s := S1x1x1024) ![0, 0, 0] S1x1x1024.size inb_S1x1x1024_S1x1x1024_0_0_0).toLoadRect (h9.unread x8)) v64 (ix2 i j)
      = if h : i.val < 16 then v64 (ix2 ⟨i.val, h⟩ j) else hr x0 x1 x2 x3 x4 x5 x6 x7 x8 ⟨i.val - 16, by omega⟩ j := by
  have h := fun i => h_apply c a1 h1 a2 h2 a3 h3 a4 h4 a5 h5 a6 h6 a7 h7 a8 h8 a9 h9 x0 x1 x2 x3 x4 x5 x6 x7 x8 i j
  unfold sl.r_4 at h
  pointwise [k0_pay6]
  simp only [h]

/-- The block's result from its activations `s` and its rows after the first norm `x`. -/
theorem out_apply (s : FVec Ideal S1024x2816 .bf16) (w : Vec Ideal S2816x1024 .bf16) (x : Vec Ideal S1024x1024 .f32) (g2 : Vec Ideal S1x1x1024 .f32)
    (g b : Vec Ideal S1x1024 .f32) (i j : Fin 1024) : k0_pay38 (k0_pay37 s w) x g2 g b (ix2 i j)
      = ln (mix (fun j => x (ix2 i j)) (fun j => g2 (ix3 0 0 j)) (times (fun f => s (ix2 i f)) (fun f j => w (ix2 f j)))) (fun j => g (ix2 0 j)) (fun j => b (ix2 0 j)) j := by
  have h : ∀ j, k0_pay37 s w (ix2 i j) = times (fun f => s (ix2 i f)) (fun f j => w (ix2 f j)) j := fun j => by
    pointwise [k0_pay37]
    rfl
  pointwise [k0_pay38]
  simp only [h]
  rfl

end Cert.Proof.TailBlock

end
-- ==== Proof.TailActs.lean ====
/-
  THE TAIL'S ACTIVATIONS. A block's 2816 activation columns are stored in eleven pieces of 256 columns. Here: each piece, and what the
  buffer holds after the eleven stores, for any rows `h` and any rows with sixteen rows before them `hx`.
-/
module

public import proofs.«01_k».proof.Defs
public import proofs.«01_k».proof.Proof.TailSpec
public import proofs.«01_k».proof.Proof.MlaReads
public import proofs.«01_k».proof.Proof.Gen.TailIdeal.Value
public import Idealize.ShloMosaic.Lib.Pipeline.ValueKit
public import Idealize.ShloMosaic.Lib.Pointwise
public import Idealize.ShloMosaic.Lib.IdealHost

@[expose] public section

noncomputable section

namespace Cert.Proof.TailActs

open Idealize.ShloMosaic Idealize.ShloMosaic.TcCoe Idealize.SL.Sem
open Cert.TailIdeal Cert.TailIdeal.Gen Cert.Proof.TailSpec

variable (a11 : Memref sig .tc .vmem S1024x2816 .bf16) (h11 : a11.IsWhole) (a12 : Memref sig .tc .vmem S1024x2816 .bf16) (h12 : a12.IsWhole)
  (a13 : Memref sig .tc .vmem S3x2816 .f32) (h13 : a13.IsWhole) (a14 : Memref sig .tc .vmem S1x2816 .f32) (h14 : a14.IsWhole)
  (x10 x11 : Vec Ideal S1024x2816 .bf16) (x12 : Vec Ideal S3x2816 .f32) (x13 : Vec Ideal S1x2816 .f32)
  (h : FVec Ideal S1024x1024 .bf16) (hx : FVec Ideal S1040x1024 .bf16)

/-- A piece's columns of a two-axis buffer. -/
def cols {κ : Kind} {sp : Space} {e : EltTy} {R : Nat} (a : Memref sig κ sp (⟨2, ![R, 2816]⟩ : Shape) e) (w : a.IsWhole)
    (X : (⟨2, ![R, 2816]⟩ : Shape).Idx → Elt Ideal e) (o : Nat) (inb : ∀ i, (![0, o] : Fin 2 → Nat) i + (![R, 256] : Fin 2 → Nat) i ≤ (⟨2, ![R, 2816]⟩ : Shape).size i) :=
  View.readAt (Elt Ideal) a.view (Rect.unit (s := (⟨2, ![R, 2816]⟩ : Shape)) ![0, o] ![R, 256] inb).toLoadRect (w.unread X)

/-- The activations of a block: row `i` from rows `14 + i`, `15 + i` and `16 + i` of `hx` and row `i` of `h`. -/
def acts (i : Fin 1024) : Row 2816 :=
  act (conv (fun k f => x12 (ix2 k f)) (fun f => x13 (ix2 0 f))
    (times (fun e => hx (ix2 ⟨14 + i.val, by omega⟩ e)) (fun e f => x11 (ix2 e f)))
    (times (fun e => hx (ix2 ⟨15 + i.val, by omega⟩ e)) (fun e f => x11 (ix2 e f)))
    (times (fun e => hx (ix2 ⟨16 + i.val, by omega⟩ e)) (fun e f => x11 (ix2 e f))))
    (times (fun e => h (ix2 i e)) (fun e f => x10 (ix2 e f)))

/-- A piece's columns, element by element. -/
theorem cols_apply {κ : Kind} {sp : Space} {e : EltTy} {R : Nat} (a : Memref sig κ sp (⟨2, ![R, 2816]⟩ : Shape) e) (w : a.IsWhole)
    (X : (⟨2, ![R, 2816]⟩ : Shape).Idx → Elt Ideal e) (o : Nat) (inb : ∀ i, (![0, o] : Fin 2 → Nat) i + (![R, 256] : Fin 2 → Nat) i ≤ (⟨2, ![R, 2816]⟩ : Shape).size i)
    (i : Fin R) (k : Fin 256) (f : Fin 2816) (hf : f.val = o + k.val) : cols a w X o inb (ix2 i k) = X (ix2 i f) := by
  unfold cols
  refine (w.readAt_unread X _ _).trans (congrArg X (funext fun q => ?_))
  match q with
  | 0 => exact Fin.ext (by simp [LoadRect.idx_apply])
  | 1 => exact Fin.ext (by simp [LoadRect.idx_apply, hf])

/-- One piece's element is the activation of its place. -/
theorem piece_elt (o : Nat) (i1 i2 i3 i4) (r : Fin 1024) (k : Fin 256) (f : Fin 2816) (hf : f.val = o + k.val) (i : Fin 1024) (hi : i.val = r.val) :
    Ideal.div
        (cols a13 h13 x12 o i3 (ix2 2 k) * ∑ e, hx (ix2 ⟨16 + r.val, by omega⟩ e) * cols a12 h12 x11 o i2 (ix2 e k)
          + cols a13 h13 x12 o i3 (ix2 1 k) * ∑ e, hx (ix2 ⟨15 + r.val, by omega⟩ e) * cols a12 h12 x11 o i2 (ix2 e k)
          + cols a13 h13 x12 o i3 (ix2 0 k) * ∑ e, hx (ix2 ⟨14 + r.val, by omega⟩ e) * cols a12 h12 x11 o i2 (ix2 e k)
          + cols a14 h14 x13 o i4 (ix2 0 k))
        (1 + Ideal.exp (0 - (cols a13 h13 x12 o i3 (ix2 2 k) * ∑ e, hx (ix2 ⟨16 + r.val, by omega⟩ e) * cols a12 h12 x11 o i2 (ix2 e k)
          + cols a13 h13 x12 o i3 (ix2 1 k) * ∑ e, hx (ix2 ⟨15 + r.val, by omega⟩ e) * cols a12 h12 x11 o i2 (ix2 e k)
          + cols a13 h13 x12 o i3 (ix2 0 k) * ∑ e, hx (ix2 ⟨14 + r.val, by omega⟩ e) * cols a12 h12 x11 o i2 (ix2 e k)
          + cols a14 h14 x13 o i4 (ix2 0 k))))
      * ∑ e, h (ix2 r e) * cols a11 h11 x10 o i1 (ix2 e k)
      = acts x10 x11 x12 x13 h hx i f := by
  obtain rfl : i = r := Fin.ext hi
  simp only [cols_apply _ _ _ _ _ _ k f hf, zero_sub]
  rfl

/-- The eleven stores. -/
def pieces : List (View.Piece (Elt Ideal) S1024x2816 .bf16) :=
  [⟨Rect.unit (s := S1024x2816) ![0, 2560] S1024x256.size inb_S1024x2816_S1024x256_0_2560,
      k0_pay36 h hx (cols a11 h11 x10 2560 inb_S1024x2816_S1024x256_0_2560) (cols a12 h12 x11 2560 inb_S1024x2816_S1024x256_0_2560) (cols a13 h13 x12 2560 inb_S3x2816_S3x256_0_2560) (cols a14 h14 x13 2560 inb_S1x2816_S1x256_0_2560)⟩,
    ⟨Rect.unit (s := S1024x2816) ![0, 2304] S1024x256.size inb_S1024x2816_S1024x256_0_2304,
      k0_pay35 h hx (cols a11 h11 x10 2304 inb_S1024x2816_S1024x256_0_2304) (cols a12 h12 x11 2304 inb_S1024x2816_S1024x256_0_2304) (cols a13 h13 x12 2304 inb_S3x2816_S3x256_0_2304) (cols a14 h14 x13 2304 inb_S1x2816_S1x256_0_2304)⟩,
    ⟨Rect.unit (s := S1024x2816) ![0, 2048] S1024x256.size inb_S1024x2816_S1024x256_0_2048,
      k0_pay34 (k0_pay31 h (cols a11 h11 x10 2048 inb_S1024x2816_S1024x256_0_2048)) (k0_pay32 hx (cols a12 h12 x11 2048 inb_S1024x2816_S1024x256_0_2048) (cols a13 h13 x12 2048 inb_S3x2816_S3x256_0_2048) (cols a14 h14 x13 2048 inb_S1x2816_S1x256_0_2048)) (k0_pay33 hx (cols a12 h12 x11 2048 inb_S1024x2816_S1024x256_0_2048) (cols a13 h13 x12 2048 inb_S3x2816_S3x256_0_2048) (cols a14 h14 x13 2048 inb_S1x2816_S1x256_0_2048))⟩,
    ⟨Rect.unit (s := S1024x2816) ![0, 1792] S1024x256.size inb_S1024x2816_S1024x256_0_1792,
      k0_pay30 (k0_pay26 h (cols a11 h11 x10 1792 inb_S1024x2816_S1024x256_0_1792)) (k0_pay27 hx (cols a12 h12 x11 1792 inb_S1024x2816_S1024x256_0_1792)) (k0_pay28 hx (cols a12 h12 x11 1792 inb_S1024x2816_S1024x256_0_1792) (cols a13 h13 x12 1792 inb_S3x2816_S3x256_0_1792)) (k0_pay29 (cols a13 h13 x12 1792 inb_S3x2816_S3x256_0_1792)) (cols a14 h14 x13 1792 inb_S1x2816_S1x256_0_1792)⟩,
    ⟨Rect.unit (s := S1024x2816) ![0, 1536] S1024x256.size inb_S1024x2816_S1024x256_0_1536,
      k0_pay25 (k0_pay23 h (cols a11 h11 x10 1536 inb_S1024x2816_S1024x256_0_1536)) (k0_pay24 hx (cols a12 h12 x11 1536 inb_S1024x2816_S1024x256_0_1536)) (cols a13 h13 x12 1536 inb_S3x2816_S3x256_0_1536) (cols a14 h14 x13 1536 inb_S1x2816_S1x256_0_1536)⟩,
    ⟨Rect.unit (s := S1024x2816) ![0, 1280] S1024x256.size inb_S1024x2816_S1024x256_0_1280,
      k0_pay22 h hx (cols a11 h11 x10 1280 inb_S1024x2816_S1024x256_0_1280) (cols a12 h12 x11 1280 inb_S1024x2816_S1024x256_0_1280) (cols a13 h13 x12 1280 inb_S3x2816_S3x256_0_1280) (cols a14 h14 x13 1280 inb_S1x2816_S1x256_0_1280)⟩,
    ⟨Rect.unit (s := S1024x2816) ![0, 1024] S1024x256.size inb_S1024x2816_S1024x256_0_1024,
      k0_pay21 h hx (cols a11 h11 x10 1024 inb_S1024x2816_S1024x256_0_1024) (cols a12 h12 x11 1024 inb_S1024x2816_S1024x256_0_1024) (cols a13 h13 x12 1024 inb_S3x2816_S3x256_0_1024) (cols a14 h14 x13 1024 inb_S1x2816_S1x256_0_1024)⟩,
    ⟨Rect.unit (s := S1024x2816) ![0, 768] S1024x256.size inb_S1024x2816_S1024x256_0_768,
      k0_pay20 (k0_pay17 h (cols a11 h11 x10 768 inb_S1024x2816_S1024x256_0_768)) (k0_pay18 hx (cols a12 h12 x11 768 inb_S1024x2816_S1024x256_0_768) (cols a13 h13 x12 768 inb_S3x2816_S3x256_0_768) (cols a14 h14 x13 768 inb_S1x2816_S1x256_0_768)) (k0_pay19 hx (cols a12 h12 x11 768 inb_S1024x2816_S1024x256_0_768) (cols a13 h13 x12 768 inb_S3x2816_S3x256_0_768) (cols a14 h14 x13 768 inb_S1x2816_S1x256_0_768))⟩,
    ⟨Rect.unit (s := S1024x2816) ![0, 512] S1024x256.size inb_S1024x2816_S1024x256_0_512,
      k0_pay16 (k0_pay12 h (cols a11 h11 x10 512 inb_S1024x2816_S1024x256_0_512)) (k0_pay13 hx (cols a12 h12 x11 512 inb_S1024x2816_S1024x256_0_512)) (k0_pay14 hx (cols a12 h12 x11 512 inb_S1024x2816_S1024x256_0_512) (cols a13 h13 x12 512 inb_S3x2816_S3x256_0_512)) (k0_pay15 (cols a13 h13 x12 512 inb_S3x2816_S3x256_0_512)) (cols a14 h14 x13 512 inb_S1x2816_S1x256_0_512)⟩,
    ⟨Rect.unit (s := S1024x2816) ![0, 256] S1024x256.size inb_S1024x2816_S1024x256_0_256,
      k0_pay11 (k0_pay9 h (cols a11 h11 x10 256 inb_S1024x2816_S1024x256_0_256)) (k0_pay10 hx (cols a12 h12 x11 256 inb_S1024x2816_S1024x256_0_256)) (cols a13 h13 x12 256 inb_S3x2816_S3x256_0_256) (cols a14 h14 x13 256 inb_S1x2816_S1x256_0_256)⟩,
    ⟨Rect.unit (s := S1024x2816) ![0, 0] S1024x256.size inb_S1024x2816_S1024x256_0_0,
      k0_pay8 h hx (cols a11 h11 x10 0 inb_S1024x2816_S1024x256_0_0) (cols a12 h12 x11 0 inb_S1024x2816_S1024x256_0_0) (cols a13 h13 x12 0 inb_S3x2816_S3x256_0_0) (cols a14 h14 x13 0 inb_S1x2816_S1x256_0_0)⟩]

/-- The piece at a head of a list holds an index whose column it has. -/
theorem here {o : Nat} (inb : ∀ a, (![0, o] : Fin 2 → Nat) a + S1024x256.size a ≤ S1024x2816.size a) (w) (L : List (View.Piece (Elt Ideal) S1024x2816 .bf16))
    (y : S1024x2816.Idx) (g : o ≤ (y 1).val) (g' : (y 1).val < o + 256) :
    ∃ p ∈ (⟨Rect.unit (s := S1024x2816) ![0, o] S1024x256.size inb, w⟩ :: L : List (View.Piece (Elt Ideal) S1024x2816 .bf16)), y ∈ p.1.set := by
  refine ⟨_, List.mem_cons_self, (LoadRect.mem_set _).mpr fun a => ?_⟩
  match a with
  | 0 => exact ⟨(y 0).val, (y 0).isLt, show (y 0).val = 0 + 1 * (y 0).val by omega⟩
  | 1 => exact ⟨(y 1).val - o, show (y 1).val - o < 256 by omega, show (y 1).val = o + 1 * ((y 1).val - o) by omega⟩

/-- A later piece of a list holds an index. -/
theorem later (q) (L : List (View.Piece (Elt Ideal) S1024x2816 .bf16)) (y : S1024x2816.Idx) (g : ∃ p ∈ L, y ∈ p.1.set) : ∃ p ∈ q :: L, y ∈ p.1.set := by
  obtain ⟨p, hp, hy⟩ := g
  exact ⟨p, List.mem_cons_of_mem _ hp, hy⟩

/-- The eleven pieces hold every index. -/
theorem pieces_cover (y : S1024x2816.Idx) : ∃ p ∈ pieces a11 h11 a12 h12 a13 h13 a14 h14 x10 x11 x12 x13 h hx, y ∈ p.1.set := by
  have hy : (y 1).val < 2816 := (y 1).isLt
  unfold pieces
  by_cases g : 2560 ≤ (y 1).val
  · exact here _ _ _ y g (by omega)
  refine later _ _ _ ?_
  by_cases g : 2304 ≤ (y 1).val
  · exact here _ _ _ y g (by omega)
  refine later _ _ _ ?_
  by_cases g : 2048 ≤ (y 1).val
  · exact here _ _ _ y g (by omega)
  refine later _ _ _ ?_
  by_cases g : 1792 ≤ (y 1).val
  · exact here _ _ _ y g (by omega)
  refine later _ _ _ ?_
  by_cases g : 1536 ≤ (y 1).val
  · exact here _ _ _ y g (by omega)
  refine later _ _ _ ?_
  by_cases g : 1280 ≤ (y 1).val
  · exact here _ _ _ y g (by omega)
  refine later _ _ _ ?_
  by_cases g : 1024 ≤ (y 1).val
  · exact here _ _ _ y g (by omega)
  refine later _ _ _ ?_
  by_cases g : 768 ≤ (y 1).val
  · exact here _ _ _ y g (by omega)
  refine later _ _ _ ?_
  by_cases g : 512 ≤ (y 1).val
  · exact here _ _ _ y g (by omega)
  refine later _ _ _ ?_
  by_cases g : 256 ≤ (y 1).val
  · exact here _ _ _ y g (by omega)
  refine later _ _ _ ?_
  exact here _ _ _ y (Nat.zero_le _) (by omega)

set_option maxHeartbeats 4000000 in
/-- After the eleven stores the buffer holds the activations. -/
theorem pieces_canon (y : S1024x2816.Idx) : View.canon (Val := Elt Ideal) (pieces a11 h11 a12 h12 a13 h13 a14 h14 x10 x11 x12 x13 h hx) y
    = acts x10 x11 x12 x13 h hx (y 0) (y 1) := by
  have hc := pieces_cover a11 h11 a12 h12 a13 h13 a14 h14 x10 x11 x12 x13 h hx y
  unfold pieces at hc ⊢
  canon_tiles x g using hc
  all_goals
    obtain ⟨r, k, rfl⟩ := MlaReads.ix_pair x
    have e0 : (ix2 r k 0).val = r.val := rfl
    have e1 : (ix2 r k 1).val = k.val := rfl
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    exact piece_elt a11 h11 a12 h12 a13 h13 a14 h14 x10 x11 x12 x13 h hx _ _ _ _ _ r k _ (by omega) _ (by omega)

end Cert.Proof.TailActs

end
-- ==== Proof.TailRun.lean ====
/-
  A BLOCK'S RUN. What a block of the tail leaves in the result's block and in the sixteen carried rows, in both cases: at the first block
  of a sequence the rows before it are zero, at the second they are the carried ones.
-/
module

public import proofs.«01_k».proof.Defs
public import proofs.«01_k».proof.Proof.TailBlock
public import proofs.«01_k».proof.Proof.TailActs

@[expose] public section

noncomputable section

namespace Cert.Proof.TailRun

open Idealize.ShloMosaic Idealize.ShloMosaic.TcCoe Idealize.SL.Sem
open Cert.TailIdeal Cert.TailIdeal.Gen Cert.Proof.TailSpec
open Cert.Proof.TailBlock Cert.Proof.TailActs

variable (c : Dev nD) (a1 : Memref sig .tc .vmem S1024x512 .bf16) (h1 : a1.IsWhole) (a2 : Memref sig .tc .vmem S1024x512 .bf16) (h2 : a2.IsWhole) (a3 : Memref sig .tc .vmem S1024x1024 .bf16) (h3 : a3.IsWhole) (a4 : Memref sig .tc .vmem S1024x1024 .f32) (h4 : a4.IsWhole) (a5 : Memref sig .tc .vmem S1x1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x1x1024 .f32) (h10 : a10.IsWhole) (a11 : Memref sig .tc .vmem S1024x2816 .bf16) (h11 : a11.IsWhole) (a12 : Memref sig .tc .vmem S1024x2816 .bf16) (h12 : a12.IsWhole) (a13 : Memref sig .tc .vmem S3x2816 .f32) (h13 : a13.IsWhole) (a14 : Memref sig .tc .vmem S1x2816 .f32) (h14 : a14.IsWhole) (a15 : Memref sig .tc .vmem S2816x1024 .bf16) (h15 : a15.IsWhole) (a16 : Memref sig .tc .vmem S1x1024 .f32) (h16 : a16.IsWhole) (a17 : Memref sig .tc .vmem S1x1024 .f32) (h17 : a17.IsWhole) (a18 : Memref sig .tc .vmem S1024x1024 .f32) (h18 : a18.IsWhole) (a19 : Memref sig .tc .vmem S16x1024 .bf16) (h19 : a19.IsWhole) (a20 : Memref sig .tc .vmem S1024x2816 .bf16) (h20 : a20.IsWhole)
  (x0 x1 : Vec Ideal S1024x512 .bf16) (x2 : Vec Ideal S1024x1024 .bf16) (x3 : Vec Ideal S1024x1024 .f32) (x4 : Vec Ideal S1x1x1024 .f32)
  (x5 x6 : Vec Ideal S1x1024 .f32) (x7 x8 x9 : Vec Ideal S1x1x1024 .f32) (x10 x11 : Vec Ideal S1024x2816 .bf16) (x12 : Vec Ideal S3x2816 .f32)
  (x13 : Vec Ideal S1x2816 .f32) (x14 : Vec Ideal S2816x1024 .bf16) (x15 x16 : Vec Ideal S1x1024 .f32) (xs0 : Vec Ideal S16x1024 .bf16)

/-- Row `k` of the modulated rows behind sixteen rows before them. -/
def ext (halo : S16x1024.Idx → EReal) (k : Fin 1040) : Row 1024 := fun j =>
  if h : k.val < 16 then halo (ix2 ⟨k.val, h⟩ j) else hr x0 x1 x2 x3 x4 x5 x6 x7 x8 ⟨k.val - 16, by omega⟩ j

/-- A block's activations. -/
def bs (halo : S16x1024.Idx → EReal) (i : Fin 1024) : Row 2816 :=
  act (conv (fun k f => x12 (ix2 k f)) (fun f => x13 (ix2 0 f))
    (times (ext x0 x1 x2 x3 x4 x5 x6 x7 x8 halo ⟨14 + i.val, by omega⟩) (fun e f => x11 (ix2 e f)))
    (times (ext x0 x1 x2 x3 x4 x5 x6 x7 x8 halo ⟨15 + i.val, by omega⟩) (fun e f => x11 (ix2 e f)))
    (times (hr x0 x1 x2 x3 x4 x5 x6 x7 x8 i) (fun e f => x11 (ix2 e f))))
    (times (hr x0 x1 x2 x3 x4 x5 x6 x7 x8 i) (fun e f => x10 (ix2 e f)))

/-- A block's result rows. -/
def bo (halo : S16x1024.Idx → EReal) (i : Fin 1024) : Row 1024 :=
  ln (mix (x1r x0 x1 x2 x3 x4 x5 x6 i) (fun j => x9 (ix3 0 0 j)) (times (bs x0 x1 x2 x3 x4 x5 x6 x7 x8 x10 x11 x12 x13 halo i) (fun f j => x14 (ix2 f j))))
    (fun j => x15 (ix2 0 j)) (fun j => x16 (ix2 0 j))

/-- The activations of rows however they are read. -/
theorem acts_of (h : FVec Ideal S1024x1024 .bf16) (hx : FVec Ideal S1040x1024 .bf16) (H : Fin 1024 → Row 1024) (Y : Fin 1040 → Row 1024)
    (hh : ∀ i e, h (ix2 i e) = H i e) (hY : ∀ k e, hx (ix2 k e) = Y k e) (i : Fin 1024) : acts x10 x11 x12 x13 h hx i
      = act (conv (fun k f => x12 (ix2 k f)) (fun f => x13 (ix2 0 f)) (times (Y ⟨14 + i.val, by omega⟩) (fun e f => x11 (ix2 e f)))
        (times (Y ⟨15 + i.val, by omega⟩) (fun e f => x11 (ix2 e f))) (times (Y ⟨16 + i.val, by omega⟩) (fun e f => x11 (ix2 e f))))
        (times (H i) (fun e f => x10 (ix2 e f))) := by
  obtain rfl : (fun i e => h (ix2 i e)) = H := funext fun i => funext fun e => hh i e
  obtain rfl : (fun k e => hx (ix2 k e)) = Y := funext fun k => funext fun e => hY k e
  rfl

/-- The row sixteen on is the block's own row. -/
theorem ext_self (halo : S16x1024.Idx → EReal) (i : Fin 1024) : ext x0 x1 x2 x3 x4 x5 x6 x7 x8 halo ⟨16 + i.val, by omega⟩ = hr x0 x1 x2 x3 x4 x5 x6 x7 x8 i := by
  funext j
  unfold ext
  rw [dif_neg (by dsimp only; omega)]
  exact congrArg (fun k => hr x0 x1 x2 x3 x4 x5 x6 x7 x8 k j) (Fin.ext (by dsimp only; omega))

/-- The index of a load of a whole two-axis buffer. -/
theorem whole_idx {R C : Nat} (inb : ∀ a, (![0, 0] : Fin 2 → Nat) a + (![R, C] : Fin 2 → Nat) a ≤ (⟨2, ![R, C]⟩ : Shape).size a) (i : Fin R) (j : Fin C) :
    (Rect.unit (s := (⟨2, ![R, C]⟩ : Shape)) ![0, 0] ![R, C] inb).toLoadRect.idx (ix2 i j) = ix2 i j := by
  funext a
  match a with
  | 0 => exact Fin.ext (by simp [LoadRect.idx_apply])
  | 1 => exact Fin.ext (by simp [LoadRect.idx_apply])

open kernelRun0_A in
/-- The activations of a block, from its modulated rows behind the rows `v64` before them. -/
theorem pieces_apply (v64 : Vec Ideal S16x1024 .bf16) (i : Fin 1024) (f : Fin 2816) :
    View.canon (Val := Elt Ideal) (pieces a11 h11 a12 h12 a13 h13 a14 h14 x10 x11 x12 x13 (sl.r_4 c a1 h1 a2 h2 a3 h3 a4 h4 a5 h5 a6 h6 a7 h7 a8 h8 a9 h9 x0 x1 x2 x3 x4 x5 x6 x7 x8)
      (k0_pay6 (sl.r c a6 h6 x5) (sl.r_1 c a7 h7 x6) (sl.r_2 c a1 h1 a2 h2 a3 h3 a4 h4 a5 h5 x0 x1 x2 x3 x4) (sl.r_3 c a1 h1 a2 h2 a3 h3 a4 h4 a5 h5 x0 x1 x2 x3 x4)
        (View.readAt (Elt Ideal) a8.view (Rect.unit (s := S1x1x1024) ![0, 0, 0] S1x1x1024.size inb_S1x1x1024_S1x1x1024_0_0_0).toLoadRect (h8.unread x7))
        (View.readAt (Elt Ideal) a9.view (Rect.unit (s := S1x1x1024) ![0, 0, 0] S1x1x1024.size inb_S1x1x1024_S1x1x1024_0_0_0).toLoadRect (h9.unread x8)) v64)) (ix2 i f)
      = bs x0 x1 x2 x3 x4 x5 x6 x7 x8 x10 x11 x12 x13 v64 i f := by
  refine (pieces_canon ..).trans ?_
  refine (congrFun (acts_of x10 x11 x12 x13 _ _ (hr x0 x1 x2 x3 x4 x5 x6 x7 x8) (ext x0 x1 x2 x3 x4 x5 x6 x7 x8 v64) (h_apply c a1 h1 a2 h2 a3 h3 a4 h4 a5 h5 a6 h6 a7 h7 a8 h8 a9 h9 x0 x1 x2 x3 x4 x5 x6 x7 x8) (hx_apply c a1 h1 a2 h2 a3 h3 a4 h4 a5 h5 a6 h6 a7 h7 a8 h8 a9 h9 x0 x1 x2 x3 x4 x5 x6 x7 x8 v64) i) f).trans ?_
  unfold bs
  rw [ext_self]

open kernelRun0_A in
/-- The activations buffer at the first block of a sequence. -/
theorem actsA (i : Fin 1024) (f : Fin 2816) : sl.v433 c a1 h1 a2 h2 a3 h3 a4 h4 a5 h5 a6 h6 a7 h7 a8 h8 a9 h9 a11 h11 a12 h12 a13 h13 a14 h14 a19 a20 x0 x1 x2 x3 x4 x5 x6 x7 x8 x10 x11 x12 x13 (ix2 i f)
    = bs x0 x1 x2 x3 x4 x5 x6 x7 x8 x10 x11 x12 x13 (sl.v64 (F := Ideal) c a19) i f := by
  unfold sl.v433
  rw [View.readCov_eq_canon']
  exact (congrArg (View.canon (Val := Elt Ideal) _) (whole_idx inb_S1024x2816_S1024x2816_0_0 i f)).trans
    (pieces_apply c a1 h1 a2 h2 a3 h3 a4 h4 a5 h5 a6 h6 a7 h7 a8 h8 a9 h9 a11 h11 a12 h12 a13 h13 a14 h14 x0 x1 x2 x3 x4 x5 x6 x7 x8 x10 x11 x12 x13 (sl.v64 (F := Ideal) c a19) i f)

open kernelRun0_B in
/-- The activations buffer at the second block of a sequence. -/
theorem actsB (i : Fin 1024) (f : Fin 2816) : sl.v433 c a1 h1 a2 h2 a3 h3 a4 h4 a5 h5 a6 h6 a7 h7 a8 h8 a9 h9 a11 h11 a12 h12 a13 h13 a14 h14 a19 h19 a20 x0 x1 x2 x3 x4 x5 x6 x7 x8 x10 x11 x12 x13 xs0 (ix2 i f)
    = bs x0 x1 x2 x3 x4 x5 x6 x7 x8 x10 x11 x12 x13 (View.readAt (Elt Ideal) a19.view (Rect.unit (s := S16x1024) ![0, 0] S16x1024.size inb_S16x1024_S16x1024_0_0).toLoadRect (h19.unread xs0)) i f := by
  unfold sl.v433
  rw [View.readCov_eq_canon']
  exact (congrArg (View.canon (Val := Elt Ideal) _) (whole_idx inb_S1024x2816_S1024x2816_0_0 i f)).trans
    (pieces_apply c a1 h1 a2 h2 a3 h3 a4 h4 a5 h5 a6 h6 a7 h7 a8 h8 a9 h9 a11 h11 a12 h12 a13 h13 a14 h14 x0 x1 x2 x3 x4 x5 x6 x7 x8 x10 x11 x12 x13 _ i f)

/-- A buffer whose last store is whole holds that store. -/
theorem canon_whole {R C : Nat} {e : EltTy} (inb : ∀ a, (![0, 0] : Fin 2 → Nat) a + (![R, C] : Fin 2 → Nat) a ≤ (⟨2, ![R, C]⟩ : Shape).size a)
    (w : (⟨2, ![R, C]⟩ : Shape).Idx → Elt Ideal e) (L : List (View.Piece (Elt Ideal) (⟨2, ![R, C]⟩ : Shape) e)) (i : Fin R) (j : Fin C) :
    View.canon (⟨Rect.unit (s := (⟨2, ![R, C]⟩ : Shape)) ![0, 0] ![R, C] inb, w⟩ :: L) (ix2 i j) = w (ix2 i j) :=
  (congrArg (View.canon _) (whole_idx inb i j).symm).trans (View.canon_cons_emb (Rect.unit (s := (⟨2, ![R, C]⟩ : Shape)) ![0, 0] ![R, C] inb) w L (ix2 i j))

open kernelRun0_A in
/-- The rows after the first norm, read back from the result's block. -/
theorem x1A (i j : Fin 1024) : sl.v436 c a1 h1 a2 h2 a3 h3 a4 h4 a5 h5 a6 h6 a7 h7 a18 x0 x1 x2 x3 x4 x5 x6 (ix2 i j) = x1r x0 x1 x2 x3 x4 x5 x6 i j := by
  unfold sl.v436
  rw [View.readCov_eq_canon']
  exact (congrArg (View.canon (Val := Elt Ideal) _) (whole_idx inb_S1024x1024_S1024x1024_0_0 i j)).trans
    ((canon_whole inb_S1024x1024_S1024x1024_0_0 _ _ i j).trans (x1_apply c a1 h1 a2 h2 a3 h3 a4 h4 a5 h5 a6 h6 a7 h7 x0 x1 x2 x3 x4 x5 x6 i j))

open kernelRun0_A in
/-- The result's block at the first block of a sequence. -/
theorem outA (i j : Fin 1024) : sl.r_28 c a1 h1 a2 h2 a3 h3 a4 h4 a5 h5 a6 h6 a7 h7 a8 h8 a9 h9 a10 h10 a11 h11 a12 h12 a13 h13 a14 h14 a15 h15 a16 h16 a17 h17 a18 a19 a20 x0 x1 x2 x3 x4 x5 x6 x7 x8 x9 x10 x11 x12 x13 x14 x15 x16 (ix2 i j)
    = bo x0 x1 x2 x3 x4 x5 x6 x7 x8 x9 x10 x11 x12 x13 x14 x15 x16 (sl.v64 (F := Ideal) c a19) i j := by
  unfold sl.r_28 sl.r_27
  rw [out_apply]
  simp only [actsA, x1A, rdw, rd3]
  rfl

open kernelRun0_A in
/-- At the first block of a sequence the rows before are zero. -/
theorem haloA (y : S16x1024.Idx) : sl.v64 (F := Ideal) c a19 y = 0 := by
  obtain ⟨i, j, rfl⟩ := MlaReads.ix_pair y
  unfold sl.v64
  rw [View.readCov_eq_canon']
  refine (congrArg (View.canon (Val := Elt Ideal) _) (whole_idx inb_S16x1024_S16x1024_0_0 i j)).trans
    ((canon_whole inb_S16x1024_S16x1024_0_0 _ _ i j).trans ?_)
  pointwise [k0_pay5]

open kernelRun0_B in
/-- The result's block at the second block of a sequence. -/
theorem outB (i j : Fin 1024) : sl.r_28 c a1 h1 a2 h2 a3 h3 a4 h4 a5 h5 a6 h6 a7 h7 a8 h8 a9 h9 a10 h10 a11 h11 a12 h12 a13 h13 a14 h14 a15 h15 a16 h16 a17 h17 a18 a19 h19 a20 x0 x1 x2 x3 x4 x5 x6 x7 x8 x9 x10 x11 x12 x13 x14 x15 x16 xs0 (ix2 i j)
    = bo x0 x1 x2 x3 x4 x5 x6 x7 x8 x9 x10 x11 x12 x13 x14 x15 x16 xs0 i j := by
  have hv : View.readAt (Elt Ideal) a19.view (Rect.unit (s := S16x1024) ![0, 0] S16x1024.size inb_S16x1024_S16x1024_0_0).toLoadRect (h19.unread xs0) = xs0 := by
    funext y
    obtain ⟨i, j, rfl⟩ := MlaReads.ix_pair y
    exact rdw a19 h19 xs0 _ i j
  have hx : ∀ j, sl.v436 c a1 h1 a2 h2 a3 h3 a4 h4 a5 h5 a6 h6 a7 h7 a18 x0 x1 x2 x3 x4 x5 x6 (ix2 i j) = x1r x0 x1 x2 x3 x4 x5 x6 i j := x1A c a1 h1 a2 h2 a3 h3 a4 h4 a5 h5 a6 h6 a7 h7 a18 x0 x1 x2 x3 x4 x5 x6 i
  unfold sl.r_28 sl.r_27
  rw [out_apply]
  simp only [actsB, hx, hv, rdw, rd3]
  rfl

end Cert.Proof.TailRun

end
-- ==== Proof.TailRows.lean ====
/-
  FROM A BLOCK TO THE ARRAY. Block `T` of 64 stages rows `1024 T` onwards; two blocks are one sequence. Here: if a block's arrays are
  staged from the tail's arguments, the block's rows are the tail's rows.
-/
module

public import proofs.«01_k».proof.Defs
public import proofs.«01_k».proof.Proof.TailRun

@[expose] public section

noncomputable section

namespace Cert.Proof.TailRows

open Idealize.ShloMosaic Idealize.ShloMosaic.TcCoe Idealize.SL.Sem
open Cert.TailIdeal Cert.TailIdeal.Gen Cert.Proof.TailSpec
open Cert.Proof.TailBlock Cert.Proof.TailRun

/-- The arrays of block `T` are the tail's arguments at the block's place. -/
structure Staged (A : Args) (T : Nat) (x0 x1 : S1024x512.Idx → EReal) (x2 x3 : S1024x1024.Idx → EReal) (x4 : S1x1x1024.Idx → EReal)
    (x5 x6 : S1x1024.Idx → EReal) (x7 x8 x9 : S1x1x1024.Idx → EReal) (x10 x11 : S1024x2816.Idx → EReal) (x12 : S3x2816.Idx → EReal)
    (x13 : S1x2816.Idx → EReal) (x14 : S2816x1024.Idx → EReal) (x15 x16 : S1x1024.Idx → EReal) : Prop where
  oa : ∀ (i : Fin 1024) (R : Fin 65536), R.val = 1024 * T + i.val → (fun e => x0 (ix2 i e)) = A.oa R
  ob : ∀ (i : Fin 1024) (R : Fin 65536), R.val = 1024 * T + i.val → (fun e => x1 (ix2 i e)) = A.ob R
  Wo : (fun e j => x2 (ix2 e j)) = A.Wo
  x : ∀ (i : Fin 1024) (R : Fin 65536), R.val = 1024 * T + i.val → (fun j => x3 (ix2 i j)) = A.x R
  g1 : ∀ b : Fin 32, b.val = T / 2 → (fun j => x4 (ix3 0 0 j)) = A.g1 b
  n1g : (fun j => x5 (ix2 0 j)) = A.n1g
  n1b : (fun j => x6 (ix2 0 j)) = A.n1b
  sc : ∀ b : Fin 32, b.val = T / 2 → (fun j => x7 (ix3 0 0 j)) = A.sc b
  sh : ∀ b : Fin 32, b.val = T / 2 → (fun j => x8 (ix3 0 0 j)) = A.sh b
  g2 : ∀ b : Fin 32, b.val = T / 2 → (fun j => x9 (ix3 0 0 j)) = A.g2 b
  Wu : (fun e f => x10 (ix2 e f)) = A.Wu
  Wg : (fun e f => x11 (ix2 e f)) = A.Wg
  cw : (fun k f => x12 (ix2 k f)) = A.cw
  cb : (fun f => x13 (ix2 0 f)) = A.cb
  Wd : (fun f j => x14 (ix2 f j)) = A.Wd
  n2g : (fun j => x15 (ix2 0 j)) = A.n2g
  n2b : (fun j => x16 (ix2 0 j)) = A.n2b

variable {A : Args} {T : Nat} {x0 x1 : S1024x512.Idx → EReal} {x2 x3 : S1024x1024.Idx → EReal} {x4 : S1x1x1024.Idx → EReal}
    {x5 x6 : S1x1024.Idx → EReal} {x7 x8 x9 : S1x1x1024.Idx → EReal} {x10 x11 : S1024x2816.Idx → EReal} {x12 : S3x2816.Idx → EReal}
    {x13 : S1x2816.Idx → EReal} {x14 : S2816x1024.Idx → EReal} {x15 x16 : S1x1024.Idx → EReal} (S : Staged A T x0 x1 x2 x3 x4 x5 x6 x7 x8 x9 x10 x11 x12 x13 x14 x15 x16)
include S

/-- A block's row after the first norm is the tail's. -/
theorem x1_row (i : Fin 1024) (R : Fin 65536) (h : R.val = 1024 * T + i.val) : x1r x0 x1 x2 x3 x4 x5 x6 i = A.x1 R := by
  unfold x1r z1 Args.x1 Args.z1
  rw [S.oa i R h, S.ob i R h, S.Wo, S.x i R h, S.g1 (seq R) (by unfold seq; dsimp only; omega), S.n1g, S.n1b]

/-- A block's modulated row is the tail's. -/
theorem h_row (i : Fin 1024) (R : Fin 65536) (h : R.val = 1024 * T + i.val) : hr x0 x1 x2 x3 x4 x5 x6 x7 x8 i = A.h R := by
  have hs : (seq R).val = T / 2 := by unfold seq; dsimp only; omega
  unfold hr Args.h
  rw [x1_row S i R h, S.sc _ hs, S.sh _ hs]

/-- The row `k` rows before a block's row is the tail's, the carried rows being the tail's last rows of the block before, or zero. -/
theorem ext_row (halo : S16x1024.Idx → EReal) (hz : T % 2 = 0 → ∀ y, halo y = 0)
    (ho : T % 2 = 1 → ∀ (k : Fin 16) (R : Fin 65536) (j : Fin 1024), R.val + 16 = 1024 * T + k.val → halo (ix2 k j) = A.h R j)
    (k : Nat) (hk : k ≤ 2) (i : Fin 1024) (R : Fin 65536) (h : R.val = 1024 * T + i.val) (p : Fin 1040) (hp : p.val + k = 16 + i.val) :
    ext x0 x1 x2 x3 x4 x5 x6 x7 x8 halo p = before A.h k R := by
  funext j
  unfold ext before
  by_cases hi : p.val < 16
  · rw [dif_pos hi]
    by_cases hT : T % 2 = 0
    · rw [hz hT, if_neg (by omega)]
    · rw [if_pos (by omega)]
      exact ho (by omega) ⟨p.val, hi⟩ ⟨R.val - k, by omega⟩ j (by dsimp only; omega)
  · rw [dif_neg hi, if_pos (by omega)]
    exact congrFun (h_row S ⟨p.val - 16, by omega⟩ ⟨R.val - k, by omega⟩ (by dsimp only; omega)) j

/-- A block's result row is the tail's. -/
theorem out_row (halo : S16x1024.Idx → EReal) (hz : T % 2 = 0 → ∀ y, halo y = 0)
    (ho : T % 2 = 1 → ∀ (k : Fin 16) (R : Fin 65536) (j : Fin 1024), R.val + 16 = 1024 * T + k.val → halo (ix2 k j) = A.h R j)
    (i : Fin 1024) (R : Fin 65536) (h : R.val = 1024 * T + i.val) : bo x0 x1 x2 x3 x4 x5 x6 x7 x8 x9 x10 x11 x12 x13 x14 x15 x16 halo i = A.out R := by
  have hs : (seq R).val = T / 2 := by unfold seq; dsimp only; omega
  have e2 := ext_row S halo hz ho 2 (by omega) i R h ⟨14 + i.val, by omega⟩ (by dsimp only; omega)
  have e1 := ext_row S halo hz ho 1 (by omega) i R h ⟨15 + i.val, by omega⟩ (by dsimp only; omega)
  unfold bo bs Args.out Args.s Args.a
  rw [e2, e1, h_row S i R h, x1_row S i R h, S.g2 _ hs, S.Wu, S.Wg, S.cw, S.cb, S.Wd, S.n2g, S.n2b]

end Cert.Proof.TailRows

end
-- ==== Proof.TailRef.lean ====
/-
  THE TAIL'S REFERENCE. The reference program's result, read row by row, is the tail of the row.
-/
module

public import proofs.«01_k».proof.Defs
public import proofs.«01_k».proof.Proof.TailSpec
public import proofs.«01_k».proof.Proof.Gen.TailRefIdeal.Run
public import proofs.«01_k».proof.Proof.Gen.TailRefIdeal.Read
public import Idealize.ShloMosaic.Lib.Pointwise
public import Idealize.ShloMosaic.Lib.IdealHost
public import Idealize.ShloMosaic.Lib.Quiescent

@[expose] public section

noncomputable section

namespace Cert.Proof.TailRef

open Idealize.ShloMosaic Idealize.ShloMosaic.TcCoe Idealize.SL.Sem
open Cert.TailRefIdeal Cert.Proof.TailSpec

/-- The arguments' arrays as rows. -/
def args (x0 x1 : S65536x512.Idx → EReal) (x2 : S1024x1024.Idx → EReal) (x3 : S65536x1024.Idx → EReal) (x4 : S32x1x1024.Idx → EReal)
    (x5 x6 : S1x1024.Idx → EReal) (x7 x8 x9 : S32x1x1024.Idx → EReal) (x10 x11 : S1024x2816.Idx → EReal) (x12 : S3x2816.Idx → EReal)
    (x13 : S1x2816.Idx → EReal) (x14 : S2816x1024.Idx → EReal) (x15 x16 : S1x1024.Idx → EReal) : Args where
  oa R e := x0 (ix2 R e)
  ob R e := x1 (ix2 R e)
  Wo e j := x2 (ix2 e j)
  x R j := x3 (ix2 R j)
  g1 b j := x4 (ix3 b 0 j)
  n1g j := x5 (ix2 0 j)
  n1b j := x6 (ix2 0 j)
  sc b j := x7 (ix3 b 0 j)
  sh b j := x8 (ix3 b 0 j)
  g2 b j := x9 (ix3 b 0 j)
  Wu e f := x10 (ix2 e f)
  Wg e f := x11 (ix2 e f)
  cw k f := x12 (ix2 k f)
  cb f := x13 (ix2 0 f)
  Wd f j := x14 (ix2 f j)
  n2g j := x15 (ix2 0 j)
  n2b j := x16 (ix2 0 j)

variable (x0 x1 : S65536x512.Idx → EReal) (x2 : S1024x1024.Idx → EReal) (x3 : S65536x1024.Idx → EReal) (x4 : S32x1x1024.Idx → EReal)
  (x5 x6 : S1x1024.Idx → EReal) (x7 x8 x9 : S32x1x1024.Idx → EReal) (x10 x11 : S1024x2816.Idx → EReal) (x12 : S3x2816.Idx → EReal)
  (x13 : S1x2816.Idx → EReal) (x14 : S2816x1024.Idx → EReal) (x15 x16 : S1x1024.Idx → EReal)

/-- Row `q` of sequence `b`. -/
def rowOf (b : Fin 32) (q : Fin 2048) : Fin 65536 := ⟨b.val * 2048 + q.val, by omega⟩

/-- The sequence of a sequence's row. -/
theorem seq_rowOf (b : Fin 32) (q : Fin 2048) : seq (rowOf b q) = b := Fin.ext (by unfold seq rowOf; dsimp only; omega)

/-- The row before the first norm. -/
theorem ref_z1 (b : Fin 32) (q : Fin 2048) (j : Fin 1024) :
    Read.val_main_v15 (F := Ideal) x0 x1 x2 x3 x4 (ix3 b q j) = Args.z1 (args x0 x1 x2 x3 x4 x5 x6 x7 x8 x9 x10 x11 x12 x13 x14 x15 x16) (rowOf b q) j := by
  unfold Args.z1
  rw [seq_rowOf]
  pointwise [Read.val_main_v15, Read.val_main_v14, Read.val_main_v13, Read.val_main_v12, Read.val_main_v11, Read.val_main_v10, Read.val_main_v9,
    Read.val_main_v8, Read.val_main_v7, Read.val_main_v6, Read.val_main_v5, Read.val_main_v4, Read.val_main_v0, Read.val_main_cst,
    Read.val_main_cst_0]
  rfl

/-- The row after the first norm. -/
theorem ref_x1 (b : Fin 32) (q : Fin 2048) (j : Fin 1024) :
    Read.val_main_v41 (F := Ideal) x0 x1 x2 x3 x4 x5 x6 (ix3 b q j) = Args.x1 (args x0 x1 x2 x3 x4 x5 x6 x7 x8 x9 x10 x11 x12 x13 x14 x15 x16) (rowOf b q) j := by
  pointwise [Read.val_main_v41, Read.val_main_v40, Read.val_main_v39, Read.val_main_v38, Read.val_main_v37, Read.val_main_v36, Read.val_main_v35,
    Read.val_main_v34, Read.val_main_v33, Read.val_main_v32, Read.val_main_v31, Read.val_main_v30, Read.val_main_v29, Read.val_main_v28,
    Read.val_main_v27, Read.val_main_v26, Read.val_main_v25, Read.val_main_v24, Read.val_main_v23, Read.val_main_v22, Read.val_main_v21,
    Read.val_main_v20, Read.val_main_v19, Read.val_main_v18, Read.val_main_v17, Read.val_main_v16, Read.val_main_cst_1, Read.val_main_cst_2,
    Read.val_main_cst_3, Read.val_main_cst_4, Read.val_main_cst_5]
  simp only [ref_z1 x0 x1 x2 x3 x4 x5 x6 x7 x8 x9 x10 x11 x12 x13 x14 x15 x16]
  rfl

/-- The modulated row. -/
theorem ref_h (b : Fin 32) (q : Fin 2048) (j : Fin 1024) :
    Read.val_main_v47 (F := Ideal) x0 x1 x2 x3 x4 x5 x6 x7 x8 (ix3 b q j) = Args.h (args x0 x1 x2 x3 x4 x5 x6 x7 x8 x9 x10 x11 x12 x13 x14 x15 x16) (rowOf b q) j := by
  unfold Args.h
  rw [seq_rowOf]
  pointwise [Read.val_main_v47, Read.val_main_v46, Read.val_main_v45, Read.val_main_v44, Read.val_main_v43, Read.val_main_v42, Read.val_main_cst_6]
  rw [ref_x1 x0 x1 x2 x3 x4 x5 x6 x7 x8 x9 x10 x11 x12 x13 x14 x15 x16]
  rfl

/-- The padding is zero. -/
theorem pad_zero : (FloatOps.sitofp (F := Ideal) FTy.f32 (0#32) : EReal) = 0 := by
  simp [FloatOps.sitofp]

/-- The gate of the row `k` rows before row `q`, for `k` at most two: the padded gate's row `q + 2 - k`. -/
theorem ref_gate (k : Nat) (hk : k ≤ 2) (b : Fin 32) (q : Fin 2048) (p : Fin 2050) (hp : p.val = q.val + 2 - k) (f : Fin 2816) :
    Read.val_main_v50 (F := Ideal) x0 x1 x2 x3 x4 x5 x6 x7 x8 x11 (ix3 b p f)
      = times (before (Args.h (args x0 x1 x2 x3 x4 x5 x6 x7 x8 x9 x10 x11 x12 x13 x14 x15 x16)) k (rowOf b q)) (Args.Wg (args x0 x1 x2 x3 x4 x5 x6 x7 x8 x9 x10 x11 x12 x13 x14 x15 x16)) f := by
  pointwise [Read.val_main_v50, Read.val_main_v49, Read.val_main_v2, Read.val_main_call0_v0, Read.val_main_c]
  have hq : (rowOf b q).val % 2048 = q.val := by unfold rowOf; dsimp only; omega
  unfold times before
  rw [hq]
  by_cases h : k ≤ q.val
  · rw [dif_pos (by omega)]
    refine Finset.sum_congr rfl fun e _ => ?_
    rw [ref_h x0 x1 x2 x3 x4 x5 x6 x7 x8 x9 x10 x11 x12 x13 x14 x15 x16, if_pos h]
    refine congrArg₂ (fun (r : Fin 65536) (w : EReal) => Args.h (args x0 x1 x2 x3 x4 x5 x6 x7 x8 x9 x10 x11 x12 x13 x14 x15 x16) r e * w) (Fin.ext ?_) rfl
    unfold rowOf
    dsimp only
    omega
  · rw [dif_neg (by omega), pad_zero]
    refine (Finset.sum_eq_zero fun e _ => ?_).symm
    rw [if_neg h, zero_mul]

/-- The row itself is the row zero rows before. -/
theorem before_zero {n : Nat} (H : Fin 65536 → Row n) (R : Fin 65536) : before H 0 R = H R := by
  funext e
  unfold before
  rw [if_pos (Nat.zero_le _)]
  rfl

/-- Three tapped terms in the other order. -/
theorem add_swap (a b c d : EReal) : a + b + c + d = c + b + a + d := by
  rw [add_comm (a + b) c, add_comm a b, ← add_assoc c b a]

/-- The convolution's row. -/
theorem ref_a (b : Fin 32) (q : Fin 2048) (f : Fin 2816) :
    Read.val_main_v74 (F := Ideal) x0 x1 x2 x3 x4 x5 x6 x7 x8 x11 x12 x13 (ix3 b q f) = Args.a (args x0 x1 x2 x3 x4 x5 x6 x7 x8 x9 x10 x11 x12 x13 x14 x15 x16) (rowOf b q) f := by
  pointwise [Read.val_main_v74, Read.val_main_v73, Read.val_main_v72, Read.val_main_v71, Read.val_main_v70,
    Read.val_main_v69, Read.val_main_v68, Read.val_main_v67, Read.val_main_v66, Read.val_main_v65, Read.val_main_v64, Read.val_main_v63, Read.val_main_v62,
    Read.val_main_v61, Read.val_main_v60, Read.val_main_v59, Read.val_main_v58, Read.val_main_v57, Read.val_main_v56, Read.val_main_v55, Read.val_main_v54,
    Read.val_main_v53, Read.val_main_v52, Read.val_main_v51]
  rw [ref_gate x0 x1 x2 x3 x4 x5 x6 x7 x8 x9 x10 x11 x12 x13 x14 x15 x16 2 (by omega) b q _ (by dsimp only; omega), ref_gate x0 x1 x2 x3 x4 x5 x6 x7 x8 x9 x10 x11 x12 x13 x14 x15 x16 1 (by omega) b q _ (by dsimp only; omega),
    ref_gate x0 x1 x2 x3 x4 x5 x6 x7 x8 x9 x10 x11 x12 x13 x14 x15 x16 0 (by omega) b q _ (by dsimp only; omega), before_zero, add_swap]
  rfl

/-- The up projection's row. -/
theorem ref_u (b : Fin 32) (q : Fin 2048) (f : Fin 2816) :
    Read.val_main_v48 (F := Ideal) x0 x1 x2 x3 x4 x5 x6 x7 x8 x10 (ix3 b q f) = times (Args.h (args x0 x1 x2 x3 x4 x5 x6 x7 x8 x9 x10 x11 x12 x13 x14 x15 x16) (rowOf b q)) (Args.Wu (args x0 x1 x2 x3 x4 x5 x6 x7 x8 x9 x10 x11 x12 x13 x14 x15 x16)) f := by
  pointwise [Read.val_main_v48, Read.val_main_v1]
  unfold times
  refine Finset.sum_congr rfl fun e _ => ?_
  rw [ref_h x0 x1 x2 x3 x4 x5 x6 x7 x8 x9 x10 x11 x12 x13 x14 x15 x16]
  rfl

/-- A number times the logistic is the number over one plus the exponential. -/
theorem silu (a : EReal) : a * Ideal.div 1 (1 + Ideal.exp (-a)) = Ideal.div a (1 + Ideal.exp (-a)) := by
  have hp : ∀ z : EReal, (0 : EReal) ≤ Ideal.exp z := fun z => by
    induction z with
    | bot => exact le_rfl
    | top => exact le_top
    | coe r => exact EReal.coe_nonneg.2 (Real.exp_pos r).le
  have h0 : (1 : EReal) + Ideal.exp (-a) ≠ 0 := ne_of_gt (lt_of_lt_of_le zero_lt_one (le_add_of_nonneg_right (hp _)))
  unfold Ideal.div
  rw [if_neg h0, if_neg h0, one_mul]

/-- The activation's row. -/
theorem ref_s (b : Fin 32) (q : Fin 2048) (f : Fin 2816) :
    Read.val_main_v76 (F := Ideal) x0 x1 x2 x3 x4 x5 x6 x7 x8 x10 x11 x12 x13 (ix3 b q f) = Args.s (args x0 x1 x2 x3 x4 x5 x6 x7 x8 x9 x10 x11 x12 x13 x14 x15 x16) (rowOf b q) f := by
  pointwise [Read.val_main_v76, Read.val_main_v75, Read.val_main_call1_v5, Read.val_main_call1_v4, Read.val_main_call1_v3, Read.val_main_call1_v2,
    Read.val_main_call1_v1, Read.val_main_call1_v0, Read.val_main_call1_cst, Read.val_main_call1_cst_0]
  rw [ref_a x0 x1 x2 x3 x4 x5 x6 x7 x8 x9 x10 x11 x12 x13 x14 x15 x16, ref_u x0 x1 x2 x3 x4 x5 x6 x7 x8 x9 x10 x11 x12 x13 x14 x15 x16, silu]
  rfl

/-- The row before the second norm. -/
theorem ref_z2 (b : Fin 32) (q : Fin 2048) (j : Fin 1024) :
    Read.val_main_v84 (F := Ideal) x0 x1 x2 x3 x4 x5 x6 x7 x8 x9 x10 x11 x12 x13 x14 (ix3 b q j)
      = mix (Args.x1 (args x0 x1 x2 x3 x4 x5 x6 x7 x8 x9 x10 x11 x12 x13 x14 x15 x16) (rowOf b q)) (Args.g2 (args x0 x1 x2 x3 x4 x5 x6 x7 x8 x9 x10 x11 x12 x13 x14 x15 x16) b) (times (Args.s (args x0 x1 x2 x3 x4 x5 x6 x7 x8 x9 x10 x11 x12 x13 x14 x15 x16) (rowOf b q)) (Args.Wd (args x0 x1 x2 x3 x4 x5 x6 x7 x8 x9 x10 x11 x12 x13 x14 x15 x16))) j := by
  pointwise [Read.val_main_v84, Read.val_main_v83, Read.val_main_v82, Read.val_main_v81, Read.val_main_v80, Read.val_main_v79, Read.val_main_v78,
    Read.val_main_v77, Read.val_main_v3, Read.val_main_cst_7, Read.val_main_cst_8]
  simp only [ref_x1 x0 x1 x2 x3 x4 x5 x6 x7 x8 x9 x10 x11 x12 x13 x14 x15 x16, ref_s x0 x1 x2 x3 x4 x5 x6 x7 x8 x9 x10 x11 x12 x13 x14 x15 x16]
  rfl

/-- The layer norm of a row, however its elements are read. -/
theorem ln_of (f z g b : Row 1024) (h : ∀ e, f e = z e) (j : Fin 1024) (gj bj : EReal) (hg : gj = g j) (hb : bj = b j) :
    (f j - Ideal.div (∑ e, f e) (Ideal.ofBits .f32 0x44800000#32)) * Ideal.rsqrt (Ideal.div (∑ e, (f e - Ideal.div (∑ k, f k) (Ideal.ofBits .f32 0x44800000#32))
      * (f e - Ideal.div (∑ k, f k) (Ideal.ofBits .f32 0x44800000#32))) (Ideal.ofBits .f32 0x44800000#32) + Ideal.ofBits .f32 0x3727C5AC#32) * gj + bj
      = ln z g b j := by
  obtain rfl : f = z := funext h
  rw [hg, hb]
  rfl

/-- The result at a row and a column. -/
theorem ref_apply (R : Fin 65536) (j : Fin 1024) :
    Read.val_main_v111 (F := Ideal) x0 x1 x2 x3 x4 x5 x6 x7 x8 x9 x10 x11 x12 x13 x14 x15 x16 (ix2 R j) = Args.out (args x0 x1 x2 x3 x4 x5 x6 x7 x8 x9 x10 x11 x12 x13 x14 x15 x16) R j := by
  pointwise [Read.val_main_v111, Read.val_main_v110, Read.val_main_v109, Read.val_main_v108, Read.val_main_v107, Read.val_main_v106,
    Read.val_main_v105, Read.val_main_v104, Read.val_main_v103, Read.val_main_v102, Read.val_main_v101, Read.val_main_v100, Read.val_main_v99,
    Read.val_main_v98, Read.val_main_v97, Read.val_main_v96, Read.val_main_v95, Read.val_main_v94, Read.val_main_v93, Read.val_main_v92,
    Read.val_main_v91, Read.val_main_v90, Read.val_main_v89, Read.val_main_v88, Read.val_main_v87, Read.val_main_v86, Read.val_main_v85,
    Read.val_main_cst_9, Read.val_main_cst_10, Read.val_main_cst_11, Read.val_main_cst_12, Read.val_main_cst_13]
  have hr : rowOf ⟨R.val / 2048, by omega⟩ ⟨R.val % 2048, by omega⟩ = R := Fin.ext (by unfold rowOf; dsimp only; omega)
  have hz : ∀ e, Read.val_main_v84 (F := Ideal) x0 x1 x2 x3 x4 x5 x6 x7 x8 x9 x10 x11 x12 x13 x14 (ix3 ⟨R.val / 2048, by omega⟩ ⟨R.val % 2048, by omega⟩ e)
      = mix (Args.x1 (args x0 x1 x2 x3 x4 x5 x6 x7 x8 x9 x10 x11 x12 x13 x14 x15 x16) R) (Args.g2 (args x0 x1 x2 x3 x4 x5 x6 x7 x8 x9 x10 x11 x12 x13 x14 x15 x16) (seq R)) (times (Args.s (args x0 x1 x2 x3 x4 x5 x6 x7 x8 x9 x10 x11 x12 x13 x14 x15 x16) R) (Args.Wd (args x0 x1 x2 x3 x4 x5 x6 x7 x8 x9 x10 x11 x12 x13 x14 x15 x16))) e := fun e => by
    rw [ref_z2 x0 x1 x2 x3 x4 x5 x6 x7 x8 x9 x10 x11 x12 x13 x14 x15 x16, hr, seq]
  have e := ln_of (fun e => Read.val_main_v84 (F := Ideal) x0 x1 x2 x3 x4 x5 x6 x7 x8 x9 x10 x11 x12 x13 x14 (ix3 ⟨R.val / 2048, by omega⟩ ⟨R.val % 2048, by omega⟩ e))
    (mix (Args.x1 (args x0 x1 x2 x3 x4 x5 x6 x7 x8 x9 x10 x11 x12 x13 x14 x15 x16) R) (Args.g2 (args x0 x1 x2 x3 x4 x5 x6 x7 x8 x9 x10 x11 x12 x13 x14 x15 x16) (seq R)) (times (Args.s (args x0 x1 x2 x3 x4 x5 x6 x7 x8 x9 x10 x11 x12 x13 x14 x15 x16) R) (Args.Wd (args x0 x1 x2 x3 x4 x5 x6 x7 x8 x9 x10 x11 x12 x13 x14 x15 x16)))) (Args.n2g (args x0 x1 x2 x3 x4 x5 x6 x7 x8 x9 x10 x11 x12 x13 x14 x15 x16)) (Args.n2b (args x0 x1 x2 x3 x4 x5 x6 x7 x8 x9 x10 x11 x12 x13 x14 x15 x16)) hz j (x15 (ix2 0 j)) (x16 (ix2 0 j)) rfl rfl
  unfold Args.out
  with_reducible exact e

end Cert.Proof.TailRef

end
-- ==== Proof.TailArray.lean ====
/-
  THE TAIL'S RESULT ARRAY. The kernel walks the 65536 rows in 64 blocks of 1024 rows, two blocks to a sequence; the second block of a
  sequence takes the last sixteen modulated rows of the first from the carried buffer. Here: what each block stages, what the carried
  rows are, and that the array after the run is the tail of the arguments, row by row.
-/
module

public import proofs.«01_k».proof.Defs
public import proofs.«01_k».proof.Proof.TailRows
public import proofs.«01_k».proof.Proof.TailRef

@[expose] public section

noncomputable section

namespace Cert.Proof.TailArray

open Idealize.ShloMosaic Idealize.ShloMosaic.TcCoe Idealize.SL.Sem
open Cert.TailIdeal Cert.TailIdeal.Gen Cert.Proof.TailSpec
open Cert.Proof.TailBlock Cert.Proof.TailRun Cert.Proof.TailRows

variable (m : (ℓ : Loc nD τ sig) → Buf (Elt Ideal) ℓ)

/-- Which block of the rows point `t` stages in window 0. -/
theorem idx0 : ∀ t : Fin cfg0.N, win0_0.index t = ![t.val, 0] :=
  (by decide +kernel : ∀ t : Fin grid0.N, _)
/-- Which block of the rows point `t` stages in window 1. -/
theorem idx1 : ∀ t : Fin cfg0.N, win0_1.index t = ![t.val, 0] :=
  (by decide +kernel : ∀ t : Fin grid0.N, _)
/-- Window 2 is one block. -/
theorem idx2 : ∀ t : Fin cfg0.N, win0_2.index t = ![0, 0] :=
  (by decide +kernel : ∀ t : Fin grid0.N, _)
/-- Which block of the rows point `t` stages in window 3. -/
theorem idx3 : ∀ t : Fin cfg0.N, win0_3.index t = ![t.val, 0] :=
  (by decide +kernel : ∀ t : Fin grid0.N, _)
/-- Which sequence's row point `t` stages in window 4. -/
theorem idx4 : ∀ t : Fin cfg0.N, win0_4.index t = ![t.val / 2, 0, 0] :=
  (by decide +kernel : ∀ t : Fin grid0.N, _)
/-- Window 5 is one block. -/
theorem idx5 : ∀ t : Fin cfg0.N, win0_5.index t = ![0, 0] :=
  (by decide +kernel : ∀ t : Fin grid0.N, _)
/-- Window 6 is one block. -/
theorem idx6 : ∀ t : Fin cfg0.N, win0_6.index t = ![0, 0] :=
  (by decide +kernel : ∀ t : Fin grid0.N, _)
/-- Which sequence's row point `t` stages in window 7. -/
theorem idx7 : ∀ t : Fin cfg0.N, win0_7.index t = ![t.val / 2, 0, 0] :=
  (by decide +kernel : ∀ t : Fin grid0.N, _)
/-- Which sequence's row point `t` stages in window 8. -/
theorem idx8 : ∀ t : Fin cfg0.N, win0_8.index t = ![t.val / 2, 0, 0] :=
  (by decide +kernel : ∀ t : Fin grid0.N, _)
/-- Which sequence's row point `t` stages in window 9. -/
theorem idx9 : ∀ t : Fin cfg0.N, win0_9.index t = ![t.val / 2, 0, 0] :=
  (by decide +kernel : ∀ t : Fin grid0.N, _)
/-- Window 10 is one block. -/
theorem idx10 : ∀ t : Fin cfg0.N, win0_10.index t = ![0, 0] :=
  (by decide +kernel : ∀ t : Fin grid0.N, _)
/-- Window 11 is one block. -/
theorem idx11 : ∀ t : Fin cfg0.N, win0_11.index t = ![0, 0] :=
  (by decide +kernel : ∀ t : Fin grid0.N, _)
/-- Window 12 is one block. -/
theorem idx12 : ∀ t : Fin cfg0.N, win0_12.index t = ![0, 0] :=
  (by decide +kernel : ∀ t : Fin grid0.N, _)
/-- Window 13 is one block. -/
theorem idx13 : ∀ t : Fin cfg0.N, win0_13.index t = ![0, 0] :=
  (by decide +kernel : ∀ t : Fin grid0.N, _)
/-- Window 14 is one block. -/
theorem idx14 : ∀ t : Fin cfg0.N, win0_14.index t = ![0, 0] :=
  (by decide +kernel : ∀ t : Fin grid0.N, _)
/-- Window 15 is one block. -/
theorem idx15 : ∀ t : Fin cfg0.N, win0_15.index t = ![0, 0] :=
  (by decide +kernel : ∀ t : Fin grid0.N, _)
/-- Window 16 is one block. -/
theorem idx16 : ∀ t : Fin cfg0.N, win0_16.index t = ![0, 0] :=
  (by decide +kernel : ∀ t : Fin grid0.N, _)
/-- Which block of the rows point `t` stages in window 17. -/
theorem idx17 : ∀ t : Fin cfg0.N, win0_17.index t = ![t.val, 0] :=
  (by decide +kernel : ∀ t : Fin grid0.N, _)

/-- The tail's arguments, read from the memory at the start. -/
def margs (c : Dev nD) : Args :=
  TailRef.args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- A row block's entry of window 0. -/
theorem blk0 (c : Dev nD) (t : Fin cfg0.N) (i : Fin 1024) (R : Fin 65536) (h : R.val = 1024 * t.val + i.val) (e : Fin 512) :
    iblk m c 0 t (ix2 i e) = m ((c : Thread nD τ).loc main_arg0) (ix2 R e) := by
  obtain ⟨r, hr⟩ := R
  obtain rfl : r = 1024 * t.val + i.val := h
  blk_point [iblk, V_main_arg0, idx0 t]
/-- A row block's entry of window 1. -/
theorem blk1 (c : Dev nD) (t : Fin cfg0.N) (i : Fin 1024) (R : Fin 65536) (h : R.val = 1024 * t.val + i.val) (e : Fin 512) :
    iblk m c 1 t (ix2 i e) = m ((c : Thread nD τ).loc main_arg1) (ix2 R e) := by
  obtain ⟨r, hr⟩ := R
  obtain rfl : r = 1024 * t.val + i.val := h
  blk_point [iblk, V_main_arg1, idx1 t]
/-- An entry of the one block of window 2. -/
theorem blk2 (c : Dev nD) (t : Fin cfg0.N) (i : Fin 1024) (j : Fin 1024) : iblk m c 2 t (ix2 i j) = m ((c : Thread nD τ).loc main_arg2) (ix2 i j) := by
  blk_point [iblk, V_main_arg2, idx2 t]
/-- A row block's entry of window 3. -/
theorem blk3 (c : Dev nD) (t : Fin cfg0.N) (i : Fin 1024) (R : Fin 65536) (h : R.val = 1024 * t.val + i.val) (e : Fin 1024) :
    iblk m c 3 t (ix2 i e) = m ((c : Thread nD τ).loc main_arg3) (ix2 R e) := by
  obtain ⟨r, hr⟩ := R
  obtain rfl : r = 1024 * t.val + i.val := h
  blk_point [iblk, V_main_arg3, idx3 t]
/-- A sequence row's entry of window 4. -/
theorem blk4 (c : Dev nD) (t : Fin cfg0.N) (b : Fin 32) (h : b.val = t.val / 2) (e : Fin 1024) :
    iblk m c 4 t (ix3 0 0 e) = m ((c : Thread nD τ).loc main_arg4) (ix3 b 0 e) := by
  obtain ⟨r, hr⟩ := b
  obtain rfl : r = t.val / 2 := h
  blk_point [iblk, V_main_arg4, idx4 t]
/-- An entry of the one block of window 5. -/
theorem blk5 (c : Dev nD) (t : Fin cfg0.N) (i : Fin 1) (j : Fin 1024) : iblk m c 5 t (ix2 i j) = m ((c : Thread nD τ).loc main_arg5) (ix2 i j) := by
  blk_point [iblk, V_main_arg5, idx5 t]
/-- An entry of the one block of window 6. -/
theorem blk6 (c : Dev nD) (t : Fin cfg0.N) (i : Fin 1) (j : Fin 1024) : iblk m c 6 t (ix2 i j) = m ((c : Thread nD τ).loc main_arg6) (ix2 i j) := by
  blk_point [iblk, V_main_arg6, idx6 t]
/-- A sequence row's entry of window 7. -/
theorem blk7 (c : Dev nD) (t : Fin cfg0.N) (b : Fin 32) (h : b.val = t.val / 2) (e : Fin 1024) :
    iblk m c 7 t (ix3 0 0 e) = m ((c : Thread nD τ).loc main_arg7) (ix3 b 0 e) := by
  obtain ⟨r, hr⟩ := b
  obtain rfl : r = t.val / 2 := h
  blk_point [iblk, V_main_arg7, idx7 t]
/-- A sequence row's entry of window 8. -/
theorem blk8 (c : Dev nD) (t : Fin cfg0.N) (b : Fin 32) (h : b.val = t.val / 2) (e : Fin 1024) :
    iblk m c 8 t (ix3 0 0 e) = m ((c : Thread nD τ).loc main_arg8) (ix3 b 0 e) := by
  obtain ⟨r, hr⟩ := b
  obtain rfl : r = t.val / 2 := h
  blk_point [iblk, V_main_arg8, idx8 t]
/-- A sequence row's entry of window 9. -/
theorem blk9 (c : Dev nD) (t : Fin cfg0.N) (b : Fin 32) (h : b.val = t.val / 2) (e : Fin 1024) :
    iblk m c 9 t (ix3 0 0 e) = m ((c : Thread nD τ).loc main_arg9) (ix3 b 0 e) := by
  obtain ⟨r, hr⟩ := b
  obtain rfl : r = t.val / 2 := h
  blk_point [iblk, V_main_arg9, idx9 t]
/-- An entry of the one block of window 10. -/
theorem blk10 (c : Dev nD) (t : Fin cfg0.N) (i : Fin 1024) (j : Fin 2816) : iblk m c 10 t (ix2 i j) = m ((c : Thread nD τ).loc main_arg10) (ix2 i j) := by
  blk_point [iblk, V_main_arg10, idx10 t]
/-- An entry of the one block of window 11. -/
theorem blk11 (c : Dev nD) (t : Fin cfg0.N) (i : Fin 1024) (j : Fin 2816) : iblk m c 11 t (ix2 i j) = m ((c : Thread nD τ).loc main_arg11) (ix2 i j) := by
  blk_point [iblk, V_main_arg11, idx11 t]
/-- An entry of the one block of window 12. -/
theorem blk12 (c : Dev nD) (t : Fin cfg0.N) (i : Fin 3) (j : Fin 2816) : iblk m c 12 t (ix2 i j) = m ((c : Thread nD τ).loc main_arg12) (ix2 i j) := by
  blk_point [iblk, V_main_arg12, idx12 t]
/-- An entry of the one block of window 13. -/
theorem blk13 (c : Dev nD) (t : Fin cfg0.N) (i : Fin 1) (j : Fin 2816) : iblk m c 13 t (ix2 i j) = m ((c : Thread nD τ).loc main_arg13) (ix2 i j) := by
  blk_point [iblk, V_main_arg13, idx13 t]
/-- An entry of the one block of window 14. -/
theorem blk14 (c : Dev nD) (t : Fin cfg0.N) (i : Fin 2816) (j : Fin 1024) : iblk m c 14 t (ix2 i j) = m ((c : Thread nD τ).loc main_arg14) (ix2 i j) := by
  blk_point [iblk, V_main_arg14, idx14 t]
/-- An entry of the one block of window 15. -/
theorem blk15 (c : Dev nD) (t : Fin cfg0.N) (i : Fin 1) (j : Fin 1024) : iblk m c 15 t (ix2 i j) = m ((c : Thread nD τ).loc main_arg15) (ix2 i j) := by
  blk_point [iblk, V_main_arg15, idx15 t]
/-- An entry of the one block of window 16. -/
theorem blk16 (c : Dev nD) (t : Fin cfg0.N) (i : Fin 1) (j : Fin 1024) : iblk m c 16 t (ix2 i j) = m ((c : Thread nD τ).loc main_arg16) (ix2 i j) := by
  blk_point [iblk, V_main_arg16, idx16 t]

/-- Point `t` stages block `t` of the tail's arguments. -/
theorem staged (c : Dev nD) (t : Fin cfg0.N) : Staged (margs m c) t.val (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) where
  oa i R h := funext fun e => blk0 m c t i R h e
  ob i R h := funext fun e => blk1 m c t i R h e
  Wo := funext fun i => funext fun j => blk2 m c t i j
  x i R h := funext fun e => blk3 m c t i R h e
  g1 b h := funext fun e => blk4 m c t b h e
  n1g := funext fun j => blk5 m c t 0 j
  n1b := funext fun j => blk6 m c t 0 j
  sc b h := funext fun e => blk7 m c t b h e
  sh b h := funext fun e => blk8 m c t b h e
  g2 b h := funext fun e => blk9 m c t b h e
  Wu := funext fun i => funext fun j => blk10 m c t i j
  Wg := funext fun i => funext fun j => blk11 m c t i j
  cw := funext fun i => funext fun j => blk12 m c t i j
  cb := funext fun j => blk13 m c t 0 j
  Wd := funext fun i => funext fun j => blk14 m c t i j
  n2g := funext fun j => blk15 m c t 0 j
  n2b := funext fun j => blk16 m c t 0 j

/-- The rows the first block of a sequence leaves in the carried buffer: its last sixteen modulated rows. -/
theorem carried (c : Dev nD) (t : Fin cfg0.N) (h0 : t.val % 2 = 0) (k : Fin 16) (R : Fin 65536) (j : Fin 1024)
    (h : R.val + 16 = 1024 * (t.val + 1) + k.val) : (outsAt0 m c t.val t.isLt).2 (ix2 k j) = (margs m c).h R j := by
  rw [outsAt0_A m c t h0]
  dsimp only
  unfold sout0_A_0
  rw [View.read_writes_junk_eq_canon]
  unfold kernelRun0_A
  dsimp only
  refine (canon_whole inb_S16x1024_S16x1024_0_0 _ _ k j).trans ?_
  refine (last_apply c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) (iblk m c 8 t) k j).trans ?_
  exact congrFun (h_row (staged m c t) ⟨1008 + k.val, by omega⟩ R (by dsimp only; omega)) j

/-- A block the first point of a sequence leaves in the result. -/
theorem resA (c : Dev nD) (t : Fin cfg0.N) (h0 : t.val % 2 = 0) (i j : Fin 1024) (R : Fin 65536) (h : R.val = 1024 * t.val + i.val) :
    (outsAt0 m c t.val t.isLt).1 (ix2 i j) = (margs m c).out R j := by
  rw [outsAt0_A m c t h0]
  dsimp only
  unfold out0_A_17
  rw [View.read_writes_junk_eq_canon]
  unfold kernelRun0_A
  dsimp only
  refine (canon_whole inb_S1024x1024_S1024x1024_0_0 _ _ i j).trans ?_
  refine (outA c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) i j).trans ?_
  exact congrFun (out_row (staged m c t) _ (fun _ y => haloA c scM0_0 y) (fun h1 => absurd h1 (by omega)) i R h) j

/-- A block the second point of a sequence leaves in the result. -/
theorem resB (c : Dev nD) (t : Fin cfg0.N) (h0 : ¬ t.val % 2 = 0) (i j : Fin 1024) (R : Fin 65536) (h : R.val = 1024 * t.val + i.val) :
    (outsAt0 m c t.val t.isLt).1 (ix2 i j) = (margs m c).out R j := by
  have hc := carried m c ⟨t.val - 1, Nat.lt_of_le_of_lt (Nat.sub_le _ _) t.isLt⟩ (by dsimp only; omega)
  rw [outsAt0_B m c t h0]
  dsimp only at hc ⊢
  unfold out0_B_17
  rw [View.read_writes_junk_eq_canon]
  unfold kernelRun0_B
  dsimp only
  refine (canon_whole inb_S1024x1024_S1024x1024_0_0 _ _ i j).trans ?_
  refine (outB c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) scM0_0 (Memref.isWhole_whole _) scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _ i j).trans ?_
  exact congrFun (out_row (staged m c t) _ (fun h1 => absurd h1 h0) (fun _ k R' j' h' => hc k R' j' (by omega)) i R h) j

/-- The row a result block's entry has in the array. -/
theorem emb_row (t : Fin cfg0.N) (y : (win0_17.xblock (grid0.coords t)).Idx) : ((win0_17.blk t).view.emb y 0).val = 1024 * t.val + (y 0).val := by
  blk_simp [idx17 t]
  try omega

/-- The column a result block's entry has in the array. -/
theorem emb_col (t : Fin cfg0.N) (y : (win0_17.xblock (grid0.coords t)).Idx) : ((win0_17.blk t).view.emb y 1).val = (y 1).val := by
  blk_simp [idx17 t]
  try omega

/-- The result array after the run is the tail of the arguments. -/
theorem final17 (c : Dev nD) : (dats (F := Ideal) m 0 c).arrAt 17 cfg0.N = fun j : S65536x1024.Idx => (margs m c).out (j 0) (j 1) := by
  refine (dats (F := Ideal) m 0 c).arrAt_eq_of_covers 17 _ (by decide +kernel) fun t hf y => ?_
  have e0 := emb_row t y
  have e1 := emb_col t y
  have hy : y = ix2 (⟨(y 0).val, (y 0).isLt⟩ : Fin 1024) (⟨(y 1).val, (y 1).isLt⟩ : Fin 1024) := by
    funext a; match a with
    | ⟨0, _⟩ => rfl
    | ⟨1, _⟩ => rfl
  have hr : (outsAt0 m c t.val t.isLt).1 y = (margs m c).out ((win0_17.blk t).view.emb y 0) ((win0_17.blk t).view.emb y 1) := by
    have hj : (win0_17.blk t).view.emb y 1 = (⟨(y 1).val, (y 1).isLt⟩ : Fin 1024) := Fin.ext e1
    rw [hj]
    refine (congrArg _ hy).trans ?_
    by_cases h0 : t.val % 2 = 0
    · exact resA m c t h0 _ _ _ e0
    · exact resB m c t h0 _ _ _ e0
  rw [after0_17]
  exact hr

end Cert.Proof.TailArray

end
-- ==== Proof.TailValue.lean ====
/-
  THE TAIL'S VALUE. The kernel's result array and the reference's are the same function of the arguments.
-/
module

public import proofs.«01_k».proof.Defs
public import proofs.«01_k».proof.Proof.TailArray
public import proofs.«01_k».proof.Proof.Gen.TailRefIdeal.Run

@[expose] public section

noncomputable section

namespace Cert.Proof.TailValue

open Idealize.ShloMosaic Idealize.ShloMosaic.TcCoe Idealize.SL.Sem
open Cert.TailIdeal Cert.TailIdeal.Gen Cert.Proof.TailSpec
open Cert.Proof.TailArray

variable (m : (ℓ : Loc nD τ sig) → Buf (Elt Ideal) ℓ)

/-- The reference's result array is the tail of the arguments. -/
theorem ref_result (c : Dev nD) :
    TailRefIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      = fun j : S65536x1024.Idx => (margs m c).out (j 0) (j 1) := by
  funext j
  obtain ⟨R, k, rfl⟩ := MlaReads.ix_pair j
  have e := TailRef.ref_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) R k
  with_reducible refine e.trans ?_
  unfold margs
  rfl

/-- The kernel's result is the reference's, for all arguments. -/
theorem algebraic : Cert.algebraic_TailIdeal_TailRefIdeal := by
  intro m ρ m' ρ' _ hagree
  refine ⟨fun c => (dats (F := Ideal) m 0 c).arrAt 17 cfg0.N, Cert.TailIdeal.Value.run_blocks (F := Ideal) m ρ, ?_⟩
  refine (θ_run Cert.TailRefIdeal.defs _ _).mono (fun _ h c => ?_) (Cert.TailRefIdeal.Value.run (F := Ideal) m' ρ')
  obtain ⟨e0, e1, e2, e3, e4, e5, e6, e7, e8, e9, e10, e11, e12, e13, e14, e15, e16⟩ := hagree c
  refine ⟨(h c).1.trans ?_, (h c).2⟩
  have l : ∀ b, StableHlo.launchContents m' c (Proc.devRef .tc b) = m' ((c.tc : Thread TailRefIdeal.nD TailRefIdeal.τ).loc b) := fun _ => rfl
  rw [TailRefIdeal.Read.val_main_v111_eq, l TailRefIdeal.main_arg0, e0, l TailRefIdeal.main_arg1, e1, l TailRefIdeal.main_arg2, e2, l TailRefIdeal.main_arg3, e3, l TailRefIdeal.main_arg4, e4, l TailRefIdeal.main_arg5, e5, l TailRefIdeal.main_arg6, e6, l TailRefIdeal.main_arg7, e7, l TailRefIdeal.main_arg8, e8, l TailRefIdeal.main_arg9, e9, l TailRefIdeal.main_arg10, e10, l TailRefIdeal.main_arg11, e11, l TailRefIdeal.main_arg12, e12, l TailRefIdeal.main_arg13, e13, l TailRefIdeal.main_arg14, e14, l TailRefIdeal.main_arg15, e15, l TailRefIdeal.main_arg16, e16]
  exact (ref_result m c).trans (final17 m c).symm

end Cert.Proof.TailValue

end
-- ==== Proof.TailOddRun.lean ====
/-
  THE ODD LAYERS' BLOCK. The tail of the odd layers runs the same body on the same blocks; only the arrays it stages from differ. Here:
  what its body stores is what the even layers' body stores.
-/
module

public import proofs.«01_k».proof.Defs
public import proofs.«01_k».proof.Proof.TailRun
public import proofs.«01_k».proof.Proof.Gen.TailOddIdeal.Value

@[expose] public section

noncomputable section

namespace Cert.Proof.TailOddRun

open Idealize.ShloMosaic Idealize.ShloMosaic.TcCoe Idealize.SL.Sem
open Cert.TailIdeal Cert.TailIdeal.Gen Cert.Proof.TailSpec

variable (c : Dev nD) (d : Dev TailOddIdeal.nD) (a1 : Memref sig .tc .vmem S1024x512 .bf16) (h1 : a1.IsWhole) (a2 : Memref sig .tc .vmem S1024x512 .bf16) (h2 : a2.IsWhole) (a3 : Memref sig .tc .vmem S1024x1024 .bf16) (h3 : a3.IsWhole) (a4 : Memref sig .tc .vmem S1024x1024 .f32) (h4 : a4.IsWhole) (a5 : Memref sig .tc .vmem S1x1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x1x1024 .f32) (h10 : a10.IsWhole) (a11 : Memref sig .tc .vmem S1024x2816 .bf16) (h11 : a11.IsWhole) (a12 : Memref sig .tc .vmem S1024x2816 .bf16) (h12 : a12.IsWhole) (a13 : Memref sig .tc .vmem S3x2816 .f32) (h13 : a13.IsWhole) (a14 : Memref sig .tc .vmem S1x2816 .f32) (h14 : a14.IsWhole) (a15 : Memref sig .tc .vmem S2816x1024 .bf16) (h15 : a15.IsWhole) (a16 : Memref sig .tc .vmem S1x1024 .f32) (h16 : a16.IsWhole) (a17 : Memref sig .tc .vmem S1x1024 .f32) (h17 : a17.IsWhole) (a18 : Memref sig .tc .vmem S1024x1024 .f32) (h18 : a18.IsWhole) (a19 : Memref sig .tc .vmem S16x1024 .bf16) (h19 : a19.IsWhole) (a20 : Memref sig .tc .vmem S1024x2816 .bf16) (h20 : a20.IsWhole) (b1 : Memref TailOddIdeal.sig .tc .vmem S1024x512 .bf16) (k1 : b1.IsWhole) (b2 : Memref TailOddIdeal.sig .tc .vmem S1024x512 .bf16) (k2 : b2.IsWhole) (b3 : Memref TailOddIdeal.sig .tc .vmem S1024x1024 .bf16) (k3 : b3.IsWhole) (b4 : Memref TailOddIdeal.sig .tc .vmem S1024x1024 .f32) (k4 : b4.IsWhole) (b5 : Memref TailOddIdeal.sig .tc .vmem S1x1x1024 .f32) (k5 : b5.IsWhole) (b6 : Memref TailOddIdeal.sig .tc .vmem S1x1024 .f32) (k6 : b6.IsWhole) (b7 : Memref TailOddIdeal.sig .tc .vmem S1x1024 .f32) (k7 : b7.IsWhole) (b8 : Memref TailOddIdeal.sig .tc .vmem S1x1x1024 .f32) (k8 : b8.IsWhole) (b9 : Memref TailOddIdeal.sig .tc .vmem S1x1x1024 .f32) (k9 : b9.IsWhole) (b10 : Memref TailOddIdeal.sig .tc .vmem S1x1x1024 .f32) (k10 : b10.IsWhole) (b11 : Memref TailOddIdeal.sig .tc .vmem S1024x2816 .bf16) (k11 : b11.IsWhole) (b12 : Memref TailOddIdeal.sig .tc .vmem S1024x2816 .bf16) (k12 : b12.IsWhole) (b13 : Memref TailOddIdeal.sig .tc .vmem S3x2816 .f32) (k13 : b13.IsWhole) (b14 : Memref TailOddIdeal.sig .tc .vmem S1x2816 .f32) (k14 : b14.IsWhole) (b15 : Memref TailOddIdeal.sig .tc .vmem S2816x1024 .bf16) (k15 : b15.IsWhole) (b16 : Memref TailOddIdeal.sig .tc .vmem S1x1024 .f32) (k16 : b16.IsWhole) (b17 : Memref TailOddIdeal.sig .tc .vmem S1x1024 .f32) (k17 : b17.IsWhole) (b18 : Memref TailOddIdeal.sig .tc .vmem S1024x1024 .f32) (k18 : b18.IsWhole) (b19 : Memref TailOddIdeal.sig .tc .vmem S16x1024 .bf16) (k19 : b19.IsWhole) (b20 : Memref TailOddIdeal.sig .tc .vmem S1024x2816 .bf16) (k20 : b20.IsWhole)
  (x0 x1 : Vec Ideal S1024x512 .bf16) (x2 : Vec Ideal S1024x1024 .bf16) (x3 : Vec Ideal S1024x1024 .f32) (x4 : Vec Ideal S1x1x1024 .f32)
  (x5 x6 : Vec Ideal S1x1024 .f32) (x7 x8 x9 : Vec Ideal S1x1x1024 .f32) (x10 x11 : Vec Ideal S1024x2816 .bf16) (x12 : Vec Ideal S3x2816 .f32)
  (x13 : Vec Ideal S1x2816 .f32) (x14 : Vec Ideal S2816x1024 .bf16) (x15 x16 : Vec Ideal S1x1024 .f32) (xs0 : Vec Ideal S16x1024 .bf16)

/-- What a load of a whole buffer reads. -/
theorem load {sg : RefSig} {κ : Kind} {sp : Space} {s : Shape} {e : EltTy} {a : Memref sg κ sp s e} (h : a.IsWhole) (X : s.Idx → Elt Ideal e) (B : LoadRect s) :
    View.readAt (Elt Ideal) a.view B (h.unread X) = fun y => X (B.idx y) := funext fun y => h.readAt_unread X B y

/-- The carried rows. -/
theorem eq_last : TailOddIdeal.Gen.kernelRun0_A.sl.r_6 d b1 k1 b2 k2 b3 k3 b4 k4 b5 k5 b6 k6 b7 k7 b8 k8 b9 k9 x0 x1 x2 x3 x4 x5 x6 x7 x8 = TailIdeal.Gen.kernelRun0_A.sl.r_6 c a1 h1 a2 h2 a3 h3 a4 h4 a5 h5 a6 h6 a7 h7 a8 h8 a9 h9 x0 x1 x2 x3 x4 x5 x6 x7 x8 := by
  simp only [TailIdeal.Gen.kernelRun0_A.sl.r_6, TailOddIdeal.Gen.kernelRun0_A.sl.r_6, TailIdeal.Gen.kernelRun0_A.sl.r, TailOddIdeal.Gen.kernelRun0_A.sl.r,
    TailIdeal.Gen.kernelRun0_A.sl.r_1, TailOddIdeal.Gen.kernelRun0_A.sl.r_1, TailIdeal.Gen.kernelRun0_A.sl.r_2, TailOddIdeal.Gen.kernelRun0_A.sl.r_2,
    TailIdeal.Gen.kernelRun0_A.sl.r_3, TailOddIdeal.Gen.kernelRun0_A.sl.r_3, load]
  rfl

/-- The result's block at the first block of a sequence. -/
theorem eq_outA : TailOddIdeal.Gen.kernelRun0_A.sl.r_28 d b1 k1 b2 k2 b3 k3 b4 k4 b5 k5 b6 k6 b7 k7 b8 k8 b9 k9 b10 k10 b11 k11 b12 k12 b13 k13 b14 k14 b15 k15 b16 k16 b17 k17 b18 b19 b20 x0 x1 x2 x3 x4 x5 x6 x7 x8 x9 x10 x11 x12 x13 x14 x15 x16 = TailIdeal.Gen.kernelRun0_A.sl.r_28 c a1 h1 a2 h2 a3 h3 a4 h4 a5 h5 a6 h6 a7 h7 a8 h8 a9 h9 a10 h10 a11 h11 a12 h12 a13 h13 a14 h14 a15 h15 a16 h16 a17 h17 a18 a19 a20 x0 x1 x2 x3 x4 x5 x6 x7 x8 x9 x10 x11 x12 x13 x14 x15 x16 := by
  simp only [TailIdeal.Gen.kernelRun0_A.sl.r, TailOddIdeal.Gen.kernelRun0_A.sl.r, TailIdeal.Gen.kernelRun0_A.sl.r_1, TailOddIdeal.Gen.kernelRun0_A.sl.r_1, TailIdeal.Gen.kernelRun0_A.sl.r_2, TailOddIdeal.Gen.kernelRun0_A.sl.r_2, TailIdeal.Gen.kernelRun0_A.sl.r_3, TailOddIdeal.Gen.kernelRun0_A.sl.r_3, TailIdeal.Gen.kernelRun0_A.sl.r_4, TailOddIdeal.Gen.kernelRun0_A.sl.r_4, TailIdeal.Gen.kernelRun0_A.sl.r_5, TailOddIdeal.Gen.kernelRun0_A.sl.r_5, TailIdeal.Gen.kernelRun0_A.sl.r_6, TailOddIdeal.Gen.kernelRun0_A.sl.r_6, TailIdeal.Gen.kernelRun0_A.sl.r_7, TailOddIdeal.Gen.kernelRun0_A.sl.r_7, TailIdeal.Gen.kernelRun0_A.sl.r_8, TailOddIdeal.Gen.kernelRun0_A.sl.r_8, TailIdeal.Gen.kernelRun0_A.sl.r_9, TailOddIdeal.Gen.kernelRun0_A.sl.r_9, TailIdeal.Gen.kernelRun0_A.sl.r_10, TailOddIdeal.Gen.kernelRun0_A.sl.r_10, TailIdeal.Gen.kernelRun0_A.sl.r_11, TailOddIdeal.Gen.kernelRun0_A.sl.r_11, TailIdeal.Gen.kernelRun0_A.sl.r_12, TailOddIdeal.Gen.kernelRun0_A.sl.r_12, TailIdeal.Gen.kernelRun0_A.sl.r_13, TailOddIdeal.Gen.kernelRun0_A.sl.r_13, TailIdeal.Gen.kernelRun0_A.sl.r_14, TailOddIdeal.Gen.kernelRun0_A.sl.r_14, TailIdeal.Gen.kernelRun0_A.sl.r_15, TailOddIdeal.Gen.kernelRun0_A.sl.r_15, TailIdeal.Gen.kernelRun0_A.sl.r_16, TailOddIdeal.Gen.kernelRun0_A.sl.r_16, TailIdeal.Gen.kernelRun0_A.sl.r_17, TailOddIdeal.Gen.kernelRun0_A.sl.r_17, TailIdeal.Gen.kernelRun0_A.sl.r_18, TailOddIdeal.Gen.kernelRun0_A.sl.r_18, TailIdeal.Gen.kernelRun0_A.sl.r_19, TailOddIdeal.Gen.kernelRun0_A.sl.r_19, TailIdeal.Gen.kernelRun0_A.sl.r_20, TailOddIdeal.Gen.kernelRun0_A.sl.r_20, TailIdeal.Gen.kernelRun0_A.sl.r_21, TailOddIdeal.Gen.kernelRun0_A.sl.r_21, TailIdeal.Gen.kernelRun0_A.sl.r_22, TailOddIdeal.Gen.kernelRun0_A.sl.r_22, TailIdeal.Gen.kernelRun0_A.sl.r_23, TailOddIdeal.Gen.kernelRun0_A.sl.r_23, TailIdeal.Gen.kernelRun0_A.sl.r_24, TailOddIdeal.Gen.kernelRun0_A.sl.r_24, TailIdeal.Gen.kernelRun0_A.sl.r_25, TailOddIdeal.Gen.kernelRun0_A.sl.r_25, TailIdeal.Gen.kernelRun0_A.sl.r_26, TailOddIdeal.Gen.kernelRun0_A.sl.r_26, TailIdeal.Gen.kernelRun0_A.sl.r_27, TailOddIdeal.Gen.kernelRun0_A.sl.r_27, TailIdeal.Gen.kernelRun0_A.sl.r_28, TailOddIdeal.Gen.kernelRun0_A.sl.r_28, TailIdeal.Gen.kernelRun0_A.sl.H17_1, TailOddIdeal.Gen.kernelRun0_A.sl.H17_1, TailIdeal.Gen.kernelRun0_A.sl.HS1_11, TailOddIdeal.Gen.kernelRun0_A.sl.HS1_11, TailIdeal.Gen.kernelRun0_A.sl.v433, TailOddIdeal.Gen.kernelRun0_A.sl.v433, TailIdeal.Gen.kernelRun0_A.sl.v436, TailOddIdeal.Gen.kernelRun0_A.sl.v436, TailIdeal.Gen.kernelRun0_A.sl.v64, TailOddIdeal.Gen.kernelRun0_A.sl.v64, TailIdeal.Gen.kernelRun0_A.sl.HS0_1, TailOddIdeal.Gen.kernelRun0_A.sl.HS0_1, load, View.readCov_eq_canon']
  rfl

/-- The result's block at the second block of a sequence. -/
theorem eq_outB : TailOddIdeal.Gen.kernelRun0_B.sl.r_28 d b1 k1 b2 k2 b3 k3 b4 k4 b5 k5 b6 k6 b7 k7 b8 k8 b9 k9 b10 k10 b11 k11 b12 k12 b13 k13 b14 k14 b15 k15 b16 k16 b17 k17 b18 b19 k19 b20 x0 x1 x2 x3 x4 x5 x6 x7 x8 x9 x10 x11 x12 x13 x14 x15 x16 xs0 = TailIdeal.Gen.kernelRun0_B.sl.r_28 c a1 h1 a2 h2 a3 h3 a4 h4 a5 h5 a6 h6 a7 h7 a8 h8 a9 h9 a10 h10 a11 h11 a12 h12 a13 h13 a14 h14 a15 h15 a16 h16 a17 h17 a18 a19 h19 a20 x0 x1 x2 x3 x4 x5 x6 x7 x8 x9 x10 x11 x12 x13 x14 x15 x16 xs0 := by
  simp only [TailIdeal.Gen.kernelRun0_B.sl.r, TailOddIdeal.Gen.kernelRun0_B.sl.r, TailIdeal.Gen.kernelRun0_B.sl.r_1, TailOddIdeal.Gen.kernelRun0_B.sl.r_1, TailIdeal.Gen.kernelRun0_B.sl.r_2, TailOddIdeal.Gen.kernelRun0_B.sl.r_2, TailIdeal.Gen.kernelRun0_B.sl.r_3, TailOddIdeal.Gen.kernelRun0_B.sl.r_3, TailIdeal.Gen.kernelRun0_B.sl.r_4, TailOddIdeal.Gen.kernelRun0_B.sl.r_4, TailIdeal.Gen.kernelRun0_B.sl.r_5, TailOddIdeal.Gen.kernelRun0_B.sl.r_5, TailIdeal.Gen.kernelRun0_B.sl.r_6, TailOddIdeal.Gen.kernelRun0_B.sl.r_6, TailIdeal.Gen.kernelRun0_B.sl.r_7, TailOddIdeal.Gen.kernelRun0_B.sl.r_7, TailIdeal.Gen.kernelRun0_B.sl.r_8, TailOddIdeal.Gen.kernelRun0_B.sl.r_8, TailIdeal.Gen.kernelRun0_B.sl.r_9, TailOddIdeal.Gen.kernelRun0_B.sl.r_9, TailIdeal.Gen.kernelRun0_B.sl.r_10, TailOddIdeal.Gen.kernelRun0_B.sl.r_10, TailIdeal.Gen.kernelRun0_B.sl.r_11, TailOddIdeal.Gen.kernelRun0_B.sl.r_11, TailIdeal.Gen.kernelRun0_B.sl.r_12, TailOddIdeal.Gen.kernelRun0_B.sl.r_12, TailIdeal.Gen.kernelRun0_B.sl.r_13, TailOddIdeal.Gen.kernelRun0_B.sl.r_13, TailIdeal.Gen.kernelRun0_B.sl.r_14, TailOddIdeal.Gen.kernelRun0_B.sl.r_14, TailIdeal.Gen.kernelRun0_B.sl.r_15, TailOddIdeal.Gen.kernelRun0_B.sl.r_15, TailIdeal.Gen.kernelRun0_B.sl.r_16, TailOddIdeal.Gen.kernelRun0_B.sl.r_16, TailIdeal.Gen.kernelRun0_B.sl.r_17, TailOddIdeal.Gen.kernelRun0_B.sl.r_17, TailIdeal.Gen.kernelRun0_B.sl.r_18, TailOddIdeal.Gen.kernelRun0_B.sl.r_18, TailIdeal.Gen.kernelRun0_B.sl.r_19, TailOddIdeal.Gen.kernelRun0_B.sl.r_19, TailIdeal.Gen.kernelRun0_B.sl.r_20, TailOddIdeal.Gen.kernelRun0_B.sl.r_20, TailIdeal.Gen.kernelRun0_B.sl.r_21, TailOddIdeal.Gen.kernelRun0_B.sl.r_21, TailIdeal.Gen.kernelRun0_B.sl.r_22, TailOddIdeal.Gen.kernelRun0_B.sl.r_22, TailIdeal.Gen.kernelRun0_B.sl.r_23, TailOddIdeal.Gen.kernelRun0_B.sl.r_23, TailIdeal.Gen.kernelRun0_B.sl.r_24, TailOddIdeal.Gen.kernelRun0_B.sl.r_24, TailIdeal.Gen.kernelRun0_B.sl.r_25, TailOddIdeal.Gen.kernelRun0_B.sl.r_25, TailIdeal.Gen.kernelRun0_B.sl.r_26, TailOddIdeal.Gen.kernelRun0_B.sl.r_26, TailIdeal.Gen.kernelRun0_B.sl.r_27, TailOddIdeal.Gen.kernelRun0_B.sl.r_27, TailIdeal.Gen.kernelRun0_B.sl.r_28, TailOddIdeal.Gen.kernelRun0_B.sl.r_28, TailIdeal.Gen.kernelRun0_B.sl.H17_1, TailOddIdeal.Gen.kernelRun0_B.sl.H17_1, TailIdeal.Gen.kernelRun0_B.sl.HS1_11, TailOddIdeal.Gen.kernelRun0_B.sl.HS1_11, TailIdeal.Gen.kernelRun0_B.sl.v433, TailOddIdeal.Gen.kernelRun0_B.sl.v433, TailIdeal.Gen.kernelRun0_B.sl.v436, TailOddIdeal.Gen.kernelRun0_B.sl.v436, load, View.readCov_eq_canon']
  rfl

/-- A point of the even layers' grid: its blocks stand for the even side of the equations. -/
def t0 : Fin cfg0.N := ⟨0, by decide⟩

/-- The rows a block leaves in the carried buffer. -/
theorem last (k : Fin 16) (j : Fin 1024) : TailOddIdeal.Gen.kernelRun0_A.sl.r_6 d b1 k1 b2 k2 b3 k3 b4 k4 b5 k5 b6 k6 b7 k7 b8 k8 b9 k9 x0 x1 x2 x3 x4 x5 x6 x7 x8 (ix2 k j)
    = TailBlock.hr x0 x1 x2 x3 x4 x5 x6 x7 x8 ⟨1008 + k.val, by omega⟩ j :=
  (congrFun (eq_last d d (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) b1 k1 b2 k2 b3 k3 b4 k4 b5 k5 b6 k6 b7 k7 b8 k8 b9 k9 x0 x1 x2 x3 x4 x5 x6 x7 x8) (ix2 k j)).trans (TailBlock.last_apply d (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) x0 x1 x2 x3 x4 x5 x6 x7 x8 k j)

/-- The result's block at the first block of a sequence: zero rows come before it. -/
theorem outA (i j : Fin 1024) : TailOddIdeal.Gen.kernelRun0_A.sl.r_28 d b1 k1 b2 k2 b3 k3 b4 k4 b5 k5 b6 k6 b7 k7 b8 k8 b9 k9 b10 k10 b11 k11 b12 k12 b13 k13 b14 k14 b15 k15 b16 k16 b17 k17 b18 b19 b20 x0 x1 x2 x3 x4 x5 x6 x7 x8 x9 x10 x11 x12 x13 x14 x15 x16 (ix2 i j)
    = TailRun.bo x0 x1 x2 x3 x4 x5 x6 x7 x8 x9 x10 x11 x12 x13 x14 x15 x16 (TailIdeal.Gen.kernelRun0_A.sl.v64 (F := Ideal) d scM0_0) i j :=
  (congrFun (eq_outA d d (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) (ms0_16 t0) (hs0_16 t0) (ms0_17 t0) scM0_0 scM0_1 b1 k1 b2 k2 b3 k3 b4 k4 b5 k5 b6 k6 b7 k7 b8 k8 b9 k9 b10 k10 b11 k11 b12 k12 b13 k13 b14 k14 b15 k15 b16 k16 b17 k17 b18 b19 b20 x0 x1 x2 x3 x4 x5 x6 x7 x8 x9 x10 x11 x12 x13 x14 x15 x16) (ix2 i j)).trans
    (TailRun.outA d (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) (ms0_16 t0) (hs0_16 t0) (ms0_17 t0) scM0_0 scM0_1 x0 x1 x2 x3 x4 x5 x6 x7 x8 x9 x10 x11 x12 x13 x14 x15 x16 i j)

/-- The result's block at the second block of a sequence: the carried rows come before it. -/
theorem outB (i j : Fin 1024) : TailOddIdeal.Gen.kernelRun0_B.sl.r_28 d b1 k1 b2 k2 b3 k3 b4 k4 b5 k5 b6 k6 b7 k7 b8 k8 b9 k9 b10 k10 b11 k11 b12 k12 b13 k13 b14 k14 b15 k15 b16 k16 b17 k17 b18 b19 k19 b20 x0 x1 x2 x3 x4 x5 x6 x7 x8 x9 x10 x11 x12 x13 x14 x15 x16 xs0 (ix2 i j)
    = TailRun.bo x0 x1 x2 x3 x4 x5 x6 x7 x8 x9 x10 x11 x12 x13 x14 x15 x16 xs0 i j :=
  (congrFun (eq_outB d d (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) (ms0_16 t0) (hs0_16 t0) (ms0_17 t0) scM0_0 (Memref.isWhole_whole _) scM0_1 b1 k1 b2 k2 b3 k3 b4 k4 b5 k5 b6 k6 b7 k7 b8 k8 b9 k9 b10 k10 b11 k11 b12 k12 b13 k13 b14 k14 b15 k15 b16 k16 b17 k17 b18 b19 k19 b20 x0 x1 x2 x3 x4 x5 x6 x7 x8 x9 x10 x11 x12 x13 x14 x15 x16 xs0) (ix2 i j)).trans
    (TailRun.outB d (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) (ms0_16 t0) (hs0_16 t0) (ms0_17 t0) scM0_0 (Memref.isWhole_whole _) scM0_1 x0 x1 x2 x3 x4 x5 x6 x7 x8 x9 x10 x11 x12 x13 x14 x15 x16 xs0 i j)

end Cert.Proof.TailOddRun

end
-- ==== Proof.TailOddArray.lean ====
/-
  THE ODD LAYERS' TAIL'S RESULT ARRAY. As in the even layers, the kernel walks the 65536 rows in 64 blocks of 1024 rows, two blocks to a sequence; the second block of a
  sequence takes the last sixteen modulated rows of the first from the carried buffer. Here: what each block stages, what the carried
  rows are, and that the array after the run is the tail of the arguments, row by row.
-/
module

public import proofs.«01_k».proof.Defs
public import proofs.«01_k».proof.Proof.TailOddRun
public import proofs.«01_k».proof.Proof.TailRows
public import proofs.«01_k».proof.Proof.TailRef
public import proofs.«01_k».proof.Proof.Gen.TailOddRefIdeal.Read

@[expose] public section

noncomputable section

namespace Cert.Proof.TailOddArray

open Idealize.ShloMosaic Idealize.ShloMosaic.TcCoe Idealize.SL.Sem
open Cert.TailOddIdeal Cert.TailOddIdeal.Gen Cert.Proof.TailSpec
open Cert.Proof.TailRows

variable (m : (ℓ : Loc nD τ sig) → Buf (Elt Ideal) ℓ)

/-- Which block of the rows point `t` stages in window 0. -/
theorem idx0 : ∀ t : Fin cfg0.N, win0_0.index t = ![t.val, 0] :=
  (by decide +kernel : ∀ t : Fin grid0.N, _)
/-- Which block of the rows point `t` stages in window 1. -/
theorem idx1 : ∀ t : Fin cfg0.N, win0_1.index t = ![t.val, 1] :=
  (by decide +kernel : ∀ t : Fin grid0.N, _)
/-- Window 2 is one block. -/
theorem idx2 : ∀ t : Fin cfg0.N, win0_2.index t = ![0, 0] :=
  (by decide +kernel : ∀ t : Fin grid0.N, _)
/-- Which block of the rows point `t` stages in window 3. -/
theorem idx3 : ∀ t : Fin cfg0.N, win0_3.index t = ![t.val, 0] :=
  (by decide +kernel : ∀ t : Fin grid0.N, _)
/-- Which sequence's row point `t` stages in window 4. -/
theorem idx4 : ∀ t : Fin cfg0.N, win0_4.index t = ![t.val / 2, 0, 0] :=
  (by decide +kernel : ∀ t : Fin grid0.N, _)
/-- Window 5 is one block. -/
theorem idx5 : ∀ t : Fin cfg0.N, win0_5.index t = ![0, 0] :=
  (by decide +kernel : ∀ t : Fin grid0.N, _)
/-- Window 6 is one block. -/
theorem idx6 : ∀ t : Fin cfg0.N, win0_6.index t = ![0, 0] :=
  (by decide +kernel : ∀ t : Fin grid0.N, _)
/-- Which sequence's row point `t` stages in window 7. -/
theorem idx7 : ∀ t : Fin cfg0.N, win0_7.index t = ![t.val / 2, 0, 0] :=
  (by decide +kernel : ∀ t : Fin grid0.N, _)
/-- Which sequence's row point `t` stages in window 8. -/
theorem idx8 : ∀ t : Fin cfg0.N, win0_8.index t = ![t.val / 2, 0, 0] :=
  (by decide +kernel : ∀ t : Fin grid0.N, _)
/-- Which sequence's row point `t` stages in window 9. -/
theorem idx9 : ∀ t : Fin cfg0.N, win0_9.index t = ![t.val / 2, 0, 0] :=
  (by decide +kernel : ∀ t : Fin grid0.N, _)
/-- Window 10 is one block. -/
theorem idx10 : ∀ t : Fin cfg0.N, win0_10.index t = ![0, 0] :=
  (by decide +kernel : ∀ t : Fin grid0.N, _)
/-- Window 11 is one block. -/
theorem idx11 : ∀ t : Fin cfg0.N, win0_11.index t = ![0, 0] :=
  (by decide +kernel : ∀ t : Fin grid0.N, _)
/-- Window 12 is one block. -/
theorem idx12 : ∀ t : Fin cfg0.N, win0_12.index t = ![0, 0] :=
  (by decide +kernel : ∀ t : Fin grid0.N, _)
/-- Window 13 is one block. -/
theorem idx13 : ∀ t : Fin cfg0.N, win0_13.index t = ![0, 0] :=
  (by decide +kernel : ∀ t : Fin grid0.N, _)
/-- Window 14 is one block. -/
theorem idx14 : ∀ t : Fin cfg0.N, win0_14.index t = ![0, 0] :=
  (by decide +kernel : ∀ t : Fin grid0.N, _)
/-- Window 15 is one block. -/
theorem idx15 : ∀ t : Fin cfg0.N, win0_15.index t = ![0, 0] :=
  (by decide +kernel : ∀ t : Fin grid0.N, _)
/-- Window 16 is one block. -/
theorem idx16 : ∀ t : Fin cfg0.N, win0_16.index t = ![0, 0] :=
  (by decide +kernel : ∀ t : Fin grid0.N, _)
/-- Which block of the rows point `t` stages in window 17. -/
theorem idx17 : ∀ t : Fin cfg0.N, win0_17.index t = ![t.val, 0] :=
  (by decide +kernel : ∀ t : Fin grid0.N, _)

/-- The tail's arguments, read from the memory at the start. -/
def margs (c : Dev nD) : Args :=
  TailRef.args (TailOddRefIdeal.Read.val_main_v0 (F := Ideal) (m ((c : Thread nD τ).loc main_arg0))) (TailOddRefIdeal.Read.val_main_v1 (F := Ideal) (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- An entry of the first half of the attention output's columns. -/
theorem half0 (o : FVec Ideal S65536x1024 .bf16) (R : Fin 65536) (e : Fin 512) :
    TailOddRefIdeal.Read.val_main_v0 (F := Ideal) o (ix2 R e) = o (ix2 R ⟨e.val, by omega⟩) := by
  pointwise [TailOddRefIdeal.Read.val_main_v0]

/-- An entry of the second half of the attention output's columns. -/
theorem half1 (o : FVec Ideal S65536x1024 .bf16) (R : Fin 65536) (e : Fin 512) :
    TailOddRefIdeal.Read.val_main_v1 (F := Ideal) o (ix2 R e) = o (ix2 R ⟨512 + e.val, by omega⟩) := by
  pointwise [TailOddRefIdeal.Read.val_main_v1]

/-- A row block's entry of window 0. -/
theorem blk0 (c : Dev nD) (t : Fin cfg0.N) (i : Fin 1024) (R : Fin 65536) (h : R.val = 1024 * t.val + i.val) (e : Fin 512) :
    iblk m c 0 t (ix2 i e) = TailOddRefIdeal.Read.val_main_v0 (F := Ideal) (m ((c : Thread nD τ).loc main_arg0)) (ix2 R e) := by
  obtain ⟨r, hr⟩ := R
  obtain rfl : r = 1024 * t.val + i.val := h
  rw [half0]
  blk_point [iblk, V_main_arg0, idx0 t]
/-- A row block's entry of window 1. -/
theorem blk1 (c : Dev nD) (t : Fin cfg0.N) (i : Fin 1024) (R : Fin 65536) (h : R.val = 1024 * t.val + i.val) (e : Fin 512) :
    iblk m c 1 t (ix2 i e) = TailOddRefIdeal.Read.val_main_v1 (F := Ideal) (m ((c : Thread nD τ).loc main_arg0)) (ix2 R e) := by
  obtain ⟨r, hr⟩ := R
  obtain rfl : r = 1024 * t.val + i.val := h
  rw [half1]
  blk_point [iblk, V_main_arg0, idx1 t]
/-- An entry of the one block of window 2. -/
theorem blk2 (c : Dev nD) (t : Fin cfg0.N) (i : Fin 1024) (j : Fin 1024) : iblk m c 2 t (ix2 i j) = m ((c : Thread nD τ).loc main_arg1) (ix2 i j) := by
  blk_point [iblk, V_main_arg1, idx2 t]
/-- A row block's entry of window 3. -/
theorem blk3 (c : Dev nD) (t : Fin cfg0.N) (i : Fin 1024) (R : Fin 65536) (h : R.val = 1024 * t.val + i.val) (e : Fin 1024) :
    iblk m c 3 t (ix2 i e) = (m ((c : Thread nD τ).loc main_arg2)) (ix2 R e) := by
  obtain ⟨r, hr⟩ := R
  obtain rfl : r = 1024 * t.val + i.val := h
  blk_point [iblk, V_main_arg2, idx3 t]
/-- A sequence row's entry of window 4. -/
theorem blk4 (c : Dev nD) (t : Fin cfg0.N) (b : Fin 32) (h : b.val = t.val / 2) (e : Fin 1024) :
    iblk m c 4 t (ix3 0 0 e) = m ((c : Thread nD τ).loc main_arg3) (ix3 b 0 e) := by
  obtain ⟨r, hr⟩ := b
  obtain rfl : r = t.val / 2 := h
  blk_point [iblk, V_main_arg3, idx4 t]
/-- An entry of the one block of window 5. -/
theorem blk5 (c : Dev nD) (t : Fin cfg0.N) (i : Fin 1) (j : Fin 1024) : iblk m c 5 t (ix2 i j) = m ((c : Thread nD τ).loc main_arg4) (ix2 i j) := by
  blk_point [iblk, V_main_arg4, idx5 t]
/-- An entry of the one block of window 6. -/
theorem blk6 (c : Dev nD) (t : Fin cfg0.N) (i : Fin 1) (j : Fin 1024) : iblk m c 6 t (ix2 i j) = m ((c : Thread nD τ).loc main_arg5) (ix2 i j) := by
  blk_point [iblk, V_main_arg5, idx6 t]
/-- A sequence row's entry of window 7. -/
theorem blk7 (c : Dev nD) (t : Fin cfg0.N) (b : Fin 32) (h : b.val = t.val / 2) (e : Fin 1024) :
    iblk m c 7 t (ix3 0 0 e) = m ((c : Thread nD τ).loc main_arg6) (ix3 b 0 e) := by
  obtain ⟨r, hr⟩ := b
  obtain rfl : r = t.val / 2 := h
  blk_point [iblk, V_main_arg6, idx7 t]
/-- A sequence row's entry of window 8. -/
theorem blk8 (c : Dev nD) (t : Fin cfg0.N) (b : Fin 32) (h : b.val = t.val / 2) (e : Fin 1024) :
    iblk m c 8 t (ix3 0 0 e) = m ((c : Thread nD τ).loc main_arg7) (ix3 b 0 e) := by
  obtain ⟨r, hr⟩ := b
  obtain rfl : r = t.val / 2 := h
  blk_point [iblk, V_main_arg7, idx8 t]
/-- A sequence row's entry of window 9. -/
theorem blk9 (c : Dev nD) (t : Fin cfg0.N) (b : Fin 32) (h : b.val = t.val / 2) (e : Fin 1024) :
    iblk m c 9 t (ix3 0 0 e) = m ((c : Thread nD τ).loc main_arg8) (ix3 b 0 e) := by
  obtain ⟨r, hr⟩ := b
  obtain rfl : r = t.val / 2 := h
  blk_point [iblk, V_main_arg8, idx9 t]
/-- An entry of the one block of window 10. -/
theorem blk10 (c : Dev nD) (t : Fin cfg0.N) (i : Fin 1024) (j : Fin 2816) : iblk m c 10 t (ix2 i j) = m ((c : Thread nD τ).loc main_arg9) (ix2 i j) := by
  blk_point [iblk, V_main_arg9, idx10 t]
/-- An entry of the one block of window 11. -/
theorem blk11 (c : Dev nD) (t : Fin cfg0.N) (i : Fin 1024) (j : Fin 2816) : iblk m c 11 t (ix2 i j) = m ((c : Thread nD τ).loc main_arg10) (ix2 i j) := by
  blk_point [iblk, V_main_arg10, idx11 t]
/-- An entry of the one block of window 12. -/
theorem blk12 (c : Dev nD) (t : Fin cfg0.N) (i : Fin 3) (j : Fin 2816) : iblk m c 12 t (ix2 i j) = m ((c : Thread nD τ).loc main_arg11) (ix2 i j) := by
  blk_point [iblk, V_main_arg11, idx12 t]
/-- An entry of the one block of window 13. -/
theorem blk13 (c : Dev nD) (t : Fin cfg0.N) (i : Fin 1) (j : Fin 2816) : iblk m c 13 t (ix2 i j) = m ((c : Thread nD τ).loc main_arg12) (ix2 i j) := by
  blk_point [iblk, V_main_arg12, idx13 t]
/-- An entry of the one block of window 14. -/
theorem blk14 (c : Dev nD) (t : Fin cfg0.N) (i : Fin 2816) (j : Fin 1024) : iblk m c 14 t (ix2 i j) = m ((c : Thread nD τ).loc main_arg13) (ix2 i j) := by
  blk_point [iblk, V_main_arg13, idx14 t]
/-- An entry of the one block of window 15. -/
theorem blk15 (c : Dev nD) (t : Fin cfg0.N) (i : Fin 1) (j : Fin 1024) : iblk m c 15 t (ix2 i j) = m ((c : Thread nD τ).loc main_arg14) (ix2 i j) := by
  blk_point [iblk, V_main_arg14, idx15 t]
/-- An entry of the one block of window 16. -/
theorem blk16 (c : Dev nD) (t : Fin cfg0.N) (i : Fin 1) (j : Fin 1024) : iblk m c 16 t (ix2 i j) = m ((c : Thread nD τ).loc main_arg15) (ix2 i j) := by
  blk_point [iblk, V_main_arg15, idx16 t]

/-- Point `t` stages block `t` of the tail's arguments. -/
theorem staged (c : Dev nD) (t : Fin cfg0.N) : Staged (margs m c) t.val (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) where
  oa i R h := funext fun e => blk0 m c t i R h e
  ob i R h := funext fun e => blk1 m c t i R h e
  Wo := funext fun i => funext fun j => blk2 m c t i j
  x i R h := funext fun e => blk3 m c t i R h e
  g1 b h := funext fun e => blk4 m c t b h e
  n1g := funext fun j => blk5 m c t 0 j
  n1b := funext fun j => blk6 m c t 0 j
  sc b h := funext fun e => blk7 m c t b h e
  sh b h := funext fun e => blk8 m c t b h e
  g2 b h := funext fun e => blk9 m c t b h e
  Wu := funext fun i => funext fun j => blk10 m c t i j
  Wg := funext fun i => funext fun j => blk11 m c t i j
  cw := funext fun i => funext fun j => blk12 m c t i j
  cb := funext fun j => blk13 m c t 0 j
  Wd := funext fun i => funext fun j => blk14 m c t i j
  n2g := funext fun j => blk15 m c t 0 j
  n2b := funext fun j => blk16 m c t 0 j

/-- The rows the first block of a sequence leaves in the carried buffer: its last sixteen modulated rows. -/
theorem carried (c : Dev nD) (t : Fin cfg0.N) (h0 : t.val % 2 = 0) (k : Fin 16) (R : Fin 65536) (j : Fin 1024)
    (h : R.val + 16 = 1024 * (t.val + 1) + k.val) : (outsAt0 m c t.val t.isLt).2 (ix2 k j) = (margs m c).h R j := by
  rw [outsAt0_A m c t h0]
  dsimp only
  unfold sout0_A_0
  rw [View.read_writes_junk_eq_canon]
  unfold kernelRun0_A
  dsimp only
  refine (TailRun.canon_whole inb_S16x1024_S16x1024_0_0 _ _ k j).trans ?_
  refine (TailOddRun.last c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) (iblk m c 8 t) k j).trans ?_
  exact congrFun (h_row (staged m c t) ⟨1008 + k.val, by omega⟩ R (by dsimp only; omega)) j

/-- A block the first point of a sequence leaves in the result. -/
theorem resA (c : Dev nD) (t : Fin cfg0.N) (h0 : t.val % 2 = 0) (i j : Fin 1024) (R : Fin 65536) (h : R.val = 1024 * t.val + i.val) :
    (outsAt0 m c t.val t.isLt).1 (ix2 i j) = (margs m c).out R j := by
  rw [outsAt0_A m c t h0]
  dsimp only
  unfold out0_A_17
  rw [View.read_writes_junk_eq_canon]
  unfold kernelRun0_A
  dsimp only
  refine (TailRun.canon_whole inb_S1024x1024_S1024x1024_0_0 _ _ i j).trans ?_
  refine (TailOddRun.outA c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) i j).trans ?_
  exact congrFun (out_row (staged m c t) _ (fun _ y => TailRun.haloA c TailIdeal.Gen.scM0_0 y) (fun h1 => absurd h1 (by omega)) i R h) j

/-- A block the second point of a sequence leaves in the result. -/
theorem resB (c : Dev nD) (t : Fin cfg0.N) (h0 : ¬ t.val % 2 = 0) (i j : Fin 1024) (R : Fin 65536) (h : R.val = 1024 * t.val + i.val) :
    (outsAt0 m c t.val t.isLt).1 (ix2 i j) = (margs m c).out R j := by
  have hc := carried m c ⟨t.val - 1, Nat.lt_of_le_of_lt (Nat.sub_le _ _) t.isLt⟩ (by dsimp only; omega)
  rw [outsAt0_B m c t h0]
  dsimp only at hc ⊢
  unfold out0_B_17
  rw [View.read_writes_junk_eq_canon]
  unfold kernelRun0_B
  dsimp only
  refine (TailRun.canon_whole inb_S1024x1024_S1024x1024_0_0 _ _ i j).trans ?_
  refine (TailOddRun.outB c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) scM0_0 (Memref.isWhole_whole _) scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _ i j).trans ?_
  exact congrFun (out_row (staged m c t) _ (fun h1 => absurd h1 h0) (fun _ k R' j' h' => hc k R' j' (by omega)) i R h) j

/-- The row a result block's entry has in the array. -/
theorem emb_row (t : Fin cfg0.N) (y : (win0_17.xblock (grid0.coords t)).Idx) : ((win0_17.blk t).view.emb y 0).val = 1024 * t.val + (y 0).val := by
  blk_simp [idx17 t]
  try omega

/-- The column a result block's entry has in the array. -/
theorem emb_col (t : Fin cfg0.N) (y : (win0_17.xblock (grid0.coords t)).Idx) : ((win0_17.blk t).view.emb y 1).val = (y 1).val := by
  blk_simp [idx17 t]
  try omega

/-- The result array after the run is the tail of the arguments. -/
theorem final17 (c : Dev nD) : (dats (F := Ideal) m 0 c).arrAt 17 cfg0.N = fun j : S65536x1024.Idx => (margs m c).out (j 0) (j 1) := by
  refine (dats (F := Ideal) m 0 c).arrAt_eq_of_covers 17 _ (by decide +kernel) fun t hf y => ?_
  have e0 := emb_row t y
  have e1 := emb_col t y
  have hy : y = ix2 (⟨(y 0).val, (y 0).isLt⟩ : Fin 1024) (⟨(y 1).val, (y 1).isLt⟩ : Fin 1024) := by
    funext a; match a with
    | ⟨0, _⟩ => rfl
    | ⟨1, _⟩ => rfl
  have hr : (outsAt0 m c t.val t.isLt).1 y = (margs m c).out ((win0_17.blk t).view.emb y 0) ((win0_17.blk t).view.emb y 1) := by
    have hj : (win0_17.blk t).view.emb y 1 = (⟨(y 1).val, (y 1).isLt⟩ : Fin 1024) := Fin.ext e1
    rw [hj]
    refine (congrArg _ hy).trans ?_
    by_cases h0 : t.val % 2 = 0
    · exact resA m c t h0 _ _ _ e0
    · exact resB m c t h0 _ _ _ e0
  rw [after0_17]
  exact hr

end Cert.Proof.TailOddArray

end
-- ==== Proof.TailOddValue.lean ====
/-
  THE ODD LAYERS' TAIL'S VALUE. The kernel's result array and the reference's are the same function of the arguments.
-/
module

public import proofs.«01_k».proof.Defs
public import proofs.«01_k».proof.Proof.TailOddArray
public import proofs.«01_k».proof.Proof.Gen.TailOddIdeal.Value
public import proofs.«01_k».proof.Proof.Gen.TailOddRefIdeal.Run

@[expose] public section

noncomputable section

namespace Cert.Proof.TailOddValue

open Idealize.ShloMosaic Idealize.ShloMosaic.TcCoe Idealize.SL.Sem
open Cert.TailOddIdeal Cert.TailOddIdeal.Gen Cert.Proof.TailSpec
open Cert.Proof.TailOddArray

variable (m : (ℓ : Loc nD τ sig) → Buf (Elt Ideal) ℓ)

/-- The reference is the even layers' tail of the two halves of the attention output. -/
theorem ref_eq (o : FVec Ideal S65536x1024 .bf16) (x2 : FVec Ideal S1024x1024 .bf16) (x3 : FVec Ideal S65536x1024 .f32)
    (x4 : FVec Ideal S32x1x1024 .f32) (x5 x6 : FVec Ideal S1x1024 .f32) (x7 x8 x9 : FVec Ideal S32x1x1024 .f32)
    (x10 x11 : FVec Ideal S1024x2816 .bf16) (x12 : FVec Ideal S3x2816 .f32) (x13 : FVec Ideal S1x2816 .f32)
    (x14 : FVec Ideal S2816x1024 .bf16) (x15 x16 : FVec Ideal S1x1024 .f32) :
    TailOddRefIdeal.Read.val_main_v113 (F := Ideal) o x2 x3 x4 x5 x6 x7 x8 x9 x10 x11 x12 x13 x14 x15 x16
      = TailRefIdeal.Read.val_main_v111 (F := Ideal) (TailOddRefIdeal.Read.val_main_v0 (F := Ideal) o) (TailOddRefIdeal.Read.val_main_v1 (F := Ideal) o) x2 x3 x4 x5 x6 x7 x8 x9 x10 x11 x12 x13 x14 x15 x16 := rfl

/-- The reference's result array is the tail of the arguments. -/
theorem ref_result (c : Dev nD) :
    TailOddRefIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      = fun j : S65536x1024.Idx => (margs m c).out (j 0) (j 1) := by
  refine (ref_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).trans (funext fun j => ?_)
  obtain ⟨R, k, rfl⟩ := MlaReads.ix_pair j
  have e := TailRef.ref_apply (TailOddRefIdeal.Read.val_main_v0 (F := Ideal) (m ((c : Thread nD τ).loc main_arg0))) (TailOddRefIdeal.Read.val_main_v1 (F := Ideal) (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) R k
  with_reducible refine e.trans ?_
  unfold margs
  rfl

/-- The reference terminates, keeps its arguments and leaves every counter at zero. -/
theorem frame_ref : Cert.quiescent_TailOddRefIdeal := fun m ρ _ =>
  (θ_run Cert.TailOddRefIdeal.defs _ _).mono (fun r h => ⟨fun c => (h c).2,
      Idealize.ShloMosaic.sem_eq_zero_of_no_sems (by decide) r.2⟩)
    (Cert.TailOddRefIdeal.Value.run (F := Ideal) m ρ)

/-- The kernel's result is the reference's, for all arguments. -/
theorem algebraic : Cert.algebraic_TailOddIdeal_TailOddRefIdeal := by
  intro m ρ m' ρ' _ hagree
  refine ⟨fun c => (dats (F := Ideal) m 0 c).arrAt 17 cfg0.N, Cert.TailOddIdeal.Value.run_blocks (F := Ideal) m ρ, ?_⟩
  refine (θ_run Cert.TailOddRefIdeal.defs _ _).mono (fun _ h c => ?_) (Cert.TailOddRefIdeal.Value.run (F := Ideal) m' ρ')
  obtain ⟨e0, e1, e2, e3, e4, e5, e6, e7, e8, e9, e10, e11, e12, e13, e14, e15⟩ := hagree c
  refine ⟨(h c).1.trans ?_, (h c).2⟩
  have l : ∀ b, StableHlo.launchContents m' c (Proc.devRef .tc b) = m' ((c.tc : Thread TailOddRefIdeal.nD TailOddRefIdeal.τ).loc b) := fun _ => rfl
  rw [TailOddRefIdeal.Read.val_main_v113_eq, l TailOddRefIdeal.main_arg0, e0, l TailOddRefIdeal.main_arg1, e1, l TailOddRefIdeal.main_arg2, e2, l TailOddRefIdeal.main_arg3, e3, l TailOddRefIdeal.main_arg4, e4, l TailOddRefIdeal.main_arg5, e5, l TailOddRefIdeal.main_arg6, e6, l TailOddRefIdeal.main_arg7, e7, l TailOddRefIdeal.main_arg8, e8, l TailOddRefIdeal.main_arg9, e9, l TailOddRefIdeal.main_arg10, e10, l TailOddRefIdeal.main_arg11, e11, l TailOddRefIdeal.main_arg12, e12, l TailOddRefIdeal.main_arg13, e13, l TailOddRefIdeal.main_arg14, e14, l TailOddRefIdeal.main_arg15, e15]
  exact (ref_result m c).trans (final17 m c).symm

end Cert.Proof.TailOddValue

end
-- ==== Proof.OddValue.lean ====
/-
  THE ODD LAYERS' INPUT PROJECTION. The call of the even layers' projection at another width: 3072 columns in six products of 512, and
  no planes beside them.
-/
module

public import proofs.«01_k».proof.Defs
public import proofs.«01_k».proof.Proof.ModValue
public import proofs.«01_k».proof.Proof.Gen.OddIdeal.Value
public import proofs.«01_k».proof.Proof.Gen.OddRefIdeal.Run
public import proofs.«01_k».proof.Proof.Gen.OddRefIdeal.Read

@[expose] public section

noncomputable section

namespace Cert.Proof.OddValue

open Idealize.ShloMosaic Idealize.ShloMosaic.TcCoe Idealize.SL.Sem
open Cert.OddIdeal Cert.OddIdeal.Gen
open Cert.Proof.ModValue (proj)

variable (m : (ℓ : Loc nD τ sig) → Buf (Elt Ideal) ℓ)

/-- Which block of the rows point `t` stages. -/
theorem idx0 : ∀ t : Fin cfg0.N, win0_0.index t = ![t.val, 0] :=
  (by decide +kernel : ∀ t : Fin grid0.N, _)
/-- Which scale row point `t` stages: its sequence's. -/
theorem idx1 : ∀ t : Fin cfg0.N, win0_1.index t = ![t.val / 2, 0, 0] :=
  (by decide +kernel : ∀ t : Fin grid0.N, _)
/-- Which shift row point `t` stages. -/
theorem idx2 : ∀ t : Fin cfg0.N, win0_2.index t = ![t.val / 2, 0, 0] :=
  (by decide +kernel : ∀ t : Fin grid0.N, _)
/-- The weight is one block. -/
theorem idx3 : ∀ t : Fin cfg0.N, win0_3.index t = ![0, 0] :=
  (by decide +kernel : ∀ t : Fin grid0.N, _)
/-- Which block of the projection point `t` writes. -/
theorem idx4 : ∀ t : Fin cfg0.N, win0_4.index t = ![t.val, 0] :=
  (by decide +kernel : ∀ t : Fin grid0.N, _)

/-- The reference is `proj` at 3072 columns. -/
theorem ref_proj (x : FVec Ideal S65536x1024 .f32) (sc sh : FVec Ideal S32x1x1024 .f32) (w : FVec Ideal S1024x3072 .bf16)
    (j : S65536x3072.Idx) :
    OddRefIdeal.Read.val_main_v10 (F := Ideal) x sc sh w j = proj x sc sh w (j 0) (j 1) := by
  pointwise [OddRefIdeal.Read.val_main_v10, OddRefIdeal.Read.val_main_v9, OddRefIdeal.Read.val_main_v8, OddRefIdeal.Read.val_main_v7,
    OddRefIdeal.Read.val_main_v6, OddRefIdeal.Read.val_main_v5, OddRefIdeal.Read.val_main_v4, OddRefIdeal.Read.val_main_v3,
    OddRefIdeal.Read.val_main_v2, OddRefIdeal.Read.val_main_v1, OddRefIdeal.Read.val_main_v0, OddRefIdeal.Read.val_main_cst, proj]

/-- The array after the run is `proj` of the arguments. -/
theorem final4 (c : Dev nD) : (dats (F := Ideal) m 0 c).arrAt 4 cfg0.N = fun j : S65536x3072.Idx =>
    proj (m ((c : Thread nD τ).loc main_arg0)) (m ((c : Thread nD τ).loc main_arg1)) (m ((c : Thread nD τ).loc main_arg2)) (m ((c : Thread nD τ).loc main_arg3)) (j 0) (j 1) := by
  refine (dats (F := Ideal) m 0 c).arrAt_eq_of_covers 4 _ (by decide +kernel) fun t hf y => ?_
  blk_simp
  rw [after0_4]
  unfold out0_4
  canon_tiles x h using cover0_4 ..
  all_goals
    pointwise [k0_pay1, k0_pay2, k0_pay3, k0_pay4, k0_pay5, k0_pay6, k0_pay7, k0_pay8, proj]
  all_goals
    blk_point [iblk, V_main_arg0, V_main_arg1, V_main_arg2, V_main_arg3, idx0 t, idx1 t, idx2 t, idx3 t, idx4 t]

/-- The reference terminates, keeps its arguments and leaves every counter at zero. -/
theorem frame_ref : Cert.quiescent_OddRefIdeal := fun m ρ _ =>
  (θ_run Cert.OddRefIdeal.defs _ _).mono (fun r h => ⟨fun c => (h c).2,
      Idealize.ShloMosaic.sem_eq_zero_of_no_sems (by decide) r.2⟩)
    (Cert.OddRefIdeal.Value.run (F := Ideal) m ρ)

/-- The kernel's projection is the reference's, for all arguments. -/
theorem algebraic : Cert.algebraic_OddIdeal_OddRefIdeal := by
  intro m ρ m' ρ' _ hagree
  refine ⟨fun c => (dats (F := Ideal) m 0 c).arrAt 4 cfg0.N, Cert.OddIdeal.Value.run_blocks (F := Ideal) m ρ, ?_⟩
  refine (θ_run Cert.OddRefIdeal.defs _ _).mono (fun _ h c => ?_) (Cert.OddRefIdeal.Value.run (F := Ideal) m' ρ')
  obtain ⟨e0, e1, e2, e3⟩ := hagree c
  refine ⟨(h c).1.trans ?_, (h c).2⟩
  rw [OddRefIdeal.Read.val_main_v10_eq, e0, e1, e2, e3]
  refine Eq.trans (funext fun j => ref_proj _ _ _ _ j) (final4 m c).symm

end Cert.Proof.OddValue

end
-- ==== Proof.PrepSpec.lean ====
/-
  THE LATENT ATTENTION'S QUERIES, KEYS AND VALUES. Here: what they are, element by element, as functions of the call's arguments.
-/
module

public import proofs.«01_k».proof.Defs
public import Idealize.ShloMosaic.Lib.Pointwise

@[expose] public section

noncomputable section

namespace Cert.Proof.PrepSpec

open Idealize.ShloMosaic Idealize.ShloMosaic.TcCoe Idealize.SL.Sem
open Cert.PrepIdeal

/-- The root-mean-square norm of a row of `n` numbers with gain `g`; `d` is the number of them. -/
def rms {n : Nat} (x : Fin n → EReal) (d : EReal) (g : Fin n → EReal) (k : Fin n) : EReal :=
  x k * Ideal.rsqrt (Ideal.div (∑ e, x e * x e) d + Ideal.ofBits .f32 0x358637BD#32) * g k

/-- The factor of the queries. -/
def sc : EReal := Ideal.ofBits .f32 0x3E16C740#32

variable (P : S65536x2048.Idx → EReal) (gq : S1x384.Idx → EReal) (gk : S1x256.Idx → EReal) (wq : S384x2048.Idx → EReal)
  (wk : S256x1024.Idx → EReal) (wv : S256x512.Idx → EReal) (co si : S2048x32.Idx → EReal)

/-- The normed query latents of row `r`. -/
def cq (r : Fin 65536) (k : Fin 384) : EReal :=
  rms (fun e : Fin 384 => P (ix2 r ⟨e.val, by omega⟩)) (Ideal.ofBits .f32 0x43C00000#32) (fun e => gq (ix2 0 e)) k

/-- The normed key and value latents of row `r`. -/
def ckv (r : Fin 65536) (k : Fin 256) : EReal :=
  rms (fun e : Fin 256 => P (ix2 r ⟨384 + e.val, by omega⟩)) (Ideal.ofBits .f32 0x43800000#32) (fun e => gk (ix2 0 e)) k

/-- Column `c` of the query latents' product with the weight. -/
def ab (r : Fin 65536) (c : Fin 2048) : EReal := ∑ k : Fin 384, cq P gq r k * wq (ix2 k c)

/-- The position of row `r` in its sequence. -/
def pos (r : Fin 65536) : Fin 2048 := ⟨r.val % 2048, Nat.mod_lt _ (by omega)⟩

/-- A rotary table of the queries: `z` in the first 64 lanes, then `w` times the queries' factor, then zero. -/
def tab (w : S2048x32.Idx → EReal) (z : EReal) (s : Fin 2048) (l : Fin 128) : EReal :=
  if l.val < 64 then z else if h : l.val < 96 then w (ix2 s ⟨l.val - 64, by omega⟩) * sc else 0

/-- The rotary table of the keys: the cosines, then the sines, then zero. -/
def ktab (s : Fin 2048) (l : Fin 128) : EReal :=
  if h : l.val < 32 then co (ix2 s ⟨l.val, h⟩) else if h : l.val < 64 then si (ix2 s ⟨l.val - 32, by omega⟩) else 0

/-- The table that places the two halves of the shared key at lanes 64 to 95 of every head. -/
def place (i : Fin 128) (l : Nat) : EReal :=
  if (i.val < 32 ∧ l = i.val + 64) ∨ (32 ≤ i.val ∧ i.val < 64 ∧ l = i.val + 32) then 1 else 0

/-- Column `c` of the queries: lanes 0 to 63 of a head as they are, lanes 64 to 95 rotated, the rest zero. -/
def q (r : Fin 65536) (c : Fin 1024) : EReal :=
  if c.val % 128 < 64 then ab P gq wq r ⟨c.val, by omega⟩ * sc
  else if h : c.val % 128 < 96 then
    (ab P gq wq r ⟨c.val, by omega⟩ * co (ix2 (pos r) ⟨c.val % 128 - 64, by omega⟩)
      + ab P gq wq r ⟨1024 + c.val, by omega⟩ * si (ix2 (pos r) ⟨c.val % 128 - 64, by omega⟩)) * sc
  else 0

/-- Lane `l` of the shared rotary key behind its 64 zero lanes. -/
def shared (r : Fin 65536) (l : Fin 128) : EReal :=
  if h : 64 ≤ l.val ∧ l.val < 96 then
    P (ix2 r ⟨640 + (l.val - 64), by omega⟩) * co (ix2 (pos r) ⟨l.val - 64, by omega⟩)
      + P (ix2 r ⟨672 + (l.val - 64), by omega⟩) * si (ix2 (pos r) ⟨l.val - 64, by omega⟩)
  else 0

/-- Column `c` of the keys. -/
def k (r : Fin 65536) (c : Fin 1024) : EReal :=
  (∑ e : Fin 256, ckv P gk r e * wk (ix2 e c)) + shared P co si r ⟨c.val % 128, Nat.mod_lt _ (by omega)⟩

/-- Column `c` of the values. -/
def v (r : Fin 65536) (c : Fin 512) : EReal := ∑ e : Fin 256, ckv P gk r e * wv (ix2 e c)

/-- The queries' factor is a nonnegative real. -/
theorem sc_real : ∃ x : ℝ, 0 ≤ x ∧ sc = (x : EReal) := by
  refine ⟨_, ?_, by unfold sc; simp [Ideal.ofBits, Ideal.ieee]; rfl⟩
  positivity

/-- A number times its lane of the cosines' table plus its turned number times its lane of the sines' table is the query. -/
theorem q_tab (r : Fin 65536) (c : Fin 1024) (l : Fin 128) (hl : c.val % 128 = l.val) :
    ab P gq wq r ⟨c.val, by omega⟩ * tab co sc (pos r) l + ab P gq wq r ⟨1024 + c.val, by omega⟩ * tab si 0 (pos r) l
      = q P gq wq co si r c := by
  unfold q tab
  simp only [hl]
  by_cases h1 : l.val < 64
  · rw [if_pos h1, if_pos h1, if_pos h1, mul_zero, add_zero]
  · rw [if_neg h1, if_neg h1, if_neg h1]
    by_cases h2 : l.val < 96
    · rw [dif_pos h2, dif_pos h2, dif_pos h2, ← mul_assoc, ← mul_assoc]
      obtain ⟨x, hx, e⟩ := sc_real
      rw [e]
      exact (EReal.right_distrib_of_nonneg_of_ne_top (EReal.coe_nonneg.2 hx) (EReal.coe_ne_top x) _ _).symm
    · rw [dif_neg h2, dif_neg h2, dif_neg h2, mul_zero, mul_zero, add_zero]

/-- A sum against a column of the placing table picks the two halves' entries for that lane. -/
theorem place_sum (f : Fin 128 → EReal) (l : Fin 128) : (∑ x : Fin 128, f x * place x l.val)
    = if h : 64 ≤ l.val ∧ l.val < 96 then f ⟨l.val - 64, by omega⟩ + f ⟨l.val - 32, by omega⟩ else 0 := by
  by_cases h : 64 ≤ l.val ∧ l.val < 96
  · rw [dif_pos h]
    have e : ∀ x : Fin 128, f x * place x l.val
        = (if x = ⟨l.val - 64, by omega⟩ then f x else 0) + (if x = ⟨l.val - 32, by omega⟩ then f x else 0) := fun x => by
      unfold place
      simp only [Fin.ext_iff]
      by_cases a : x.val = l.val - 64
      · rw [if_pos (by omega), if_pos a, if_neg (by omega), mul_one, add_zero]
      · by_cases b : x.val = l.val - 32
        · rw [if_pos (by omega), if_neg a, if_pos b, mul_one, zero_add]
        · rw [if_neg (by omega), if_neg a, if_neg b, mul_zero, add_zero]
    simp only [e, Finset.sum_add_distrib, Finset.sum_ite_eq', Finset.mem_univ, if_true]
  · rw [dif_neg h]
    refine Finset.sum_eq_zero fun x _ => ?_
    unfold place
    rw [if_neg (by omega), mul_zero]

/-- The shared columns against the keys' table and the placing table are the shared rotary key behind its zeros. -/
theorem shared_sum (r : Fin 65536) (l : Fin 128) :
    (∑ x : Fin 128, P (ix2 r ⟨640 + x.val, by omega⟩) * ktab co si (pos r) x * place x l.val) = shared P co si r l := by
  rw [place_sum (fun x => P (ix2 r ⟨640 + x.val, by omega⟩) * ktab co si (pos r) x) l]
  unfold shared
  by_cases h : 64 ≤ l.val ∧ l.val < 96
  · rw [dif_pos h, dif_pos h]
    unfold ktab
    dsimp only
    rw [dif_pos (by omega), dif_neg (by omega), dif_pos (by omega)]
    have e1 : (⟨640 + (l.val - 32), by omega⟩ : Fin 2048) = ⟨672 + (l.val - 64), by omega⟩ := Fin.ext (by dsimp only; omega)
    have e2 : (⟨l.val - 32 - 32, by omega⟩ : Fin 32) = ⟨l.val - 64, by omega⟩ := Fin.ext (by dsimp only; omega)
    rw [e1, e2]
  · rw [dif_neg h, dif_neg h]

end Cert.Proof.PrepSpec

end
-- ==== Proof.PrepTables.lean ====
/-
  THE ROTARY TABLES. The call is given tables made from the cosines and the sines. Here: what their blocks hold.
-/
module

public import proofs.«01_k».proof.Defs
public import proofs.«01_k».proof.Proof.PrepSpec
public import proofs.«01_k».proof.Proof.MlaArray
public import proofs.«01_k».proof.Proof.Gen.PrepIdeal.Value
public import Idealize.ShloMosaic.Lib.Pipeline.ValueKit
public import Idealize.ShloMosaic.Lib.Pointwise

@[expose] public section

noncomputable section

namespace Cert.Proof.PrepTables

open Idealize.ShloMosaic Idealize.ShloMosaic.TcCoe Idealize.SL.Sem
open Cert.PrepIdeal Cert.PrepIdeal.Gen

variable (m : (ℓ : Loc nD τ sig) → Buf (Elt Ideal) ℓ)

/-- The table that places the rotary key is one block. -/
theorem idx6 : ∀ t : Fin cfg0.N, win0_6.index t = ![0, 0] := (by decide +kernel : ∀ t : Fin grid0.N, _)
/-- Which block of the cosines' table point `t` stages. -/
theorem idx7 : ∀ t : Fin cfg0.N, win0_7.index t = ![t.val % 4, 0] := (by decide +kernel : ∀ t : Fin grid0.N, _)
/-- Which block of the sines' table point `t` stages. -/
theorem idx8 : ∀ t : Fin cfg0.N, win0_8.index t = ![t.val % 4, 0] := (by decide +kernel : ∀ t : Fin grid0.N, _)
/-- Which block of the keys' table point `t` stages. -/
theorem idx9 : ∀ t : Fin cfg0.N, win0_9.index t = ![t.val % 4, 0] := (by decide +kernel : ∀ t : Fin grid0.N, _)

/-- The cosines' table. -/
theorem V_ct (c : Dev nD) (s : Fin 2048) (l : Fin 128) :
    V m c main_v4 (ix2 s l) = PrepSpec.tab (m ((c : Thread nD τ).loc main_arg6)) PrepSpec.sc s l := by
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  pointwise []
  unfold PrepSpec.tab PrepSpec.sc
  by_cases h : l.val < 64
  · rw [dif_pos h, if_pos h]
    after_results_simp
    pointwise []
  · rw [dif_neg h, if_neg h]
    by_cases h2 : l.val < 96
    · rw [dif_pos (by omega), dif_pos h2]
      after_results_simp
      pointwise []
    · rw [dif_neg (by omega), dif_neg h2]
      after_results_simp
      pointwise []

/-- The sines' table. -/
theorem V_st (c : Dev nD) (s : Fin 2048) (l : Fin 128) :
    V m c main_v8 (ix2 s l) = PrepSpec.tab (m ((c : Thread nD τ).loc main_arg7)) 0 s l := by
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  pointwise []
  unfold PrepSpec.tab PrepSpec.sc
  by_cases h : l.val < 64
  · rw [dif_pos h, if_pos h]
    after_results_simp
    pointwise []
  · rw [dif_neg h, if_neg h]
    by_cases h2 : l.val < 96
    · rw [dif_pos (by omega), dif_pos h2]
      after_results_simp
      pointwise []
    · rw [dif_neg (by omega), dif_neg h2]
      after_results_simp
      pointwise []

/-- The keys' table. -/
theorem V_mr (c : Dev nD) (s : Fin 2048) (l : Fin 128) :
    V m c main_v10 (ix2 s l) = PrepSpec.ktab (m ((c : Thread nD τ).loc main_arg6)) (m ((c : Thread nD τ).loc main_arg7)) s l := by
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  pointwise []
  unfold PrepSpec.ktab
  by_cases h : l.val < 32
  · rw [dif_pos h, dif_pos h]
    try pointwise []
  · rw [dif_neg h, dif_neg h]
    by_cases h2 : l.val < 64
    · rw [dif_pos (by omega), dif_pos h2]
      try pointwise []
    · rw [dif_neg (by omega), dif_neg h2]
      after_results_simp
      pointwise []

/-- The bit that decides where the placing table has its ones. -/
theorem place_bit : ∀ i l : Fin 128, IntOp.ori
        (IntOp.andi (IntOp.cmpi CmpIPredicate.slt (BitVec.ofNat 32 i.val) 32#32)
          (IntOp.cmpi CmpIPredicate.eq (BitVec.ofNat 32 l.val) (IntOp.addi (BitVec.ofNat 32 i.val) 64#32)))
        (IntOp.andi
          (IntOp.andi (IntOp.cmpi CmpIPredicate.sge (BitVec.ofNat 32 i.val) 32#32)
            (IntOp.cmpi CmpIPredicate.slt (BitVec.ofNat 32 i.val) 64#32))
          (IntOp.cmpi CmpIPredicate.eq (BitVec.ofNat 32 l.val)
            (IntOp.subi (IntOp.addi (BitVec.ofNat 32 i.val) 64#32) 32#32)))
    = BitVec.ofBool (decide ((i.val < 32 ∧ l.val = i.val + 64) ∨ (32 ≤ i.val ∧ i.val < 64 ∧ l.val = i.val + 32))) := by
  decide +kernel

/-- The table that places the rotary key. -/
theorem V_er (c : Dev nD) (i : Fin 128) (j : Fin 1024) : V m c main_v33 (ix2 i j) = PrepSpec.place i (j.val % 128) := by
  unfold V
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  pointwise []
  rw [place_bit i ⟨j.val % 128, Nat.mod_lt _ (by omega)⟩, MlaArray.select_ofBool]
  rfl

end Cert.Proof.PrepTables

end
-- ==== Proof.PrepArray.lean ====
/-
  THE THREE RESULT ARRAYS. The kernel walks the 65536 rows in 128 blocks of 512 rows. Here: the three arrays after the run are the
  queries, keys and values of the specification, element by element.
-/
module

public import proofs.«01_k».proof.Defs
public import proofs.«01_k».proof.Proof.PrepSpec
public import proofs.«01_k».proof.Proof.PrepTables
public import proofs.«01_k».proof.Proof.Gen.PrepIdeal.Value
public import Idealize.ShloMosaic.Lib.Pipeline.ValueKit
public import Idealize.ShloMosaic.Lib.Pointwise

@[expose] public section

noncomputable section

namespace Cert.Proof.PrepArray

open Idealize.ShloMosaic Idealize.ShloMosaic.TcCoe Idealize.SL.Sem
open Cert.PrepIdeal Cert.PrepIdeal.Gen
open Idealize.ShloMosaic.Pipeline (Dat)

variable (m : (ℓ : Loc nD τ sig) → Buf (Elt Ideal) ℓ)

/-- Which block of the rows point `t` stages. -/
theorem idx0 : ∀ t : Fin cfg0.N, win0_0.index t = ![t.val, 0] := (by decide +kernel : ∀ t : Fin grid0.N, _)
/-- The query gain is one block. -/
theorem idx1 : ∀ t : Fin cfg0.N, win0_1.index t = ![0, 0] := (by decide +kernel : ∀ t : Fin grid0.N, _)
/-- The key gain is one block. -/
theorem idx2 : ∀ t : Fin cfg0.N, win0_2.index t = ![0, 0] := (by decide +kernel : ∀ t : Fin grid0.N, _)
/-- The query weight is one block. -/
theorem idx3 : ∀ t : Fin cfg0.N, win0_3.index t = ![0, 0] := (by decide +kernel : ∀ t : Fin grid0.N, _)
/-- The key weight is one block. -/
theorem idx4 : ∀ t : Fin cfg0.N, win0_4.index t = ![0, 0] := (by decide +kernel : ∀ t : Fin grid0.N, _)
/-- The value weight is one block. -/
theorem idx5 : ∀ t : Fin cfg0.N, win0_5.index t = ![0, 0] := (by decide +kernel : ∀ t : Fin grid0.N, _)
/-- Which block of the queries point `t` writes. -/
theorem idx10 : ∀ t : Fin cfg0.N, win0_10.index t = ![t.val, 0] := (by decide +kernel : ∀ t : Fin grid0.N, _)
/-- Which block of the keys point `t` writes. -/
theorem idx11 : ∀ t : Fin cfg0.N, win0_11.index t = ![t.val, 0] := (by decide +kernel : ∀ t : Fin grid0.N, _)
/-- Which block of the values point `t` writes. -/
theorem idx12 : ∀ t : Fin cfg0.N, win0_12.index t = ![t.val, 0] := (by decide +kernel : ∀ t : Fin grid0.N, _)

/-- The row of the arrays that is row `i` of block `t`. -/
def row (t : Fin cfg0.N) (i : Fin 512) : Fin 65536 := ⟨t.val * 512 + i.val, by have h : t.val < 128 := t.isLt; omega⟩

/-- The position of a row of a block. -/
theorem pos_row (t : Fin cfg0.N) (i : Fin 512) : t.val % 4 * 512 + i.val = (PrepSpec.pos (row t i)).val := by
  unfold PrepSpec.pos row
  dsimp only
  omega

/-- What a load of a whole two-axis buffer reads. -/
theorem load_whole {κ : Kind} {sp : Space} {R C : Nat} {e : EltTy} {a : Memref sig κ sp (⟨2, ![R, C]⟩ : Shape) e} (h : a.IsWhole)
    (X : (⟨2, ![R, C]⟩ : Shape).Idx → Elt Ideal e) (inb : ∀ q, (![0, 0] : Fin 2 → Nat) q + (![R, C] : Fin 2 → Nat) q ≤ (⟨2, ![R, C]⟩ : Shape).size q) :
    View.readAt (Elt Ideal) a.view (Rect.unit (s := (⟨2, ![R, C]⟩ : Shape)) ![0, 0] ![R, C] inb).toLoadRect (h.unread X) = X := by
  funext y
  refine (h.readAt_unread X _ y).trans (congrArg X (funext fun q => ?_))
  match q with
  | 0 => exact Fin.ext (by simp [LoadRect.idx_apply])
  | 1 => exact Fin.ext (by simp [LoadRect.idx_apply])

/-- The block of the rows. -/
theorem p_block (c : Dev nD) (t : Fin cfg0.N) (i : Fin 512) (e : Fin 768) :
    X0_0 m c t (ix2 i e) = (m ((c : Thread nD τ).loc main_arg0)) (ix2 (row t i) ⟨e.val, by omega⟩) := by
  unfold X0_0 Pipeline.Window.fill
  rw [dif_pos (moved0_0 t _)]
  blk_point [iblk, V_main_arg0, idx0 t]
  unfold row
  rfl
/-- The block of the query gain. -/
theorem gq_block (c : Dev nD) (t : Fin cfg0.N) (k : Fin 384) : iblk m c 1 t (ix2 0 k) = (m ((c : Thread nD τ).loc main_arg1)) (ix2 0 k) := by
  blk_point [iblk, V_main_arg1, idx1 t]
/-- The block of the key gain. -/
theorem gk_block (c : Dev nD) (t : Fin cfg0.N) (k : Fin 256) : iblk m c 2 t (ix2 0 k) = (m ((c : Thread nD τ).loc main_arg2)) (ix2 0 k) := by
  blk_point [iblk, V_main_arg2, idx2 t]
/-- The block of the query weight. -/
theorem wq_block (c : Dev nD) (t : Fin cfg0.N) (k : Fin 384) (l : Fin 2048) : iblk m c 3 t (ix2 k l) = (m ((c : Thread nD τ).loc main_arg3)) (ix2 k l) := by
  blk_point [iblk, V_main_arg3, idx3 t]
/-- The block of the key weight. -/
theorem wk_block (c : Dev nD) (t : Fin cfg0.N) (k : Fin 256) (l : Fin 1024) : iblk m c 4 t (ix2 k l) = (m ((c : Thread nD τ).loc main_arg4)) (ix2 k l) := by
  blk_point [iblk, V_main_arg4, idx4 t]
/-- The block of the value weight. -/
theorem wv_block (c : Dev nD) (t : Fin cfg0.N) (k : Fin 256) (l : Fin 512) : iblk m c 5 t (ix2 k l) = (m ((c : Thread nD τ).loc main_arg5)) (ix2 k l) := by
  blk_point [iblk, V_main_arg5, idx5 t]
/-- The block of the placing table. -/
theorem er_block (c : Dev nD) (t : Fin cfg0.N) (i : Fin 128) (j : Fin 1024) : iblk m c 6 t (ix2 i j) = PrepSpec.place i (j.val % 128) := by
  have e : iblk m c 6 t (ix2 i j) = V m c main_v33 (ix2 i j) := by blk_point [iblk, PrepTables.idx6 t]
  exact e.trans (PrepTables.V_er m c i j)
/-- The block of the cosines' table. -/
theorem ct_block (c : Dev nD) (t : Fin cfg0.N) (i : Fin 512) (l : Fin 128) :
    iblk m c 7 t (ix2 i l) = PrepSpec.tab (m ((c : Thread nD τ).loc main_arg6)) PrepSpec.sc (PrepSpec.pos (row t i)) l := by
  have e : iblk m c 7 t (ix2 i l) = V m c main_v4 (ix2 (PrepSpec.pos (row t i)) l) := by blk_point [iblk, PrepTables.idx7 t]; exact pos_row t i
  exact e.trans (PrepTables.V_ct m c _ l)
/-- The block of the sines' table. -/
theorem st_block (c : Dev nD) (t : Fin cfg0.N) (i : Fin 512) (l : Fin 128) :
    iblk m c 8 t (ix2 i l) = PrepSpec.tab (m ((c : Thread nD τ).loc main_arg7)) 0 (PrepSpec.pos (row t i)) l := by
  have e : iblk m c 8 t (ix2 i l) = V m c main_v8 (ix2 (PrepSpec.pos (row t i)) l) := by blk_point [iblk, PrepTables.idx8 t]; exact pos_row t i
  exact e.trans (PrepTables.V_st m c _ l)
/-- The block of the keys' table. -/
theorem mr_block (c : Dev nD) (t : Fin cfg0.N) (i : Fin 512) (l : Fin 128) :
    iblk m c 9 t (ix2 i l) = PrepSpec.ktab (m ((c : Thread nD τ).loc main_arg6)) (m ((c : Thread nD τ).loc main_arg7)) (PrepSpec.pos (row t i)) l := by
  have e : iblk m c 9 t (ix2 i l) = V m c main_v10 (ix2 (PrepSpec.pos (row t i)) l) := by blk_point [iblk, PrepTables.idx9 t]; exact pos_row t i
  exact e.trans (PrepTables.V_mr m c _ l)

/-- The normed key and value latents of a block. -/
theorem ckv_block (c : Dev nD) (t : Fin cfg0.N) (i : Fin 512) (k : Fin 256) : k0_pay6 (X0_0 m c t) (iblk m c 2 t) (ix2 i k)
    = PrepSpec.ckv (m ((c : Thread nD τ).loc main_arg0)) (m ((c : Thread nD τ).loc main_arg2)) (row t i) k := by
  pointwise [k0_pay6]
  simp only [p_block, gk_block]
  rfl

/-- The products of the normed query latents of a block. -/
theorem ab_block (c : Dev nD) (t : Fin cfg0.N) (i : Fin 512) (l : Fin 2048) : k0_pay7 (X0_0 m c t) (iblk m c 1 t) (iblk m c 3 t) (ix2 i l)
    = PrepSpec.ab (m ((c : Thread nD τ).loc main_arg0)) (m ((c : Thread nD τ).loc main_arg1)) (m ((c : Thread nD τ).loc main_arg3)) (row t i) l := by
  pointwise [k0_pay7]
  simp only [p_block, gq_block, wq_block]
  rfl

/-- The values of a block. -/
theorem v_block (c : Dev nD) (t : Fin cfg0.N) (i : Fin 512) (l : Fin 512) : k0_pay4 (k0_pay6 (X0_0 m c t) (iblk m c 2 t)) (iblk m c 5 t) (ix2 i l)
    = PrepSpec.v (m ((c : Thread nD τ).loc main_arg0)) (m ((c : Thread nD τ).loc main_arg2)) (m ((c : Thread nD τ).loc main_arg5)) (row t i) l := by
  pointwise [k0_pay4]
  simp only [ckv_block, wv_block]
  rfl

/-- The keys of a block. -/
theorem k_block (c : Dev nD) (t : Fin cfg0.N) (i : Fin 512) (l : Fin 1024) :
    k0_pay3 (k0_pay5 (X0_0 m c t)) (k0_pay6 (X0_0 m c t) (iblk m c 2 t)) (iblk m c 9 t) (iblk m c 6 t) (iblk m c 4 t) (ix2 i l)
    = PrepSpec.k (m ((c : Thread nD τ).loc main_arg0)) (m ((c : Thread nD τ).loc main_arg2)) (m ((c : Thread nD τ).loc main_arg4)) (m ((c : Thread nD τ).loc main_arg6)) (m ((c : Thread nD τ).loc main_arg7)) (row t i) l := by
  pointwise [k0_pay3, k0_pay5]
  simp only [ckv_block, wk_block, mr_block, er_block, p_block]
  unfold PrepSpec.k
  exact congrArg _ (PrepSpec.shared_sum _ _ _ (row t i) ⟨l.val % 128, Nat.mod_lt _ (by omega)⟩)

/-- A block's products against its tables are the queries. -/
theorem q_block (c : Dev nD) (t : Fin cfg0.N) (i : Fin 512) (l : Fin 128) (o : Nat) (ho : o % 128 = 0) (p p' : Fin 2048) (r : Fin 65536) (n : Fin 1024)
    (hr : r.val = t.val * 512 + i.val) (hn : n.val = o + l.val) (hp : p.val = o + l.val) (hp' : p'.val = 1024 + o + l.val) :
    k0_pay7 (X0_0 m c t) (iblk m c 1 t) (iblk m c 3 t) (ix2 i p) * iblk m c 7 t (ix2 i l)
      + k0_pay7 (X0_0 m c t) (iblk m c 1 t) (iblk m c 3 t) (ix2 i p') * iblk m c 8 t (ix2 i l)
    = PrepSpec.q (m ((c : Thread nD τ).loc main_arg0)) (m ((c : Thread nD τ).loc main_arg1)) (m ((c : Thread nD τ).loc main_arg3)) (m ((c : Thread nD τ).loc main_arg6)) (m ((c : Thread nD τ).loc main_arg7)) r n := by
  obtain rfl : r = row t i := Fin.ext hr
  have e : p = ⟨n.val, Nat.lt_trans n.isLt (by decide)⟩ := Fin.ext (hp.trans hn.symm)
  have e' : p' = ⟨1024 + n.val, Nat.add_lt_add_left n.isLt 1024⟩ := Fin.ext (by dsimp only; omega)
  rw [e, e', ab_block, ab_block, ct_block, st_block]
  exact PrepSpec.q_tab _ _ _ _ _ (row t i) n l (by omega)

/-- The row an entry of a block of the values has in the array. -/
theorem row12 (t : Fin cfg0.N) (y : (win0_12.xblock (grid0.coords t)).Idx) : ((win0_12.blk t).view.emb y 0).val = t.val * 512 + (y 0).val := by
  blk_simp [idx12 t]
  try omega
/-- The column an entry of a block of the values has in the array. -/
theorem col12 (t : Fin cfg0.N) (y : (win0_12.xblock (grid0.coords t)).Idx) : ((win0_12.blk t).view.emb y 1).val = (y 1).val := by
  blk_simp [idx12 t]
  try omega

/-- The values array after the run. -/
theorem final12 (c : Dev nD) : (dats (F := Ideal) m 0 c).arrAt 12 cfg0.N = fun j : S65536x512.Idx =>
    PrepSpec.v (m ((c : Thread nD τ).loc main_arg0)) (m ((c : Thread nD τ).loc main_arg2)) (m ((c : Thread nD τ).loc main_arg5)) (j 0) (j 1) := by
  refine (dats (F := Ideal) m 0 c).arrAt_eq_of_covers 12 _ (by decide +kernel) fun t hf y => ?_
  have e0 := row12 t y
  have e1 := col12 t y
  blk_simp
  rw [after0_12]
  unfold outsAt0
  dsimp only
  unfold out0_A_12
  rw [View.read_writes_junk_eq_canon]
  unfold kernelRun0_A
  canon_tiles x h using cover0_A_12 ..
  simp only [kernelRun0_A.sl.r, kernelRun0_A.sl.r_1, load_whole]
  obtain ⟨i, l, rfl⟩ := MlaReads.ix_pair x
  refine (v_block m c t i l).trans ?_
  refine congrArg₂ (PrepSpec.v (m ((c : Thread nD τ).loc main_arg0)) (m ((c : Thread nD τ).loc main_arg2)) (m ((c : Thread nD τ).loc main_arg5))) (Fin.ext ?_) (Fin.ext ?_)
  · exact (e0.trans (congrArg _ h0)).symm
  · exact (e1.trans h1).symm

/-- The row an entry of a block of the keys has in the array. -/
theorem row11 (t : Fin cfg0.N) (y : (win0_11.xblock (grid0.coords t)).Idx) : ((win0_11.blk t).view.emb y 0).val = t.val * 512 + (y 0).val := by
  blk_simp [idx11 t]
  try omega
/-- The column an entry of a block of the keys has in the array. -/
theorem col11 (t : Fin cfg0.N) (y : (win0_11.xblock (grid0.coords t)).Idx) : ((win0_11.blk t).view.emb y 1).val = (y 1).val := by
  blk_simp [idx11 t]
  try omega

/-- The keys array after the run. -/
theorem final11 (c : Dev nD) : (dats (F := Ideal) m 0 c).arrAt 11 cfg0.N = fun j : S65536x1024.Idx =>
    PrepSpec.k (m ((c : Thread nD τ).loc main_arg0)) (m ((c : Thread nD τ).loc main_arg2)) (m ((c : Thread nD τ).loc main_arg4)) (m ((c : Thread nD τ).loc main_arg6)) (m ((c : Thread nD τ).loc main_arg7)) (j 0) (j 1) := by
  refine (dats (F := Ideal) m 0 c).arrAt_eq_of_covers 11 _ (by decide +kernel) fun t hf y => ?_
  have e0 := row11 t y
  have e1 := col11 t y
  blk_simp
  rw [after0_11]
  unfold outsAt0
  dsimp only
  unfold out0_A_11
  rw [View.read_writes_junk_eq_canon]
  unfold kernelRun0_A
  canon_tiles x h using cover0_A_11 ..
  simp only [kernelRun0_A.sl.r, kernelRun0_A.sl.r_1, load_whole]
  obtain ⟨i, l, rfl⟩ := MlaReads.ix_pair x
  refine (k_block m c t i l).trans ?_
  refine congrArg₂ (PrepSpec.k (m ((c : Thread nD τ).loc main_arg0)) (m ((c : Thread nD τ).loc main_arg2)) (m ((c : Thread nD τ).loc main_arg4)) (m ((c : Thread nD τ).loc main_arg6)) (m ((c : Thread nD τ).loc main_arg7))) (Fin.ext ?_) (Fin.ext ?_)
  · exact (e0.trans (congrArg _ h0)).symm
  · exact (e1.trans h1).symm

/-- The row an entry of a block of the queries has in the array. -/
theorem row10 (t : Fin cfg0.N) (y : (win0_10.xblock (grid0.coords t)).Idx) : ((win0_10.blk t).view.emb y 0).val = t.val * 512 + (y 0).val := by
  blk_simp [idx10 t]
  try omega
/-- The column an entry of a block of the queries has in the array. -/
theorem col10 (t : Fin cfg0.N) (y : (win0_10.xblock (grid0.coords t)).Idx) : ((win0_10.blk t).view.emb y 1).val = (y 1).val := by
  blk_simp [idx10 t]
  try omega

set_option maxHeartbeats 1000000 in
/-- The queries array after the run. -/
theorem final10 (c : Dev nD) : (dats (F := Ideal) m 0 c).arrAt 10 cfg0.N = fun j : S65536x1024.Idx =>
    PrepSpec.q (m ((c : Thread nD τ).loc main_arg0)) (m ((c : Thread nD τ).loc main_arg1)) (m ((c : Thread nD τ).loc main_arg3)) (m ((c : Thread nD τ).loc main_arg6)) (m ((c : Thread nD τ).loc main_arg7)) (j 0) (j 1) := by
  refine (dats (F := Ideal) m 0 c).arrAt_eq_of_covers 10 _ (by decide +kernel) fun t hf y => ?_
  have e0 := row10 t y
  have e1 := col10 t y
  blk_simp
  rw [after0_10]
  unfold outsAt0
  dsimp only
  unfold out0_A_10
  rw [View.read_writes_junk_eq_canon]
  unfold kernelRun0_A
  canon_tiles x h using cover0_A_10 ..
  all_goals
    simp only [kernelRun0_A.sl.r_2, kernelRun0_A.sl.r_3, kernelRun0_A.sl.r_4, kernelRun0_A.sl.r_5, kernelRun0_A.sl.r_6, load_whole]
    obtain ⟨i, l, rfl⟩ := MlaReads.ix_pair x
    pointwise [k0_pay1, k0_pay2, k0_pay15, k0_pay14, k0_pay13, k0_pay12, k0_pay11, k0_pay10, k0_pay9, k0_pay8]
    first
      | exact q_block m c t i l _ (by rfl) _ _ _ _ (e0.trans (congrArg _ h0)) (e1.trans h1) (by rfl) (by rfl)
      | exact q_block m c t i l 0 rfl _ _ _ _ (e0.trans (congrArg _ h0)) ((e1.trans h1).trans (Nat.zero_add _).symm) (Nat.zero_add _).symm rfl

end Cert.Proof.PrepArray

end
-- ==== Proof.PrepRef.lean ====
/-
  THE REFERENCE. Here: the reference's three results are the queries, keys and values of the specification, element by element.
-/
module

public import proofs.«01_k».proof.Defs
public import proofs.«01_k».proof.Proof.PrepSpec
public import proofs.«01_k».proof.Proof.Gen.PrepRefIdeal.Run
public import proofs.«01_k».proof.Proof.Gen.PrepRefIdeal.Read
public import Idealize.ShloMosaic.Lib.Pointwise

@[expose] public section

noncomputable section

namespace Cert.Proof.PrepRef

open Idealize.ShloMosaic Idealize.ShloMosaic.TcCoe Idealize.SL.Sem
open Cert.PrepRefIdeal

variable (x0 : FVec Ideal S65536x2048 .bf16) (x1 : FVec Ideal S1x384 .f32) (x2 : FVec Ideal S1x256 .f32) (x3 : FVec Ideal S384x2048 .bf16)
  (x4 : FVec Ideal S256x1024 .bf16) (x5 : FVec Ideal S256x512 .bf16) (x6 x7 : FVec Ideal S2048x32 .f32)

/-- The normed query latents. -/
theorem ref_cq (r : Fin 65536) (k : Fin 384) : Read.val_main_v18 (F := Ideal) x0 x1 (ix2 r k) = PrepSpec.cq x0 x1 r k := by
  pointwise [Read.val_main_v18, Read.val_main_v17, Read.val_main_v16, Read.val_main_v15, Read.val_main_v14, Read.val_main_v13, Read.val_main_v12,
    Read.val_main_v11, Read.val_main_v10, Read.val_main_v9, Read.val_main_v8, Read.val_main_v7, Read.val_main_v6, Read.val_main_v5, Read.val_main_v4,
    Read.val_main_v0, Read.val_main_cst, Read.val_main_cst_0, Read.val_main_cst_1, PrepSpec.cq, PrepSpec.rms]

/-- The normed key and value latents. -/
theorem ref_ckv (r : Fin 65536) (k : Fin 256) : Read.val_main_v33 (F := Ideal) x0 x2 (ix2 r k) = PrepSpec.ckv x0 x2 r k := by
  pointwise [Read.val_main_v33, Read.val_main_v32, Read.val_main_v31, Read.val_main_v30, Read.val_main_v29, Read.val_main_v28, Read.val_main_v27,
    Read.val_main_v26, Read.val_main_v25, Read.val_main_v24, Read.val_main_v23, Read.val_main_v22, Read.val_main_v21, Read.val_main_v20, Read.val_main_v19,
    Read.val_main_v0, Read.val_main_cst_2, Read.val_main_cst_3, Read.val_main_cst_4, PrepSpec.ckv, PrepSpec.rms]

/-- The query latents' product with the weight's first half. -/
theorem ref_a (r : Fin 65536) (c : Fin 1024) : Read.val_main_v36 (F := Ideal) x0 x1 x3 (ix2 r c) = PrepSpec.ab x0 x1 x3 r ⟨c.val, by omega⟩ := by
  pointwise [Read.val_main_v36, Read.val_main_v34, Read.val_main_v1]
  simp only [ref_cq x0 x1]
  rfl

/-- The query latents' product with the weight's second half. -/
theorem ref_b (r : Fin 65536) (c : Fin 1024) : Read.val_main_v38 (F := Ideal) x0 x1 x3 (ix2 r c) = PrepSpec.ab x0 x1 x3 r ⟨1024 + c.val, by omega⟩ := by
  pointwise [Read.val_main_v38, Read.val_main_v35, Read.val_main_v1]
  simp only [ref_cq x0 x1]
  rfl

/-- The values. -/
theorem ref_v (r : Fin 65536) (c : Fin 512) : Read.val_main_v78 (F := Ideal) x0 x2 x5 (ix2 r c) = PrepSpec.v x0 x2 x5 r c := by
  pointwise [Read.val_main_v78, Read.val_main_v77, Read.val_main_v3]
  simp only [ref_ckv x0 x2]
  rfl

/-- The reference's padding is zero. -/
theorem pad_zero : (FloatOps.sitofp (F := Ideal) FTy.f32 (0#32) : EReal) = 0 := by
  simp [FloatOps.sitofp]

/-- A row of the sequences by its batch and its position. -/
def at4 (b : Fin 32) (s : Fin 2048) : Fin 65536 := ⟨b.val * 2048 + s.val, by omega⟩

/-- A lane of the heads. -/
def lane (h : Fin 8) (l : Fin 128) : Fin 1024 := ⟨h.val * 128 + l.val, by omega⟩

/-- The first product by heads. -/
theorem ref_a4 (b : Fin 32) (s : Fin 2048) (h : Fin 8) (l : Fin 128) :
    Read.val_main_v37 (F := Ideal) x0 x1 x3 (ix4 b s h l) = PrepSpec.ab x0 x1 x3 (at4 b s) ⟨(lane h l).val, by omega⟩ := by
  have e : Read.val_main_v37 (F := Ideal) x0 x1 x3 (ix4 b s h l) = Read.val_main_v36 (F := Ideal) x0 x1 x3 (ix2 (at4 b s) (lane h l)) := by
    rw [Read.val_main_v37_apply]
    refine congrArg _ (funext fun a => ?_)
    match a with
    | 0 => exact Fin.ext (show (((b.val * 2048 + s.val) * 8 + h.val) * 128 + l.val) / 1024 = b.val * 2048 + s.val by omega)
    | 1 => exact Fin.ext (show (((b.val * 2048 + s.val) * 8 + h.val) * 128 + l.val) % 1024 = h.val * 128 + l.val by omega)
  exact e.trans (ref_a x0 x1 x3 _ _)

/-- The second product by heads. -/
theorem ref_b4 (b : Fin 32) (s : Fin 2048) (h : Fin 8) (l : Fin 128) :
    Read.val_main_v39 (F := Ideal) x0 x1 x3 (ix4 b s h l) = PrepSpec.ab x0 x1 x3 (at4 b s) ⟨1024 + (lane h l).val, by omega⟩ := by
  have e : Read.val_main_v39 (F := Ideal) x0 x1 x3 (ix4 b s h l) = Read.val_main_v38 (F := Ideal) x0 x1 x3 (ix2 (at4 b s) (lane h l)) := by
    rw [Read.val_main_v39_apply]
    refine congrArg _ (funext fun a => ?_)
    match a with
    | 0 => exact Fin.ext (show (((b.val * 2048 + s.val) * 8 + h.val) * 128 + l.val) / 1024 = b.val * 2048 + s.val by omega)
    | 1 => exact Fin.ext (show (((b.val * 2048 + s.val) * 8 + h.val) * 128 + l.val) % 1024 = h.val * 128 + l.val by omega)
  exact e.trans (ref_b x0 x1 x3 _ _)

/-- The rotated lanes of the queries. -/
theorem ref_rot (b : Fin 32) (s : Fin 2048) (h : Fin 8) (l : Fin 32) :
    Read.val_main_v50 (F := Ideal) x0 x1 x3 x6 x7 (ix4 b s h l)
      = PrepSpec.ab x0 x1 x3 (at4 b s) ⟨(lane h ⟨64 + l.val, by omega⟩).val, by omega⟩ * x6 (ix2 s l)
        + PrepSpec.ab x0 x1 x3 (at4 b s) ⟨1024 + (lane h ⟨64 + l.val, by omega⟩).val, by omega⟩ * x7 (ix2 s l) := by
  rw [← ref_a4 x0 x1 x3, ← ref_b4 x0 x1 x3]
  pointwise [Read.val_main_v50, Read.val_main_v49, Read.val_main_v48, Read.val_main_v47, Read.val_main_v46, Read.val_main_v45, Read.val_main_v44, Read.val_main_v43,
    Read.val_main_v42, Read.val_main_v41, Read.val_main_v40]

/-- The queries by heads. -/
theorem ref_q4 (b : Fin 32) (s : Fin 2048) (h : Fin 8) (l : Fin 128) :
    Read.val_main_v55 (F := Ideal) x0 x1 x3 x6 x7 (ix4 b s h l) = PrepSpec.q x0 x1 x3 x6 x7 (at4 b s) (lane h l) := by
  have hl : (lane h l).val % 128 = l.val := by unfold lane; dsimp only; omega
  have hs : PrepSpec.pos (at4 b s) = s := Fin.ext (by unfold PrepSpec.pos at4; dsimp only; omega)
  have hb := b.isLt
  have hp := s.isLt
  have hh := h.isLt
  unfold PrepSpec.q
  simp only [hl, hs]
  pointwise [Read.val_main_v55]
  by_cases h2 : l.val < 96
  · rw [dif_pos h2]
    pointwise [Read.val_main_v54, Read.val_main_v53, Read.val_main_cst_5, Read.val_main_v52]
    by_cases h1 : l.val < 64
    · rw [dif_pos h1, if_pos h1, ← ref_a4 x0 x1 x3]
      pointwise [Read.val_main_v51, PrepSpec.sc]
    · rw [dif_neg h1, if_neg h1, dif_pos h2, ref_rot x0 x1 x3 x6 x7]
      have el : (⟨64 + (l.val - 64), by omega⟩ : Fin 128) = l := Fin.ext (by dsimp only; omega)
      simp only [el]
      rfl
  · rw [dif_neg h2, if_neg (by omega), dif_neg h2]
    pointwise [Read.val_main_call0_v0, Read.val_main_c]
    exact pad_zero

/-- The queries. -/
theorem ref_q (r : Fin 65536) (c : Fin 1024) : Read.val_main_v74 (F := Ideal) x0 x1 x3 x6 x7 (ix2 r c) = PrepSpec.q x0 x1 x3 x6 x7 r c := by
  have e : Read.val_main_v74 (F := Ideal) x0 x1 x3 x6 x7 (ix2 r c) = Read.val_main_v55 (F := Ideal) x0 x1 x3 x6 x7
      (ix4 ⟨r.val / 2048, by omega⟩ ⟨r.val % 2048, by omega⟩ ⟨c.val / 128, by omega⟩ ⟨c.val % 128, by omega⟩) := by
    pointwise [Read.val_main_v74, Read.val_main_v73]
  refine e.trans ((ref_q4 x0 x1 x3 x6 x7 _ _ _ _).trans ?_)
  refine congrArg₂ (PrepSpec.q x0 x1 x3 x6 x7) (Fin.ext ?_) (Fin.ext ?_)
  · unfold at4; dsimp only; omega
  · unfold lane; dsimp only; omega

/-- The shared rotary key. -/
theorem ref_shared (b : Fin 32) (s : Fin 2048) (l : Fin 32) :
    Read.val_main_v66 (F := Ideal) x0 x6 x7 (ix3 b s l)
      = x0 (ix2 (at4 b s) ⟨640 + l.val, by omega⟩) * x6 (ix2 s l) + x0 (ix2 (at4 b s) ⟨672 + l.val, by omega⟩) * x7 (ix2 s l) := by
  pointwise [Read.val_main_v66, Read.val_main_v65, Read.val_main_v64, Read.val_main_v63, Read.val_main_v62, Read.val_main_v61, Read.val_main_v60, Read.val_main_v59,
      Read.val_main_v58, Read.val_main_v57, Read.val_main_v56, Read.val_main_v0]
  have e : (⟨640 + (32 + l.val), by omega⟩ : Fin 2048) = ⟨672 + l.val, by omega⟩ := Fin.ext (by dsimp only; omega)
  rw [e]
  rfl

/-- The shared rotary key behind its zeros. -/
theorem ref_pad (b : Fin 32) (s : Fin 2048) (l : Fin 128) :
    Read.val_main_v69 (F := Ideal) x0 x6 x7 (ix3 b s l) = PrepSpec.shared x0 x6 x7 (at4 b s) l := by
  pointwise [Read.val_main_v69]
  unfold PrepSpec.shared
  have hs : PrepSpec.pos (at4 b s) = s := Fin.ext (by unfold PrepSpec.pos at4; dsimp only; omega)
  rw [hs]
  by_cases h : 64 ≤ l.val ∧ l.val < 96
  · have h' : 64 ≤ l.val ∧ l.val - 64 < 32 := ⟨h.1, by omega⟩
    rw [dif_pos h', dif_pos h]
    exact ref_shared x0 x6 x7 b s ⟨l.val - 64, h'.2⟩
  · have h' : ¬ (64 ≤ l.val ∧ l.val - 64 < 32) := fun g => h ⟨g.1, by omega⟩
    rw [dif_neg h', dif_neg h]
    pointwise [Read.val_main_call1_v0, Read.val_main_c_6]
    exact pad_zero

/-- The keys. -/
theorem ref_k (r : Fin 65536) (c : Fin 1024) : Read.val_main_v76 (F := Ideal) x0 x2 x4 x6 x7 (ix2 r c) = PrepSpec.k x0 x2 x4 x6 x7 r c := by
  pointwise [Read.val_main_v76, Read.val_main_v75, Read.val_main_v72, Read.val_main_v71, Read.val_main_v70, Read.val_main_v68, Read.val_main_v67, Read.val_main_v2]
  have hr : at4 ⟨r.val / 2048, by omega⟩ ⟨r.val % 2048, by omega⟩ = r := Fin.ext (by unfold at4; dsimp only; omega)
  simp only [ref_ckv x0 x2]
  rw [ref_pad x0 x6 x7, hr]
  rfl

end Cert.Proof.PrepRef

end
-- ==== Proof.PrepValue.lean ====
/-
  THE CLAIMS. Here: the reference's frame, and that the kernel's queries, keys and values are the reference's.
-/
module

public import proofs.«01_k».proof.Defs
public import proofs.«01_k».proof.Proof.PrepArray
public import proofs.«01_k».proof.Proof.PrepRef
public import proofs.«01_k».proof.Proof.Gen.PrepIdeal.Value
public import proofs.«01_k».proof.Proof.Gen.PrepRefIdeal.Run
public import proofs.«01_k».proof.Proof.Gen.PrepRefIdeal.Read
public import Idealize.ShloMosaic.Lib.Quiescent

@[expose] public section

noncomputable section

namespace Cert.Proof.PrepValue

open Idealize.ShloMosaic Idealize.ShloMosaic.TcCoe Idealize.SL.Sem
open Cert.PrepIdeal Cert.PrepIdeal.Gen

/-- The reference terminates, keeps its arguments and leaves every counter at zero. -/
theorem frame_ref : Cert.quiescent_PrepRefIdeal := fun m ρ _ =>
  (θ_run Cert.PrepRefIdeal.defs _ _).mono (fun r h => ⟨fun c => (h c).2.2.2,
      Idealize.ShloMosaic.sem_eq_zero_of_no_sems (by decide) r.2⟩)
    (Cert.PrepRefIdeal.Value.run (F := Ideal) m ρ)

/-- Two arrays of two axes agree when they agree at every pair of coordinates. -/
theorem ext2 {a b : Nat} {X Y : (⟨2, ![a, b]⟩ : Shape).Idx → EReal} (h : ∀ (r : Fin a) (c : Fin b), X (ix2 r c) = Y (ix2 r c)) : X = Y :=
  funext fun j => by
    obtain ⟨r, c, rfl⟩ := MlaReads.ix_pair j
    exact h r c

/-- The kernel's queries, keys and values are the reference's, for all arguments. -/
theorem algebraic : Cert.algebraic_PrepIdeal_PrepRefIdeal := by
  intro m ρ m' ρ' _ hagree
  refine ⟨fun c => (dats (F := Ideal) m 0 c).arrAt 10 cfg0.N, fun c => (dats (F := Ideal) m 0 c).arrAt 11 cfg0.N, fun c => (dats (F := Ideal) m 0 c).arrAt 12 cfg0.N,
    Cert.PrepIdeal.Value.run_blocks (F := Ideal) m ρ, ?_⟩
  refine (θ_run Cert.PrepRefIdeal.defs _ _).mono (fun _ h c => ?_) (Cert.PrepRefIdeal.Value.run (F := Ideal) m' ρ')
  obtain ⟨e0, e1, e2, e3, e4, e5, e6, e7⟩ := hagree c
  refine ⟨(h c).1.trans ?_, (h c).2.1.trans ?_, (h c).2.2.1.trans ?_, (h c).2.2.2⟩
  · rw [PrepRefIdeal.Read.val_main_v74_eq, e0, e1, e3, e6, e7]
    exact (ext2 fun r l => PrepRef.ref_q _ _ _ _ _ r l).trans (PrepArray.final10 m c).symm
  · rw [PrepRefIdeal.Read.val_main_v76_eq, e0, e2, e4, e6, e7]
    exact (ext2 fun r l => PrepRef.ref_k _ _ _ _ _ r l).trans (PrepArray.final11 m c).symm
  · rw [PrepRefIdeal.Read.val_main_v78_eq, e0, e2, e5]
    exact (ext2 fun r l => PrepRef.ref_v _ _ _ r l).trans (PrepArray.final12 m c).symm

end Cert.Proof.PrepValue

end
-- ==== Proof.lean ====
module

public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.Odd
public import proofs.«01_k».proof.Proof.Gen.Odd.Skeleton
public import proofs.«01_k».proof.Proof.Gen.Odd.Launch
public import proofs.«01_k».proof.Proof.Gen.Odd.Points
public import proofs.«01_k».proof.Proof.Gen.Odd.Frame
public import proofs.«01_k».proof.Proof.Gen.OddIdeal
public import proofs.«01_k».proof.Proof.Gen.OddIdeal.Skeleton
public import proofs.«01_k».proof.Proof.Gen.OddIdeal.Launch
public import proofs.«01_k».proof.Proof.Gen.OddIdeal.Points
public import proofs.«01_k».proof.Proof.Gen.OddIdeal.Frame
public import proofs.«01_k».proof.Proof.Gen.OddRefIdeal
public import proofs.«01_k».proof.Proof.Gen.TailOdd
public import proofs.«01_k».proof.Proof.Gen.TailOdd.Skeleton
public import proofs.«01_k».proof.Proof.Gen.TailOdd.Launch
public import proofs.«01_k».proof.Proof.Gen.TailOdd.Points
public import proofs.«01_k».proof.Proof.Gen.TailOdd.Frame
public import proofs.«01_k».proof.Proof.Gen.TailOddIdeal
public import proofs.«01_k».proof.Proof.Gen.TailOddIdeal.Skeleton
public import proofs.«01_k».proof.Proof.Gen.TailOddIdeal.Launch
public import proofs.«01_k».proof.Proof.Gen.TailOddIdeal.Points
public import proofs.«01_k».proof.Proof.Gen.TailOddIdeal.Frame
public import proofs.«01_k».proof.Proof.Gen.TailOddRefIdeal
public import proofs.«01_k».proof.Proof.Gen.MlaIdeal.Value
public import proofs.«01_k».proof.Proof.Gen.ModIdeal.Value
public import proofs.«01_k».proof.Proof.Gen.TailIdeal.Value
public import proofs.«01_k».proof.Proof.Gen.MlaRefIdeal.Run
public import proofs.«01_k».proof.Proof.Gen.MlaRefIdeal.Read
public import proofs.«01_k».proof.Proof.Gen.ModRefIdeal.Run
public import proofs.«01_k».proof.Proof.Gen.ModRefIdeal.Read
public import proofs.«01_k».proof.Proof.Gen.TailRefIdeal.Run
public import proofs.«01_k».proof.Proof.Gen.TailRefIdeal.Read
public import proofs.«01_k».proof.Proof.ModValue
public import proofs.«01_k».proof.Proof.MlaValue
public import proofs.«01_k».proof.Proof.Gen.OddIdeal.Value
public import proofs.«01_k».proof.Proof.Gen.OddRefIdeal.Run
public import proofs.«01_k».proof.Proof.Gen.OddRefIdeal.Read
public import proofs.«01_k».proof.Proof.Gen.TailOddIdeal.Value
public import proofs.«01_k».proof.Proof.Gen.TailOddRefIdeal.Run
public import proofs.«01_k».proof.Proof.Gen.TailOddRefIdeal.Read
public import proofs.«01_k».proof.Proof.TailValue
public import proofs.«01_k».proof.Proof.TailOddValue
public import proofs.«01_k».proof.Proof.OddValue
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepIdeal.Value
public import proofs.«01_k».proof.Proof.Gen.PrepRefIdeal.Run
public import proofs.«01_k».proof.Proof.Gen.PrepRefIdeal.Read
public import proofs.«01_k».proof.Proof.PrepValue
public import Idealize.ShloMosaic.Adequacy
public import Idealize.ShloMosaic.Init

@[expose] public section

noncomputable section

namespace Cert.Proof

open Idealize.ShloMosaic Idealize.SL.Sem

/-- The tail's reference ends without fault and keeps its arguments. -/
theorem frame_tail_ref [Cert.TailRefIdeal.Facts] : Cert.quiescent_TailRefIdeal :=
  fun m ρ _ => (θ_run Cert.TailRefIdeal.defs _ _).mono
    (fun r h => ⟨fun c => (h c).2, Idealize.ShloMosaic.sem_eq_zero_of_no_sems (by decide) r.2⟩)
    (Cert.TailRefIdeal.Value.run (F := Ideal) m ρ)

/-- Every claim of the certificate. -/
theorem claim : Cert.Claim :=
  ⟨Cert.Mla.Gen.facts, Cert.MlaIdeal.Gen.facts, Cert.MlaRefIdeal.Gen.facts,
   Cert.Mod.Gen.facts, Cert.ModIdeal.Gen.facts, Cert.ModRefIdeal.Gen.facts,
   Cert.Tail.Gen.facts, Cert.TailIdeal.Gen.facts, Cert.TailRefIdeal.Gen.facts,
   Cert.Odd.Gen.facts, Cert.OddIdeal.Gen.facts, Cert.OddRefIdeal.Gen.facts,
   Cert.TailOdd.Gen.facts, Cert.TailOddIdeal.Gen.facts, Cert.TailOddRefIdeal.Gen.facts,
   Cert.Prep.Gen.facts, Cert.PrepIdeal.Gen.facts, Cert.PrepRefIdeal.Gen.facts,
   MlaValue.facts_pre,
   fun m ρ _ => Cert.Mla.Gen.frame m ρ,
   fun m ρ _ => Cert.MlaIdeal.Gen.frame m ρ,
   fun m ρ _ => Cert.MlaIdeal.Gen.frame m ρ,
   MlaValue.frame_ref,
   fun m ρ _ => MlaValue.frame_ref m ρ trivial,
   fun m ρ _ => Cert.Mod.Gen.frame m ρ,
   fun m ρ _ => Cert.ModIdeal.Gen.frame m ρ,
   ModValue.frame_ref,
   fun m ρ _ => Cert.Tail.Gen.frame m ρ,
   fun m ρ _ => Cert.TailIdeal.Gen.frame m ρ,
   frame_tail_ref,
   fun m ρ _ => Cert.Odd.Gen.frame m ρ,
   fun m ρ _ => Cert.OddIdeal.Gen.frame m ρ,
   OddValue.frame_ref,
   fun m ρ _ => Cert.TailOdd.Gen.frame m ρ,
   fun m ρ _ => Cert.TailOddIdeal.Gen.frame m ρ,
   TailOddValue.frame_ref,
   fun m ρ _ => Cert.Prep.Gen.frame m ρ,
   fun m ρ _ => Cert.PrepIdeal.Gen.frame m ρ,
   PrepValue.frame_ref,
   IdealRules.named_const.statement Cert.MlaIdeal.κ "mask" .f32 0xF149F2CA#32 ⊥ rfl,
   MlaValue.algebraic,
   trivial,
   ModValue.algebraic,
   trivial,
   TailValue.algebraic,
   trivial,
   OddValue.algebraic,
   trivial,
   TailOddValue.algebraic,
   trivial,
   PrepValue.algebraic⟩

end Cert.Proof

end
